-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Kernel2Ideal_finite_in_range [hPre_finite_in_range : Cert.Pre_finite_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_in_range [hPre_finite_in_range : Cert.Pre_finite_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_masked [hPre_finite_masked : Cert.Pre_finite_masked.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_masked.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_masked [hPre_finite_masked : Cert.Pre_finite_masked.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_masked.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_in_range [hKernel2Ideal : Cert.Kernel2Ideal.Facts] [hPre_finite_in_range : Cert.Pre_finite_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_in_range [hReference2Ideal : Cert.Reference2Ideal.Facts] [hPre_finite_in_range : Cert.Pre_finite_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_masked [hKernel3Ideal : Cert.Kernel3Ideal.Facts] [hPre_finite_masked : Cert.Pre_finite_masked.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_masked m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_masked [hReference3Ideal : Cert.Reference3Ideal.Facts] [hPre_finite_masked : Cert.Pre_finite_masked.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_masked m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v13) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v138) = v4 c
          ∧ r.2.mem ((c.tc : Thread Cert.ReferenceIdeal.nD Cert.ReferenceIdeal.τ).loc Cert.ReferenceIdeal.main_v140) = v5 c
          ∧ r.2.mem ((c.tc : Thread Cert.ReferenceIdeal.nD Cert.ReferenceIdeal.τ).loc Cert.ReferenceIdeal.main_v142) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite_in_range [hKernel2Ideal : Cert.Kernel2Ideal.Facts] [hReference2Ideal : Cert.Reference2Ideal.Facts] [hPre_finite_in_range : Cert.Pre_finite_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_masked [hKernel3Ideal : Cert.Kernel3Ideal.Facts] [hReference3Ideal : Cert.Reference3Ideal.Facts] [hPre_finite_masked : Cert.Pre_finite_masked.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_masked m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_in_range : Cert.Pre_in_range.Facts) (hPre_finite_in_range : Cert.Pre_finite_in_range.Facts) (hPre_finite_masked : Cert.Pre_finite_masked.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Kernel2Ideal_pre_finite_in_range (hKernel2Ideal := hKernel2Ideal) (hPre_finite_in_range := hPre_finite_in_range)
    ∧ quiescent_Reference2Ideal (hReference2Ideal := hReference2Ideal)
    ∧ quiescent_Reference2Ideal_pre_finite_in_range (hReference2Ideal := hReference2Ideal) (hPre_finite_in_range := hPre_finite_in_range)
    ∧ quiescent_Kernel3 (hKernel3 := hKernel3)
    ∧ quiescent_Kernel3Ideal (hKernel3Ideal := hKernel3Ideal)
    ∧ quiescent_Kernel3Ideal_pre_finite_masked (hKernel3Ideal := hKernel3Ideal) (hPre_finite_masked := hPre_finite_masked)
    ∧ quiescent_Reference3Ideal (hReference3Ideal := hReference3Ideal)
    ∧ quiescent_Reference3Ideal_pre_finite_masked (hReference3Ideal := hReference3Ideal) (hPre_finite_masked := hPre_finite_masked)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_in_range (hKernel2Ideal := hKernel2Ideal) (hReference2Ideal := hReference2Ideal) (hPre_finite_in_range := hPre_finite_in_range)
    ∧ preserves_Kernel3_Kernel3Ideal
    ∧ algebraic_Kernel3Ideal_Reference3Ideal_pre_finite_masked (hKernel3Ideal := hKernel3Ideal) (hReference3Ideal := hReference3Ideal) (hPre_finite_masked := hPre_finite_masked)
-- ==== Pre_finite.lean ====
abbrev S1x224x224x192 : Shape := ⟨4, ![1, 224, 224, 192]⟩
abbrev S96x288 : Shape := ⟨2, ![96, 288]⟩
abbrev S288 : Shape := ⟨1, ![288]⟩
abbrev S192x1x3x3 : Shape := ⟨4, ![192, 1, 3, 3]⟩
abbrev S192 : Shape := ⟨1, ![192]⟩
abbrev S192x576 : Shape := ⟨2, ![192, 576]⟩
abbrev S192x192 : Shape := ⟨2, ![192, 192]⟩
abbrev S224x224x96 : Shape := ⟨3, ![224, 224, 96]⟩
abbrev S_ : Shape := ⟨0, ![]⟩

class Facts : Prop where
  bcast_S_S1x224x224x192 : S_.BroadcastsInDim S1x224x224x192 (![] : Fin 0 → Fin S1x224x224x192.rank)
  reducesTo_S1x224x224x192_S_d0_1_2_3 : S1x224x224x192.ReducesTo [0, 1, 2, 3] S_
  h_S_ : 0 < S_.numel
  bcast_S_S96x288 : S_.BroadcastsInDim S96x288 (![] : Fin 0 → Fin S96x288.rank)
  reducesTo_S96x288_S_d0_1 : S96x288.ReducesTo [0, 1] S_
  bcast_S_S288 : S_.BroadcastsInDim S288 (![] : Fin 0 → Fin S288.rank)
  reducesTo_S288_S_d0 : S288.ReducesTo [0] S_
  bcast_S_S192x1x3x3 : S_.BroadcastsInDim S192x1x3x3 (![] : Fin 0 → Fin S192x1x3x3.rank)
  reducesTo_S192x1x3x3_S_d0_1_2_3 : S192x1x3x3.ReducesTo [0, 1, 2, 3] S_
  bcast_S_S192 : S_.BroadcastsInDim S192 (![] : Fin 0 → Fin S192.rank)
  reducesTo_S192_S_d0 : S192.ReducesTo [0] S_
  bcast_S_S192x576 : S_.BroadcastsInDim S192x576 (![] : Fin 0 → Fin S192x576.rank)
  reducesTo_S192x576_S_d0_1 : S192x576.ReducesTo [0, 1] S_
  bcast_S_S192x192 : S_.BroadcastsInDim S192x192 (![] : Fin 0 → Fin S192x192.rank)
  reducesTo_S192x192_S_d0_1 : S192x192.ReducesTo [0, 1] S_
  bcast_S_S224x224x96 : S_.BroadcastsInDim S224x224x96 (![] : Fin 0 → Fin S224x224x96.rank)
  reducesTo_S224x224x96_S_d0_1_2 : S224x224x96.ReducesTo [0, 1, 2] S_

variable [Facts]

def fn_part3 {F : FTy → Type} [FloatOps F] (main_v49 : IVec S_ 1) (main_v50 : FVec F S224x224x96 .f32) : IVec S_ 1 :=
  let main_cst_19 : FVec F S_ .f32 := constant S_ .f32 0x7F800000#32
  let main_v51 : FVec F S224x224x96 .f32 := broadcastInDim S224x224x96 ![] bcast_S_S224x224x96 main_cst_19
  let main_v52 : IVec S224x224x96 1 := cmpf .olt main_v50 main_v51
  let main_c_20 : IVec S_ 1 := constantI S_ 1 1#1
  let main_v53 : IVec S_ 1 := (fun x v => Host.reduce IntOp.andi x v reducesTo_S224x224x96_S_d0_1_2 h_S_) main_v52 main_c_20
  let main_v54 : IVec S_ 1 := andi main_v49 main_v53
  main_v54

def fn_part2 {F : FTy → Type} [FloatOps F] (main_arg7 : FVec F S192x576 .f32) (main_arg8 : FVec F S192x192 .f32) (main_arg10 : FVec F S224x224x96 .f32) (main_arg11 : FVec F S224x224x96 .f32) (main_v29 : IVec S_ 1) (main_v32 : IVec S192 1) (main_c_12 : IVec S_ 1) : IVec S_ 1 :=
  let main_v33 : IVec S_ 1 := (fun x v => Host.reduce IntOp.andi x v reducesTo_S192_S_d0 h_S_) main_v32 main_c_12
  let main_v34 : IVec S_ 1 := andi main_v29 main_v33
  let main_v35 : FVec F S192x576 .f32 := Host.absf main_arg7
  let main_cst_13 : FVec F S_ .f32 := constant S_ .f32 0x7F800000#32
  let main_v36 : FVec F S192x576 .f32 := broadcastInDim S192x576 ![] bcast_S_S192x576 main_cst_13
  let main_v37 : IVec S192x576 1 := cmpf .olt main_v35 main_v36
  let main_c_14 : IVec S_ 1 := constantI S_ 1 1#1
  let main_v38 : IVec S_ 1 := (fun x v => Host.reduce IntOp.andi x v reducesTo_S192x576_S_d0_1 h_S_) main_v37 main_c_14
  let main_v39 : IVec S_ 1 := andi main_v34 main_v38
  let main_v40 : FVec F S192x192 .f32 := Host.absf main_arg8
  let main_cst_15 : FVec F S_ .f32 := constant S_ .f32 0x7F800000#32
  let main_v41 : FVec F S192x192 .f32 := broadcastInDim S192x192 ![] bcast_S_S192x192 main_cst_15
  let main_v42 : IVec S192x192 1 := cmpf .olt main_v40 main_v41
  let main_c_16 : IVec S_ 1 := constantI S_ 1 1#1
  let main_v43 : IVec S_ 1 := (fun x v => Host.reduce IntOp.andi x v reducesTo_S192x192_S_d0_1 h_S_) main_v42 main_c_16
  let main_v44 : IVec S_ 1 := andi main_v39 main_v43
  let main_v45 : FVec F S224x224x96 .f32 := Host.absf main_arg10
  let main_cst_17 : FVec F S_ .f32 := constant S_ .f32 0x7F800000#32
  let main_v46 : FVec F S224x224x96 .f32 := broadcastInDim S224x224x96 ![] bcast_S_S224x224x96 main_cst_17
  let main_v47 : IVec S224x224x96 1 := cmpf .olt main_v45 main_v46
  let main_c_18 : IVec S_ 1 := constantI S_ 1 1#1
  let main_v48 : IVec S_ 1 := (fun x v => Host.reduce IntOp.andi x v reducesTo_S224x224x96_S_d0_1_2 h_S_) main_v47 main_c_18
  let main_v49 : IVec S_ 1 := andi main_v44 main_v48
  let main_v50 : FVec F S224x224x96 .f32 := Host.absf main_arg11
  fn_part3 (F := F) main_v49 main_v50

def fn_part1 {F : FTy → Type} [FloatOps F] (main_arg4 : FVec F S288 .f32) (main_arg5 : FVec F S192x1x3x3 .f32) (main_arg6 : FVec F S192 .f32) (main_arg7 : FVec F S192x576 .f32) (main_arg8 : FVec F S192x192 .f32) (main_arg10 : FVec F S224x224x96 .f32) (main_arg11 : FVec F S224x224x96 .f32) (main_v14 : IVec S_ 1) (main_v15 : FVec F S96x288 .f32) (main_cst_5 : FVec F S_ .f32) : IVec S_ 1 :=
  let main_v16 : FVec F S96x288 .f32 := broadcastInDim S96x288 ![] bcast_S_S96x288 main_cst_5
  let main_v17 : IVec S96x288 1 := cmpf .olt main_v15 main_v16
  let main_c_6 : IVec S_ 1 := constantI S_ 1 1#1
  let main_v18 : IVec S_ 1 := (fun x v => Host.reduce IntOp.andi x v reducesTo_S96x288_S_d0_1 h_S_) main_v17 main_c_6
  let main_v19 : IVec S_ 1 := andi main_v14 main_v18
  let main_v20 : FVec F S288 .f32 := Host.absf main_arg4
  let main_cst_7 : FVec F S_ .f32 := constant S_ .f32 0x7F800000#32
  let main_v21 : FVec F S288 .f32 := broadcastInDim S288 ![] bcast_S_S288 main_cst_7
  let main_v22 : IVec S288 1 := cmpf .olt main_v20 main_v21
  let main_c_8 : IVec S_ 1 := constantI S_ 1 1#1
  let main_v23 : IVec S_ 1 := (fun x v => Host.reduce IntOp.andi x v reducesTo_S288_S_d0 h_S_) main_v22 main_c_8
  let main_v24 : IVec S_ 1 := andi main_v19 main_v23
  let main_v25 : FVec F S192x1x3x3 .f32 := Host.absf main_arg5
  let main_cst_9 : FVec F S_ .f32 := constant S_ .f32 0x7F800000#32
  let main_v26 : FVec F S192x1x3x3 .f32 := broadcastInDim S192x1x3x3 ![] bcast_S_S192x1x3x3 main_cst_9
  let main_v27 : IVec S192x1x3x3 1 := cmpf .olt main_v25 main_v26
  let main_c_10 : IVec S_ 1 := constantI S_ 1 1#1
  let main_v28 : IVec S_ 1 := (fun x v => Host.reduce IntOp.andi x v reducesTo_S192x1x3x3_S_d0_1_2_3 h_S_) main_v27 main_c_10
  let main_v29 : IVec S_ 1 := andi main_v24 main_v28
  let main_v30 : FVec F S192 .f32 := Host.absf main_arg6
  let main_cst_11 : FVec F S_ .f32 := constant S_ .f32 0x7F800000#32
  let main_v31 : FVec F S192 .f32 := broadcastInDim S192 ![] bcast_S_S192 main_cst_11
  let main_v32 : IVec S192 1 := cmpf .olt main_v30 main_v31
  let main_c_12 : IVec S_ 1 := constantI S_ 1 1#1
  fn_part2 (F := F) main_arg7 main_arg8 main_arg10 main_arg11 main_v29 main_v32 main_c_12

def fn {F : FTy → Type} [FloatOps F] (main_arg0 : FVec F S1x224x224x192 .f32) (main_arg1 : FVec F S96x288 .f32) (main_arg2 : FVec F S288 .f32) (main_arg3 : FVec F S96x288 .f32) (main_arg4 : FVec F S288 .f32) (main_arg5 : FVec F S192x1x3x3 .f32) (main_arg6 : FVec F S192 .f32) (main_arg7 : FVec F S192x576 .f32) (main_arg8 : FVec F S192x192 .f32) (main_arg9 : FVec F S192 .f32) (main_arg10 : FVec F S224x224x96 .f32) (main_arg11 : FVec F S224x224x96 .f32) : IVec S_ 1 :=
  let main_v0 : FVec F S1x224x224x192 .f32 := Host.absf main_arg0
  let main_cst : FVec F S_ .f32 := constant S_ .f32 0x7F800000#32
  let main_v1 : FVec F S1x224x224x192 .f32 := broadcastInDim S1x224x224x192 ![] bcast_S_S1x224x224x192 main_cst
  let main_v2 : IVec S1x224x224x192 1 := cmpf .olt main_v0 main_v1
  let main_c : IVec S_ 1 := constantI S_ 1 1#1
  let main_v3 : IVec S_ 1 := (fun x v => Host.reduce IntOp.andi x v reducesTo_S1x224x224x192_S_d0_1_2_3 h_S_) main_v2 main_c
  let main_c_0 : IVec S_ 1 := constantI S_ 1 1#1
  let main_v4 : IVec S_ 1 := andi main_c_0 main_v3
  let main_v5 : FVec F S96x288 .f32 := Host.absf main_arg1
  let main_cst_1 : FVec F S_ .f32 := constant S_ .f32 0x7F800000#32
  let main_v6 : FVec F S96x288 .f32 := broadcastInDim S96x288 ![] bcast_S_S96x288 main_cst_1
  let main_v7 : IVec S96x288 1 := cmpf .olt main_v5 main_v6
  let main_c_2 : IVec S_ 1 := constantI S_ 1 1#1
  let main_v8 : IVec S_ 1 := (fun x v => Host.reduce IntOp.andi x v reducesTo_S96x288_S_d0_1 h_S_) main_v7 main_c_2
  let main_v9 : IVec S_ 1 := andi main_v4 main_v8
  let main_v10 : FVec F S288 .f32 := Host.absf main_arg2
  let main_cst_3 : FVec F S_ .f32 := constant S_ .f32 0x7F800000#32
  let main_v11 : FVec F S288 .f32 := broadcastInDim S288 ![] bcast_S_S288 main_cst_3
  let main_v12 : IVec S288 1 := cmpf .olt main_v10 main_v11
  let main_c_4 : IVec S_ 1 := constantI S_ 1 1#1
  let main_v13 : IVec S_ 1 := (fun x v => Host.reduce IntOp.andi x v reducesTo_S288_S_d0 h_S_) main_v12 main_c_4
  let main_v14 : IVec S_ 1 := andi main_v9 main_v13
  let main_v15 : FVec F S96x288 .f32 := Host.absf main_arg3
  let main_cst_5 : FVec F S_ .f32 := constant S_ .f32 0x7F800000#32
  fn_part1 (F := F) main_arg4 main_arg5 main_arg6 main_arg7 main_arg8 main_arg10 main_arg11 main_v14 main_v15 main_cst_5
-- ==== Pre_finite_in_range.lean ====
abbrev S224x224x96 : Shape := ⟨3, ![224, 224, 96]⟩
abbrev S784x4 : Shape := ⟨2, ![784, 4]⟩
abbrev S_ : Shape := ⟨0, ![]⟩

class Facts : Prop where
  bcast_S_S784x4 : S_.BroadcastsInDim S784x4 (![] : Fin 0 → Fin S784x4.rank)
  reducesTo_S784x4_S_d0_1 : S784x4.ReducesTo [0, 1] S_
  h_S_ : 0 < S_.numel
  bcast_S_S224x224x96 : S_.BroadcastsInDim S224x224x96 (![] : Fin 0 → Fin S224x224x96.rank)
  reducesTo_S224x224x96_S_d0_1_2 : S224x224x96.ReducesTo [0, 1, 2] S_

variable [Facts]

def fn {F : FTy → Type} [FloatOps F] (main_arg0 : FVec F S224x224x96 .f32) (main_arg1 : FVec F S224x224x96 .f32) (main_arg2 : FVec F S224x224x96 .f32) (main_arg3 : IVec S784x4 32) : IVec S_ 1 :=
  let main_c : IVec S_ 32 := constantI S_ 32 0#32
  let main_v0 : IVec S784x4 32 := broadcastInDim S784x4 ![] bcast_S_S784x4 main_c
  let main_v1 : IVec S784x4 1 := cmpi .sge main_arg3 main_v0
  let main_c_0 : IVec S_ 32 := constantI S_ 32 783#32
  let main_v2 : IVec S784x4 32 := broadcastInDim S784x4 ![] bcast_S_S784x4 main_c_0
  let main_v3 : IVec S784x4 1 := cmpi .sle main_arg3 main_v2
  let main_v4 : IVec S784x4 1 := andi main_v1 main_v3
  let main_c_1 : IVec S_ 1 := constantI S_ 1 1#1
  let main_v5 : IVec S_ 1 := (fun x v => Host.reduce IntOp.andi x v reducesTo_S784x4_S_d0_1 h_S_) main_v4 main_c_1
  let main_v6 : FVec F S224x224x96 .f32 := Host.absf main_arg0
  let main_cst : FVec F S_ .f32 := constant S_ .f32 0x7F800000#32
  let main_v7 : FVec F S224x224x96 .f32 := broadcastInDim S224x224x96 ![] bcast_S_S224x224x96 main_cst
  let main_v8 : IVec S224x224x96 1 := cmpf .olt main_v6 main_v7
  let main_c_2 : IVec S_ 1 := constantI S_ 1 1#1
  let main_v9 : IVec S_ 1 := (fun x v => Host.reduce IntOp.andi x v reducesTo_S224x224x96_S_d0_1_2 h_S_) main_v8 main_c_2
  let main_v10 : IVec S_ 1 := andi main_v5 main_v9
  let main_v11 : FVec F S224x224x96 .f32 := Host.absf main_arg1
  let main_cst_3 : FVec F S_ .f32 := constant S_ .f32 0x7F800000#32
  let main_v12 : FVec F S224x224x96 .f32 := broadcastInDim S224x224x96 ![] bcast_S_S224x224x96 main_cst_3
  let main_v13 : IVec S224x224x96 1 := cmpf .olt main_v11 main_v12
  let main_c_4 : IVec S_ 1 := constantI S_ 1 1#1
  let main_v14 : IVec S_ 1 := (fun x v => Host.reduce IntOp.andi x v reducesTo_S224x224x96_S_d0_1_2 h_S_) main_v13 main_c_4
  let main_v15 : IVec S_ 1 := andi main_v10 main_v14
  main_v15
-- ==== Pre_finite_masked.lean ====
abbrev S224x224x96 : Shape := ⟨3, ![224, 224, 96]⟩
abbrev S1024x128 : Shape := ⟨2, ![1024, 128]⟩
abbrev S512x64 : Shape := ⟨2, ![512, 64]⟩
abbrev S_ : Shape := ⟨0, ![]⟩

class Facts : Prop where
  slices_S1024x128_S512x64_0_0 : S1024x128.Slices ![0, 0] S512x64
  bcast_S_S512x64 : S_.BroadcastsInDim S512x64 (![] : Fin 0 → Fin S512x64.rank)
  reducesTo_S512x64_S_d0_1 : S512x64.ReducesTo [0, 1] S_
  h_S_ : 0 < S_.numel
  slices_S1024x128_S512x64_512_64 : S1024x128.Slices ![512, 64] S512x64
  slices_S1024x128_S512x64_0_64 : S1024x128.Slices ![0, 64] S512x64
  slices_S1024x128_S512x64_512_0 : S1024x128.Slices ![512, 0] S512x64
  bcast_S_S224x224x96 : S_.BroadcastsInDim S224x224x96 (![] : Fin 0 → Fin S224x224x96.rank)
  reducesTo_S224x224x96_S_d0_1_2 : S224x224x96.ReducesTo [0, 1, 2] S_

variable [Facts]

def fn_part1 {F : FTy → Type} [FloatOps F] (main_arg0 : FVec F S224x224x96 .f32) (main_arg1 : FVec F S224x224x96 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S224x224x96 .f32 := Host.absf main_arg0
  let main_cst_6 : FVec F S_ .f32 := constant S_ .f32 0x7F800000#32
  let main_v20 : FVec F S224x224x96 .f32 := broadcastInDim S224x224x96 ![] bcast_S_S224x224x96 main_cst_6
  let main_v21 : IVec S224x224x96 1 := cmpf .olt main_v19 main_v20
  let main_c_7 : IVec S_ 1 := constantI S_ 1 1#1
  let main_v22 : IVec S_ 1 := (fun x v => Host.reduce IntOp.andi x v reducesTo_S224x224x96_S_d0_1_2 h_S_) main_v21 main_c_7
  let main_v23 : IVec S_ 1 := andi main_v18 main_v22
  let main_v24 : FVec F S224x224x96 .f32 := Host.absf main_arg1
  let main_cst_8 : FVec F S_ .f32 := constant S_ .f32 0x7F800000#32
  let main_v25 : FVec F S224x224x96 .f32 := broadcastInDim S224x224x96 ![] bcast_S_S224x224x96 main_cst_8
  let main_v26 : IVec S224x224x96 1 := cmpf .olt main_v24 main_v25
  let main_c_9 : IVec S_ 1 := constantI S_ 1 1#1
  let main_v27 : IVec S_ 1 := (fun x v => Host.reduce IntOp.andi x v reducesTo_S224x224x96_S_d0_1_2 h_S_) main_v26 main_c_9
  let main_v28 : IVec S_ 1 := andi main_v23 main_v27
  main_v28

def fn {F : FTy → Type} [FloatOps F] (main_arg0 : FVec F S224x224x96 .f32) (main_arg1 : FVec F S224x224x96 .f32) (main_arg2 : FVec F S224x224x96 .f32) (main_arg3 : FVec F S1024x128 .f32) : IVec S_ 1 :=
  let main_v0 : FVec F S512x64 .f32 := (extractStridedSlice S512x64 ![0, 0] · slices_S1024x128_S512x64_0_0) main_arg3
  let main_cst : FVec F S_ .f32 := constant S_ .f32 0x00000000#32
  let main_v1 : FVec F S512x64 .f32 := broadcastInDim S512x64 ![] bcast_S_S512x64 main_cst
  let main_v2 : IVec S512x64 1 := cmpf .oeq main_v0 main_v1
  let main_c : IVec S_ 1 := constantI S_ 1 1#1
  let main_v3 : IVec S_ 1 := (fun x v => Host.reduce IntOp.andi x v reducesTo_S512x64_S_d0_1 h_S_) main_v2 main_c
  let main_v4 : FVec F S512x64 .f32 := (extractStridedSlice S512x64 ![512, 64] · slices_S1024x128_S512x64_512_64) main_arg3
  let main_cst_0 : FVec F S_ .f32 := constant S_ .f32 0x00000000#32
  let main_v5 : FVec F S512x64 .f32 := broadcastInDim S512x64 ![] bcast_S_S512x64 main_cst_0
  let main_v6 : IVec S512x64 1 := cmpf .oeq main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := (extractStridedSlice S512x64 ![0, 64] · slices_S1024x128_S512x64_0_64) main_arg3
  let main_cst_2 : FVec F S_ .f32 := constant S_ .f32 0xFF800000#32
  let main_v10 : FVec F S512x64 .f32 := broadcastInDim S512x64 ![] bcast_S_S512x64 main_cst_2
  let main_v11 : IVec S512x64 1 := cmpf .oeq main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := (extractStridedSlice S512x64 ![512, 0] · slices_S1024x128_S512x64_512_0) main_arg3
  let main_cst_4 : FVec F S_ .f32 := constant S_ .f32 0xFF800000#32
  let main_v15 : FVec F S512x64 .f32 := broadcastInDim S512x64 ![] bcast_S_S512x64 main_cst_4
  let main_v16 : IVec S512x64 1 := cmpf .oeq main_v14 main_v15
  fn_part1 (F := F) main_arg0 main_arg1 main_v13 main_v16
-- ==== Pre_in_range.lean ====
abbrev S224x224x96 : Shape := ⟨3, ![224, 224, 96]⟩
abbrev S784x4 : Shape := ⟨2, ![784, 4]⟩
abbrev S_ : Shape := ⟨0, ![]⟩

class Facts : Prop where
  bcast_S_S784x4 : S_.BroadcastsInDim S784x4 (![] : Fin 0 → Fin S784x4.rank)
  reducesTo_S784x4_S_d0_1 : S784x4.ReducesTo [0, 1] S_
  h_S_ : 0 < S_.numel

variable [Facts]

def fn {F : FTy → Type} [FloatOps F] (main_arg0 : FVec F S224x224x96 .f32) (main_arg1 : FVec F S224x224x96 .f32) (main_arg2 : FVec F S224x224x96 .f32) (main_arg3 : IVec S784x4 32) : IVec S_ 1 :=
  let main_c : IVec S_ 32 := constantI S_ 32 0#32
  let main_v0 : IVec S784x4 32 := broadcastInDim S784x4 ![] bcast_S_S784x4 main_c
  let main_v1 : IVec S784x4 1 := cmpi .sge main_arg3 main_v0
  let main_c_0 : IVec S_ 32 := constantI S_ 32 783#32
  let main_v2 : IVec S784x4 32 := broadcastInDim S784x4 ![] bcast_S_S784x4 main_c_0
  let main_v3 : IVec S784x4 1 := cmpi .sle main_arg3 main_v2
  let main_v4 : IVec S784x4 1 := andi main_v1 main_v3
  let main_c_1 : IVec S_ 1 := constantI S_ 1 1#1
  let main_v5 : IVec S_ 1 := (fun x v => Host.reduce IntOp.andi x v reducesTo_S784x4_S_d0_1 h_S_) main_v4 main_c_1
  main_v5
-- ==== Kernel.lean ====
abbrev S1x224x224x192 : Shape := ⟨4, ![1, 224, 224, 192]⟩
abbrev S96x288 : Shape := ⟨2, ![96, 288]⟩
abbrev S288 : Shape := ⟨1, ![288]⟩
abbrev S192x1x3x3 : Shape := ⟨4, ![192, 1, 3, 3]⟩
abbrev S192 : Shape := ⟨1, ![192]⟩
abbrev S192x576 : Shape := ⟨2, ![192, 576]⟩
abbrev S192x192 : Shape := ⟨2, ![192, 192]⟩
abbrev S224x224x96 : Shape := ⟨3, ![224, 224, 96]⟩
abbrev S50176x192 : Shape := ⟨2, ![50176, 192]⟩
abbrev S_ : Shape := ⟨0, ![]⟩
abbrev S96x576 : Shape := ⟨2, ![96, 576]⟩
abbrev S576 : Shape := ⟨1, ![576]⟩
abbrev S1x576 : Shape := ⟨2, ![1, 576]⟩
abbrev S50176x96 : Shape := ⟨2, ![50176, 96]⟩
abbrev S1792x192 : Shape := ⟨2, ![1792, 192]⟩
abbrev S1792x96 : Shape := ⟨2, ![1792, 96]⟩
abbrev S1792x576 : Shape := ⟨2, ![1792, 576]⟩
abbrev S224x224x192 : Shape := ⟨3, ![224, 224, 192]⟩
abbrev S226x226x192 : Shape := ⟨3, ![226, 226, 192]⟩
abbrev S224x226x192 : Shape := ⟨3, ![224, 226, 192]⟩
abbrev S192x9 : Shape := ⟨2, ![192, 9]⟩
abbrev S9x192 : Shape := ⟨2, ![9, 192]⟩
abbrev S16x192 : Shape := ⟨2, ![16, 192]⟩
abbrev S1x192 : Shape := ⟨2, ![1, 192]⟩
abbrev S8x226x192 : Shape := ⟨3, ![8, 226, 192]⟩
abbrev S8x224x192 : Shape := ⟨3, ![8, 224, 192]⟩
abbrev S1x1x192 : Shape := ⟨3, ![1, 1, 192]⟩
abbrev S192x1 : Shape := ⟨2, ![192, 1]⟩
abbrev S1x50176x192 : Shape := ⟨3, ![1, 50176, 192]⟩

abbrev nBuf : Space → Nat
  | .hbm => 59
  | .vmem => 49
  | .smem => 0
  | _ => 0

abbrev bufTy : (tb : Table) → Fin (tcTables nBuf tb) → BufTy
  | .hbm, ⟨0, _⟩ => ⟨S1x224x224x192, .f32⟩
  | .hbm, ⟨1, _⟩ => ⟨S96x288, .f32⟩
  | .hbm, ⟨2, _⟩ => ⟨S288, .f32⟩
  | .hbm, ⟨3, _⟩ => ⟨S96x288, .f32⟩
  | .hbm, ⟨4, _⟩ => ⟨S288, .f32⟩
  | .hbm, ⟨5, _⟩ => ⟨S192x1x3x3, .f32⟩
  | .hbm, ⟨6, _⟩ => ⟨S192, .f32⟩
  | .hbm, ⟨7, _⟩ => ⟨S192x576, .f32⟩
  | .hbm, ⟨8, _⟩ => ⟨S192x192, .f32⟩
  | .hbm, ⟨9, _⟩ => ⟨S192, .f32⟩
  | .hbm, ⟨10, _⟩ => ⟨S224x224x96, .f32⟩
  | .hbm, ⟨11, _⟩ => ⟨S224x224x96, .f32⟩
  | .hbm, ⟨12, _⟩ => ⟨S50176x192, .f32⟩
  | .hbm, ⟨13, _⟩ => ⟨S_, .f32⟩
  | .hbm, ⟨14, _⟩ => ⟨S96x288, .f32⟩
  | .hbm, ⟨15, _⟩ => ⟨S96x576, .f32⟩
  | .hbm, ⟨16, _⟩ => ⟨S96x576, .f32⟩
  | .hbm, ⟨17, _⟩ => ⟨S192x576, .f32⟩
  | .hbm, ⟨18, _⟩ => ⟨S576, .f32⟩
  | .hbm, ⟨19, _⟩ => ⟨S1x576, .f32⟩
  | .hbm, ⟨20, _⟩ => ⟨S50176x96, .f32⟩
  | .hbm, ⟨21, _⟩ => ⟨S50176x96, .f32⟩
  | .hbm, ⟨22, _⟩ => ⟨S50176x96, .f32⟩
  | .hbm, ⟨23, _⟩ => ⟨S50176x96, .f32⟩
  | .hbm, ⟨24, _⟩ => ⟨S50176x96, .f32⟩
  | .hbm, ⟨25, _⟩ => ⟨S50176x96, .f32⟩
  | .hbm, ⟨26, _⟩ => ⟨S50176x192, .f32⟩
  | .hbm, ⟨27, _⟩ => ⟨S224x224x96, .f32⟩
  | .hbm, ⟨28, _⟩ => ⟨S224x224x96, .f32⟩
  | .hbm, ⟨29, _⟩ => ⟨S224x224x96, .f32⟩
  | .hbm, ⟨30, _⟩ => ⟨S224x224x96, .f32⟩
  | .hbm, ⟨31, _⟩ => ⟨S224x224x96, .f32⟩
  | .hbm, ⟨32, _⟩ => ⟨S224x224x96, .f32⟩
  | .hbm, ⟨33, _⟩ => ⟨S224x224x192, .f32⟩
  | .hbm, ⟨34, _⟩ => ⟨S_, .i32⟩
  | .hbm, ⟨35, _⟩ => ⟨S_, .f32⟩
  | .hbm, ⟨36, _⟩ => ⟨S226x226x192, .f32⟩
  | .hbm, ⟨37, _⟩ => ⟨S224x226x192, .f32⟩
  | .hbm, ⟨38, _⟩ => ⟨S224x226x192, .f32⟩
  | .hbm, ⟨39, _⟩ => ⟨S224x226x192, .f32⟩
  | .hbm, ⟨40, _⟩ => ⟨S192x9, .f32⟩
  | .hbm, ⟨41, _⟩ => ⟨S9x192, .f32⟩
  | .hbm, ⟨42, _⟩ => ⟨S_, .i32⟩
  | .hbm, ⟨43, _⟩ => ⟨S_, .f32⟩
  | .hbm, ⟨44, _⟩ => ⟨S16x192, .f32⟩
  | .hbm, ⟨45, _⟩ => ⟨S1x192, .f32⟩
  | .hbm, ⟨46, _⟩ => ⟨S224x224x192, .f32⟩
  | .hbm, ⟨47, _⟩ => ⟨S50176x192, .f32⟩
  | .hbm, ⟨48, _⟩ => ⟨S50176x96, .f32⟩
  | .hbm, ⟨49, _⟩ => ⟨S50176x96, .f32⟩
  | .hbm, ⟨50, _⟩ => ⟨S50176x192, .f32⟩
  | .hbm, ⟨51, _⟩ => ⟨S192x192, .f32⟩
  | .hbm, ⟨52, _⟩ => ⟨S192x192, .f32⟩
  | .hbm, ⟨53, _⟩ => ⟨S192x192, .f32⟩
  | .hbm, ⟨54, _⟩ => ⟨S192x192, .f32⟩
  | .hbm, ⟨55, _⟩ => ⟨S192x192, .f32⟩
  | .hbm, ⟨56, _⟩ => ⟨S1x192, .f32⟩
  | .hbm, ⟨57, _⟩ => ⟨S50176x192, .f32⟩
  | .hbm, ⟨58, _⟩ => ⟨S1x50176x192, .f32⟩
  | .local _ .vmem, ⟨0, _⟩ => ⟨S1792x192, .f32⟩
  | .local _ .vmem, ⟨1, _⟩ => ⟨S1792x192, .f32⟩
  | .local _ .vmem, ⟨2, _⟩ => ⟨S192x576, .f32⟩
  | .local _ .vmem, ⟨3, _⟩ => ⟨S1x576, .f32⟩
  | .local _ .vmem, ⟨4, _⟩ => ⟨S1792x96, .f32⟩
  | .local _ .vmem, ⟨5, _⟩ => ⟨S1792x96, .f32⟩
  | .local _ .vmem, ⟨6, _⟩ => ⟨S1792x96, .f32⟩
  | .local _ .vmem, ⟨7, _⟩ => ⟨S1792x96, .f32⟩
  | .local _ .vmem, ⟨8, _⟩ => ⟨S1792x96, .f32⟩
  | .local _ .vmem, ⟨9, _⟩ => ⟨S1792x96, .f32⟩
  | .local _ .vmem, ⟨10, _⟩ => ⟨S1792x96, .f32⟩
  | .local _ .vmem, ⟨11, _⟩ => ⟨S1792x96, .f32⟩
  | .local _ .vmem, ⟨12, _⟩ => ⟨S1792x96, .f32⟩
  | .local _ .vmem, ⟨13, _⟩ => ⟨S1792x96, .f32⟩
  | .local _ .vmem, ⟨14, _⟩ => ⟨S1792x96, .f32⟩
  | .local _ .vmem, ⟨15, _⟩ => ⟨S1792x96, .f32⟩
  | .local _ .vmem, ⟨16, _⟩ => ⟨S1792x192, .f32⟩
  | .local _ .vmem, ⟨17, _⟩ => ⟨S1792x192, .f32⟩
  | .local _ .vmem, ⟨18, _⟩ => ⟨S8x226x192, .f32⟩
  | .local _ .vmem, ⟨19, _⟩ => ⟨S8x226x192, .f32⟩
  | .local _ .vmem, ⟨20, _⟩ => ⟨S8x226x192, .f32⟩
  | .local _ .vmem, ⟨21, _⟩ => ⟨S8x226x192, .f32⟩
  | .local _ .vmem, ⟨22, _⟩ => ⟨S8x226x192, .f32⟩
  | .local _ .vmem, ⟨23, _⟩ => ⟨S8x226x192, .f32⟩
  | .local _ .vmem, ⟨24, _⟩ => ⟨S16x192, .f32⟩
  | .local _ .vmem, ⟨25, _⟩ => ⟨S1x192, .f32⟩
  | .local _ .vmem, ⟨26, _⟩ => ⟨S8x224x192, .f32⟩
  | .local _ .vmem, ⟨27, _⟩ => ⟨S8x224x192, .f32⟩
  | .local _ .vmem, ⟨28, _⟩ => ⟨S1792x96, .f32⟩
  | .local _ .vmem, ⟨29, _⟩ => ⟨S1792x96, .f32⟩
  | .local _ .vmem, ⟨30, _⟩ => ⟨S1792x96, .f32⟩
  | .local _ .vmem, ⟨31, _⟩ => ⟨S1792x96, .f32⟩
  | .local _ .vmem, ⟨32, _⟩ => ⟨S1792x192, .f32⟩
  | .local _ .vmem, ⟨33, _⟩ => ⟨S1792x192, .f32⟩
  | .local _ .vmem, ⟨34, _⟩ => ⟨S1792x192, .f32⟩
  | .local _ .vmem, ⟨35, _⟩ => ⟨S1792x192, .f32⟩
  | .local _ .vmem, ⟨36, _⟩ => ⟨S192x192, .f32⟩
  | .local _ .vmem, ⟨37, _⟩ => ⟨S192x192, .f32⟩
  | .local _ .vmem, ⟨38, _⟩ => ⟨S192x192, .f32⟩
  | .local _ .vmem, ⟨39, _⟩ => ⟨S192x192, .f32⟩
  | .local _ .vmem, ⟨40, _⟩ => ⟨S192x192, .f32⟩
  | .local _ .vmem, ⟨41, _⟩ => ⟨S192x192, .f32⟩
  | .local _ .vmem, ⟨42, _⟩ => ⟨S192x192, .f32⟩
  | .local _ .vmem, ⟨43, _⟩ => ⟨S1792x192, .f32⟩
  | .local _ .vmem, ⟨44, _⟩ => ⟨S1792x192, .f32⟩
  | .local _ .vmem, ⟨45, _⟩ => ⟨S192x192, .f32⟩
  | .local _ .vmem, ⟨46, _⟩ => ⟨S1x192, .f32⟩
  | .local _ .vmem, ⟨47, _⟩ => ⟨S1792x192, .f32⟩
  | .local _ .vmem, ⟨48, _⟩ => ⟨S1792x192, .f32⟩
  | _, _ => ⟨S1x224x224x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v7_6 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_0 : Ref sig .tc := ⟨.hbm, 42, rfl⟩
abbrev main_call1_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc3_stg0_0 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg3_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem5_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc3_sem0_0 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem3_1 : DmaSem sig := 48

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1792x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1792x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1792x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![28], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x226x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x226x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x226x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x224x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![28], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1792x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1792x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1792x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1792x192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S192x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S192x192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S192x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S192x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S192x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![28], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1792x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1792x192 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== KernelIdeal.lean ====
variable {F : FTy → Type} [FloatOps F] [Named F]
def κ : String → Option EReal := fun
  | "mask" => some ⊥
  | _ => none
-- ==== ReferenceIdeal.lean ====
abbrev S1x224x224x192 : Shape := ⟨4, ![1, 224, 224, 192]⟩
abbrev S96x288 : Shape := ⟨2, ![96, 288]⟩
abbrev S288 : Shape := ⟨1, ![288]⟩
abbrev S192x1x3x3 : Shape := ⟨4, ![192, 1, 3, 3]⟩
abbrev S192 : Shape := ⟨1, ![192]⟩
abbrev S192x576 : Shape := ⟨2, ![192, 576]⟩
abbrev S192x192 : Shape := ⟨2, ![192, 192]⟩
abbrev S224x224x96 : Shape := ⟨3, ![224, 224, 96]⟩
abbrev S1x224x224x96 : Shape := ⟨4, ![1, 224, 224, 96]⟩
abbrev S1x224x224x288 : Shape := ⟨4, ![1, 224, 224, 288]⟩
abbrev S1x1x1x288 : Shape := ⟨4, ![1, 1, 1, 288]⟩
abbrev S1x96x224x224 : Shape := ⟨4, ![1, 96, 224, 224]⟩
abbrev S1x288x224x224 : Shape := ⟨4, ![1, 288, 224, 224]⟩
abbrev S1x192x224x224 : Shape := ⟨4, ![1, 192, 224, 224]⟩
abbrev S_ : Shape := ⟨0, ![]⟩
abbrev S1x192x226x226 : Shape := ⟨4, ![1, 192, 226, 226]⟩
abbrev S192x1x1x1 : Shape := ⟨4, ![192, 1, 1, 1]⟩
abbrev S1x192x1x1 : Shape := ⟨4, ![1, 192, 1, 1]⟩
abbrev S1x192x50176 : Shape := ⟨3, ![1, 192, 50176]⟩
abbrev S1x50176x192 : Shape := ⟨3, ![1, 50176, 192]⟩
abbrev S1x50176x576 : Shape := ⟨3, ![1, 50176, 576]⟩
abbrev S1x50176x3x8x24 : Shape := ⟨5, ![1, 50176, 3, 8, 24]⟩
abbrev S3x1x8x50176x24 : Shape := ⟨5, ![3, 1, 8, 50176, 24]⟩
abbrev S1x1x8x50176x24 : Shape := ⟨5, ![1, 1, 8, 50176, 24]⟩
abbrev S1x8x50176x24 : Shape := ⟨4, ![1, 8, 50176, 24]⟩
abbrev S1x8x24x50176 : Shape := ⟨4, ![1, 8, 24, 50176]⟩
abbrev S8x24x50176 : Shape := ⟨3, ![8, 24, 50176]⟩
abbrev S8x50176x24 : Shape := ⟨3, ![8, 50176, 24]⟩
abbrev S8x24x24 : Shape := ⟨3, ![8, 24, 24]⟩
abbrev S1x8x24x24 : Shape := ⟨4, ![1, 8, 24, 24]⟩
abbrev S1x8x24 : Shape := ⟨3, ![1, 8, 24]⟩
abbrev S1x8x24x1 : Shape := ⟨4, ![1, 8, 24, 1]⟩
abbrev S1x50176x8x24 : Shape := ⟨4, ![1, 50176, 8, 24]⟩
abbrev S1x1x192 : Shape := ⟨3, ![1, 1, 192]⟩

abbrev nBuf : Space → Nat
  | .hbm => 162
  | .vmem => 0
  | .smem => 0
  | _ => 0

abbrev hbmTy0_0 (i : Nat) : BufTy := match i % 128 with
  | 0 => ⟨S1x224x224x192, .f32⟩
  | 1 => ⟨S96x288, .f32⟩
  | 2 => ⟨S288, .f32⟩
  | 3 => ⟨S96x288, .f32⟩
  | 4 => ⟨S288, .f32⟩
  | 5 => ⟨S192x1x3x3, .f32⟩
  | 6 => ⟨S192, .f32⟩
  | 7 => ⟨S192x576, .f32⟩
  | 8 => ⟨S192x192, .f32⟩
  | 9 => ⟨S192, .f32⟩
  | 10 => ⟨S224x224x96, .f32⟩
  | 11 => ⟨S224x224x96, .f32⟩
  | 12 => ⟨S1x224x224x96, .f32⟩
  | 13 => ⟨S1x224x224x96, .f32⟩
  | 14 => ⟨S1x224x224x288, .f32⟩
  | 15 => ⟨S1x1x1x288, .f32⟩
  | 16 => ⟨S1x224x224x288, .f32⟩
  | 17 => ⟨S1x224x224x288, .f32⟩
  | 18 => ⟨S1x224x224x96, .f32⟩
  | 19 => ⟨S1x224x224x96, .f32⟩
  | 20 => ⟨S1x224x224x96, .f32⟩
  | 21 => ⟨S1x96x224x224, .f32⟩
  | 22 => ⟨S1x224x224x288, .f32⟩
  | 23 => ⟨S1x1x1x288, .f32⟩
  | 24 => ⟨S1x224x224x288, .f32⟩
  | 25 => ⟨S1x224x224x288, .f32⟩
  | 26 => ⟨S1x288x224x224, .f32⟩
  | 27 => ⟨S1x96x224x224, .f32⟩
  | 28 => ⟨S1x96x224x224, .f32⟩
  | 29 => ⟨S1x96x224x224, .f32⟩
  | 30 => ⟨S1x224x224x96, .f32⟩
  | 31 => ⟨S1x96x224x224, .f32⟩
  | 32 => ⟨S1x224x224x96, .f32⟩
  | 33 => ⟨S1x96x224x224, .f32⟩
  | 34 => ⟨S1x192x224x224, .f32⟩
  | 35 => ⟨S1x192x224x224, .f32⟩
  | 36 => ⟨S_, .i32⟩
  | 37 => ⟨S_, .f32⟩
  | 38 => ⟨S1x192x226x226, .f32⟩
  | 39 => ⟨S1x192x224x224, .f32⟩
  | 40 => ⟨S192x1x1x1, .f32⟩
  | 41 => ⟨S192, .f32⟩
  | 42 => ⟨S1x192x1x1, .f32⟩
  | 43 => ⟨S1x192x224x224, .f32⟩
  | 44 => ⟨S1x192x224x224, .f32⟩
  | 45 => ⟨S_, .f32⟩
  | 46 => ⟨S1x192x224x224, .f32⟩
  | 47 => ⟨S1x192x224x224, .f32⟩
  | 48 => ⟨S1x192x224x224, .f32⟩
  | 49 => ⟨S192x1x1x1, .f32⟩
  | 50 => ⟨S192, .f32⟩
  | 51 => ⟨S1x192x1x1, .f32⟩
  | 52 => ⟨S1x192x224x224, .f32⟩
  | 53 => ⟨S1x192x224x224, .f32⟩
  | 54 => ⟨S1x192x224x224, .f32⟩
  | 55 => ⟨S1x192x224x224, .f32⟩
  | 56 => ⟨S192x1x1x1, .f32⟩
  | 57 => ⟨S192, .f32⟩
  | 58 => ⟨S1x192x1x1, .f32⟩
  | 59 => ⟨S1x192x224x224, .f32⟩
  | 60 => ⟨S1x192x224x224, .f32⟩
  | 61 => ⟨S1x192x224x224, .f32⟩
  | 62 => ⟨S1x192x224x224, .f32⟩
  | 63 => ⟨S192x1x1x1, .f32⟩
  | 64 => ⟨S192, .f32⟩
  | 65 => ⟨S1x192x1x1, .f32⟩
  | 66 => ⟨S1x192x224x224, .f32⟩
  | 67 => ⟨S1x192x224x224, .f32⟩
  | 68 => ⟨S1x192x224x224, .f32⟩
  | 69 => ⟨S1x192x224x224, .f32⟩
  | 70 => ⟨S192x1x1x1, .f32⟩
  | 71 => ⟨S192, .f32⟩
  | 72 => ⟨S1x192x1x1, .f32⟩
  | 73 => ⟨S1x192x224x224, .f32⟩
  | 74 => ⟨S1x192x224x224, .f32⟩
  | 75 => ⟨S1x192x224x224, .f32⟩
  | 76 => ⟨S1x192x224x224, .f32⟩
  | 77 => ⟨S192x1x1x1, .f32⟩
  | 78 => ⟨S192, .f32⟩
  | 79 => ⟨S1x192x1x1, .f32⟩
  | 80 => ⟨S1x192x224x224, .f32⟩
  | 81 => ⟨S1x192x224x224, .f32⟩
  | 82 => ⟨S1x192x224x224, .f32⟩
  | 83 => ⟨S1x192x224x224, .f32⟩
  | 84 => ⟨S192x1x1x1, .f32⟩
  | 85 => ⟨S192, .f32⟩
  | 86 => ⟨S1x192x1x1, .f32⟩
  | 87 => ⟨S1x192x224x224, .f32⟩
  | 88 => ⟨S1x192x224x224, .f32⟩
  | 89 => ⟨S1x192x224x224, .f32⟩
  | 90 => ⟨S1x192x224x224, .f32⟩
  | 91 => ⟨S192x1x1x1, .f32⟩
  | 92 => ⟨S192, .f32⟩
  | 93 => ⟨S1x192x1x1, .f32⟩
  | 94 => ⟨S1x192x224x224, .f32⟩
  | 95 => ⟨S1x192x224x224, .f32⟩
  | 96 => ⟨S1x192x224x224, .f32⟩
  | 97 => ⟨S1x192x224x224, .f32⟩
  | 98 => ⟨S192x1x1x1, .f32⟩
  | 99 => ⟨S192, .f32⟩
  | 100 => ⟨S1x192x1x1, .f32⟩
  | 101 => ⟨S1x192x224x224, .f32⟩
  | 102 => ⟨S1x192x224x224, .f32⟩
  | 103 => ⟨S1x192x224x224, .f32⟩
  | 104 => ⟨S1x192x1x1, .f32⟩
  | 105 => ⟨S1x192x224x224, .f32⟩
  | 106 => ⟨S1x192x224x224, .f32⟩
  | 107 => ⟨S1x192x224x224, .f32⟩
  | 108 => ⟨S1x192x50176, .f32⟩
  | 109 => ⟨S1x50176x192, .f32⟩
  | 110 => ⟨S1x50176x576, .f32⟩
  | 111 => ⟨S1x50176x3x8x24, .f32⟩
  | 112 => ⟨S3x1x8x50176x24, .f32⟩
  | 113 => ⟨S1x1x8x50176x24, .f32⟩
  | 114 => ⟨S1x8x50176x24, .f32⟩
  | 115 => ⟨S1x1x8x50176x24, .f32⟩
  | 116 => ⟨S1x8x50176x24, .f32⟩
  | 117 => ⟨S1x1x8x50176x24, .f32⟩
  | 118 => ⟨S1x8x50176x24, .f32⟩
  | 119 => ⟨S_, .f32⟩
  | 120 => ⟨S1x8x50176x24, .f32⟩
  | 121 => ⟨S1x8x50176x24, .f32⟩
  | 122 => ⟨S1x8x24x50176, .f32⟩
  | 123 => ⟨S8x24x50176, .f32⟩
  | 124 => ⟨S8x50176x24, .f32⟩
  | 125 => ⟨S8x24x24, .f32⟩
  | 126 => ⟨S1x8x24x24, .f32⟩
  | 127 => ⟨S_, .f32⟩
  | _ => ⟨S1x224x224x192, .f32⟩

abbrev hbmTy0_1 (i : Nat) : BufTy := match i % 128 with
  | 0 => ⟨S1x8x24, .f32⟩
  | 1 => ⟨S_, .f32⟩
  | 2 => ⟨S1x8x24, .f32⟩
  | 3 => ⟨S1x8x24, .f32⟩
  | 4 => ⟨S1x8x24x1, .f32⟩
  | 5 => ⟨S1x8x24x24, .f32⟩
  | 6 => ⟨S1x8x24x24, .f32⟩
  | 7 => ⟨S1x8x24x24, .f32⟩
  | 8 => ⟨S_, .f32⟩
  | 9 => ⟨S1x8x24, .f32⟩
  | 10 => ⟨S1x8x24x1, .f32⟩
  | 11 => ⟨S1x8x24x24, .f32⟩
  | 12 => ⟨S1x8x24x24, .f32⟩
  | 13 => ⟨S1x8x24x50176, .f32⟩
  | 14 => ⟨S8x24x24, .f32⟩
  | 15 => ⟨S8x24x50176, .f32⟩
  | 16 => ⟨S8x24x50176, .f32⟩
  | 17 => ⟨S1x8x24x50176, .f32⟩
  | 18 => ⟨S1x8x50176x24, .f32⟩
  | 19 => ⟨S1x50176x8x24, .f32⟩
  | 20 => ⟨S1x50176x192, .f32⟩
  | 21 => ⟨S1x50176x192, .f32⟩
  | 22 => ⟨S1x1x192, .f32⟩
  | 23 => ⟨S1x50176x192, .f32⟩
  | 24 => ⟨S1x50176x192, .f32⟩
  | 25 => ⟨S224x224x96, .f32⟩
  | 26 => ⟨S224x224x96, .f32⟩
  | 27 => ⟨S224x224x96, .f32⟩
  | 28 => ⟨S1x224x224x96, .f32⟩
  | 29 => ⟨S224x224x96, .f32⟩
  | 30 => ⟨S1x224x224x96, .f32⟩
  | 31 => ⟨S224x224x96, .f32⟩
  | 32 => ⟨S1x224x224x96, .f32⟩
  | 33 => ⟨S224x224x96, .f32⟩
  | _ => ⟨S1x224x224x192, .f32⟩

abbrev hbmTy (i : Nat) : BufTy := match i / 128 with
  | 0 => hbmTy0_0 i
  | 1 => hbmTy0_1 i
  | _ => ⟨S1x224x224x192, .f32⟩

abbrev bufTy : (tb : Table) → Fin (tcTables nBuf tb) → BufTy
  | .hbm, ⟨i, _⟩ => hbmTy i
  | _, _ => ⟨S1x224x224x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_0 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_cst_1 : Ref sig .tc := ⟨.hbm, 127, rfl⟩
abbrev main_v111 : Ref sig .tc := ⟨.hbm, 128, rfl⟩
abbrev main_cst_2 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_3 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩

abbrev nD : Nat := 1
abbrev τ : Topo := Topo.v7x

variable {F : FTy → Type} [FloatOps F]
-- ==== Kernel2.lean ====
abbrev S224x224x96 : Shape := ⟨3, ![224, 224, 96]⟩
abbrev S784x4 : Shape := ⟨2, ![784, 4]⟩
abbrev S96 : Shape := ⟨1, ![96]⟩
abbrev S_ : Shape := ⟨0, ![]⟩
abbrev S8 : Shape := ⟨1, ![8]⟩
abbrev S8x64 : Shape := ⟨2, ![8, 64]⟩
abbrev S512 : Shape := ⟨1, ![512]⟩
abbrev S1x96 : Shape := ⟨2, ![1, 96]⟩
abbrev S512x1 : Shape := ⟨2, ![512, 1]⟩
abbrev S512x96 : Shape := ⟨2, ![512, 96]⟩
abbrev S96x1 : Shape := ⟨2, ![96, 1]⟩
abbrev S1x8 : Shape := ⟨2, ![1, 8]⟩
abbrev S96x8 : Shape := ⟨2, ![96, 8]⟩
abbrev S8x96 : Shape := ⟨2, ![8, 96]⟩
abbrev S3136 : Shape := ⟨1, ![3136]⟩
abbrev S8x8x96 : Shape := ⟨3, ![8, 8, 96]⟩
abbrev S1 : Shape := ⟨1, ![1]⟩
abbrev S64x96 : Shape := ⟨2, ![64, 96]⟩
abbrev S256x96 : Shape := ⟨2, ![256, 96]⟩
abbrev S512x256 : Shape := ⟨2, ![512, 256]⟩

abbrev nBuf : Space → Nat
  | .hbm => 43
  | .vmem => 22
  | .smem => 1
  | _ => 0

abbrev bufTy : (tb : Table) → Fin (tcTables nBuf tb) → BufTy
  | .hbm, ⟨0, _⟩ => ⟨S224x224x96, .f32⟩
  | .hbm, ⟨1, _⟩ => ⟨S224x224x96, .f32⟩
  | .hbm, ⟨2, _⟩ => ⟨S224x224x96, .f32⟩
  | .hbm, ⟨3, _⟩ => ⟨S784x4, .i32⟩
  | .hbm, ⟨4, _⟩ => ⟨S96, .i32⟩
  | .hbm, ⟨5, _⟩ => ⟨S_, .i32⟩
  | .hbm, ⟨6, _⟩ => ⟨S_, .i32⟩
  | .hbm, ⟨7, _⟩ => ⟨S96, .i32⟩
  | .hbm, ⟨8, _⟩ => ⟨S96, .i32⟩
  | .hbm, ⟨9, _⟩ => ⟨S96, .i32⟩
  | .hbm, ⟨10, _⟩ => ⟨S_, .i32⟩
  | .hbm, ⟨11, _⟩ => ⟨S96, .i32⟩
  | .hbm, ⟨12, _⟩ => ⟨S96, .i1⟩
  | .hbm, ⟨13, _⟩ => ⟨S96, .i32⟩
  | .hbm, ⟨14, _⟩ => ⟨S96, .i32⟩
  | .hbm, ⟨15, _⟩ => ⟨S_, .i32⟩
  | .hbm, ⟨16, _⟩ => ⟨S96, .i32⟩
  | .hbm, ⟨17, _⟩ => ⟨S96, .i1⟩
  | .hbm, ⟨18, _⟩ => ⟨S96, .i1⟩
  | .hbm, ⟨19, _⟩ => ⟨S_, .i32⟩
  | .hbm, ⟨20, _⟩ => ⟨S96, .i32⟩
  | .hbm, ⟨21, _⟩ => ⟨S96, .i32⟩
  | .hbm, ⟨22, _⟩ => ⟨S96, .i32⟩
  | .hbm, ⟨23, _⟩ => ⟨S8, .i32⟩
  | .hbm, ⟨24, _⟩ => ⟨S8x64, .i32⟩
  | .hbm, ⟨25, _⟩ => ⟨S512, .i32⟩
  | .hbm, ⟨26, _⟩ => ⟨S1x96, .i32⟩
  | .hbm, ⟨27, _⟩ => ⟨S512x1, .i32⟩
  | .hbm, ⟨28, _⟩ => ⟨S512x96, .i32⟩
  | .hbm, ⟨29, _⟩ => ⟨S512x96, .i32⟩
  | .hbm, ⟨30, _⟩ => ⟨S512x96, .i1⟩
  | .hbm, ⟨31, _⟩ => ⟨S512x96, .f32⟩
  | .hbm, ⟨32, _⟩ => ⟨S_, .f32⟩
  | .hbm, ⟨33, _⟩ => ⟨S512x96, .f32⟩
  | .hbm, ⟨34, _⟩ => ⟨S512x96, .f32⟩
  | .hbm, ⟨35, _⟩ => ⟨S96x1, .i32⟩
  | .hbm, ⟨36, _⟩ => ⟨S1x8, .i32⟩
  | .hbm, ⟨37, _⟩ => ⟨S96x8, .i32⟩
  | .hbm, ⟨38, _⟩ => ⟨S96x8, .i32⟩
  | .hbm, ⟨39, _⟩ => ⟨S96x8, .i1⟩
  | .hbm, ⟨40, _⟩ => ⟨S96x8, .f32⟩
  | .hbm, ⟨41, _⟩ => ⟨S8x96, .f32⟩
  | .hbm, ⟨42, _⟩ => ⟨S224x224x96, .f32⟩
  | .local _ .vmem, ⟨0, _⟩ => ⟨S8x8x96, .f32⟩
  | .local _ .vmem, ⟨1, _⟩ => ⟨S8x8x96, .f32⟩
  | .local _ .vmem, ⟨2, _⟩ => ⟨S8x8x96, .f32⟩
  | .local _ .vmem, ⟨3, _⟩ => ⟨S8x8x96, .f32⟩
  | .local _ .vmem, ⟨4, _⟩ => ⟨S8x8x96, .f32⟩
  | .local _ .vmem, ⟨5, _⟩ => ⟨S8x8x96, .f32⟩
  | .local _ .vmem, ⟨6, _⟩ => ⟨S8x8x96, .f32⟩
  | .local _ .vmem, ⟨7, _⟩ => ⟨S8x8x96, .f32⟩
  | .local _ .vmem, ⟨8, _⟩ => ⟨S8x8x96, .f32⟩
  | .local _ .vmem, ⟨9, _⟩ => ⟨S8x8x96, .f32⟩
  | .local _ .vmem, ⟨10, _⟩ => ⟨S8x8x96, .f32⟩
  | .local _ .vmem, ⟨11, _⟩ => ⟨S8x8x96, .f32⟩
  | .local _ .vmem, ⟨12, _⟩ => ⟨S8x8x96, .f32⟩
  | .local _ .vmem, ⟨13, _⟩ => ⟨S8x8x96, .f32⟩
  | .local _ .vmem, ⟨14, _⟩ => ⟨S8x8x96, .f32⟩
  | .local _ .vmem, ⟨15, _⟩ => ⟨S8x8x96, .f32⟩
  | .local _ .vmem, ⟨16, _⟩ => ⟨S8x8x96, .f32⟩
  | .local _ .vmem, ⟨17, _⟩ => ⟨S8x8x96, .f32⟩
  | .local _ .vmem, ⟨18, _⟩ => ⟨S512x96, .f32⟩
  | .local _ .vmem, ⟨19, _⟩ => ⟨S8x96, .f32⟩
  | .local _ .vmem, ⟨20, _⟩ => ⟨S8x8x96, .f32⟩
  | .local _ .vmem, ⟨21, _⟩ => ⟨S8x8x96, .f32⟩
  | .local _ .smem, ⟨0, _⟩ => ⟨S3136, .i32⟩
  | _, _ => ⟨S224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v13 : Ref sig .tc := ⟨.hbm, 40, rfl⟩
abbrev main_v14 : Ref sig .tc := ⟨.hbm, 41, rfl⟩
abbrev main_v16 : Ref sig .tc := ⟨.hbm, 42, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![784], ![false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![v2.toNat]
def cc0_transform_0 (i : grid0.Coords) : Fin 3 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S3136) ![v2.toNat] S1.size (k0_off1_inb i 0)) numel1_S1
  let c28_i32 : BitVec 32 := 28#32
  let v4 : BitVec 32 := Scalar.divsi v3 c28_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c28_i32 c0_i32_2
  let v11 : BitVec 32 := Scalar.extui v10
  let c0_i32_3 : BitVec 32 := 0#32
  let v12 : BitVec 1 := Scalar.cmpi .slt c28_i32 c0_i32_3
  let v13 : BitVec 32 := Scalar.extui v12
  let v14 : BitVec 32 := Scalar.subi v11 v13
  let v15 : BitVec 1 := Scalar.cmpi .ne v9 v14
  let v16 : BitVec 32 := Scalar.remsi v3 c28_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c28_i32_5 : BitVec 32 := 28#32
  let c0_i32_6 : BitVec 32 := 0#32
  let v21 : BitVec 1 := Scalar.cmpi .eq c28_i32_5 c0_i32_6
  let c1_i32_7 : BitVec 32 := 1#32
  let v22 : BitVec 32 := Scalar.select v21 c1_i32_7 c28_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v20.toNat, v30.toNat, c0_i32_11.toNat]

def cc0_transform_2 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S3136) ![v2.toNat] S1.size (k0_off1_inb i 1)) numel1_S1
  let c28_i32 : BitVec 32 := 28#32
  let v4 : BitVec 32 := Scalar.divsi v3 c28_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c28_i32 c0_i32_1
  let v11 : BitVec 32 := Scalar.extui v10
  let c0_i32_2 : BitVec 32 := 0#32
  let v12 : BitVec 1 := Scalar.cmpi .slt c28_i32 c0_i32_2
  let v13 : BitVec 32 := Scalar.extui v12
  let v14 : BitVec 32 := Scalar.subi v11 v13
  let v15 : BitVec 1 := Scalar.cmpi .ne v9 v14
  let v16 : BitVec 32 := Scalar.remsi v3 c28_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c28_i32_5 : BitVec 32 := 28#32
  let c0_i32_6 : BitVec 32 := 0#32
  let v21 : BitVec 1 := Scalar.cmpi .eq c28_i32_5 c0_i32_6
  let c1_i32_7 : BitVec 32 := 1#32
  let v22 : BitVec 32 := Scalar.select v21 c1_i32_7 c28_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v20.toNat, v30.toNat, c0_i32_11.toNat]

def cc0_transform_3 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S3136) ![v2.toNat] S1.size (k0_off1_inb i 2)) numel1_S1
  let c28_i32 : BitVec 32 := 28#32
  let v4 : BitVec 32 := Scalar.divsi v3 c28_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c28_i32 c0_i32_1
  let v11 : BitVec 32 := Scalar.extui v10
  let c0_i32_2 : BitVec 32 := 0#32
  let v12 : BitVec 1 := Scalar.cmpi .slt c28_i32 c0_i32_2
  let v13 : BitVec 32 := Scalar.extui v12
  let v14 : BitVec 32 := Scalar.subi v11 v13
  let v15 : BitVec 1 := Scalar.cmpi .ne v9 v14
  let v16 : BitVec 32 := Scalar.remsi v3 c28_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c28_i32_4 : BitVec 32 := 28#32
  let c0_i32_5 : BitVec 32 := 0#32
  let v21 : BitVec 1 := Scalar.cmpi .eq c28_i32_4 c0_i32_5
  let c1_i32_6 : BitVec 32 := 1#32
  let v22 : BitVec 32 := Scalar.select v21 c1_i32_6 c28_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

def cc0_transform_4 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S3136) ![v2.toNat] S1.size (k0_off1_inb i 3)) numel1_S1
  let c28_i32 : BitVec 32 := 28#32
  let v4 : BitVec 32 := Scalar.divsi v3 c28_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c28_i32 c0_i32_1
  let v11 : BitVec 32 := Scalar.extui v10
  let c0_i32_2 : BitVec 32 := 0#32
  let v12 : BitVec 1 := Scalar.cmpi .slt c28_i32 c0_i32_2
  let v13 : BitVec 32 := Scalar.extui v12
  let v14 : BitVec 32 := Scalar.subi v11 v13
  let v15 : BitVec 1 := Scalar.cmpi .ne v9 v14
  let v16 : BitVec 32 := Scalar.remsi v3 c28_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c28_i32_4 : BitVec 32 := 28#32
  let c0_i32_5 : BitVec 32 := 0#32
  let v21 : BitVec 1 := Scalar.cmpi .eq c28_i32_4 c0_i32_5
  let c1_i32_6 : BitVec 32 := 1#32
  let v22 : BitVec 32 := Scalar.select v21 c1_i32_6 c28_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

def cc0_transform_5 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  let v3 : BitVec 32 := pf.at 0 (Rect.unit (s := S3136) ![v2.toNat] S1.size (k0_off1_inb i 0)) numel1_S1
  let c28_i32 : BitVec 32 := 28#32
  let v4 : BitVec 32 := Scalar.divsi v3 c28_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c28_i32 c0_i32_2
  let v11 : BitVec 32 := Scalar.extui v10
  let c0_i32_3 : BitVec 32 := 0#32
  let v12 : BitVec 1 := Scalar.cmpi .slt c28_i32 c0_i32_3
  let v13 : BitVec 32 := Scalar.extui v12
  let v14 : BitVec 32 := Scalar.subi v11 v13
  let v15 : BitVec 1 := Scalar.cmpi .ne v9 v14
  let v16 : BitVec 32 := Scalar.remsi v3 c28_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c28_i32_5 : BitVec 32 := 28#32
  let c0_i32_6 : BitVec 32 := 0#32
  let v21 : BitVec 1 := Scalar.cmpi .eq c28_i32_5 c0_i32_6
  let c1_i32_7 : BitVec 32 := 1#32
  let v22 : BitVec 32 := Scalar.select v21 c1_i32_7 c28_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v20.toNat, v30.toNat, c0_i32_11.toNat]

def cc0_transform_6 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let v2 : Index := Scalar.indexCast v1
  let v3 : BitVec 32 := pf.at 0 (Rect.unit (s := S3136) ![v2.toNat] S1.size (k0_off1_inb i 1)) numel1_S1
  let c28_i32 : BitVec 32 := 28#32
  let v4 : BitVec 32 := Scalar.divsi v3 c28_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c28_i32 c0_i32_1
  let v11 : BitVec 32 := Scalar.extui v10
  let c0_i32_2 : BitVec 32 := 0#32
  let v12 : BitVec 1 := Scalar.cmpi .slt c28_i32 c0_i32_2
  let v13 : BitVec 32 := Scalar.extui v12
  let v14 : BitVec 32 := Scalar.subi v11 v13
  let v15 : BitVec 1 := Scalar.cmpi .ne v9 v14
  let v16 : BitVec 32 := Scalar.remsi v3 c28_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let c28_i32_5 : BitVec 32 := 28#32
  let c0_i32_6 : BitVec 32 := 0#32
  let v21 : BitVec 1 := Scalar.cmpi .eq c28_i32_5 c0_i32_6
  let c1_i32_7 : BitVec 32 := 1#32
  let v22 : BitVec 32 := Scalar.select v21 c1_i32_7 c28_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v20.toNat, v30.toNat, c0_i32_11.toNat]

def cc0_transform_7 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let v2 : Index := Scalar.indexCast v1
  let v3 : BitVec 32 := pf.at 0 (Rect.unit (s := S3136) ![v2.toNat] S1.size (k0_off1_inb i 2)) numel1_S1
  let c28_i32 : BitVec 32 := 28#32
  let v4 : BitVec 32 := Scalar.divsi v3 c28_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c28_i32 c0_i32_1
  let v11 : BitVec 32 := Scalar.extui v10
  let c0_i32_2 : BitVec 32 := 0#32
  let v12 : BitVec 1 := Scalar.cmpi .slt c28_i32 c0_i32_2
  let v13 : BitVec 32 := Scalar.extui v12
  let v14 : BitVec 32 := Scalar.subi v11 v13
  let v15 : BitVec 1 := Scalar.cmpi .ne v9 v14
  let v16 : BitVec 32 := Scalar.remsi v3 c28_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c28_i32_4 : BitVec 32 := 28#32
  let c0_i32_5 : BitVec 32 := 0#32
  let v21 : BitVec 1 := Scalar.cmpi .eq c28_i32_4 c0_i32_5
  let c1_i32_6 : BitVec 32 := 1#32
  let v22 : BitVec 32 := Scalar.select v21 c1_i32_6 c28_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

def cc0_transform_8 (k0_off1_inb : ∀ i : grid0.Coords, ∀ (r : Fin 4), ∀ a, (k0_off1 i (BitVec.ofNat 32 r.val)) a + S1.size a ≤ S3136.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let v2 : Index := Scalar.indexCast v1
  let v3 : BitVec 32 := pf.at 0 (Rect.unit (s := S3136) ![v2.toNat] S1.size (k0_off1_inb i 3)) numel1_S1
  let c28_i32 : BitVec 32 := 28#32
  let v4 : BitVec 32 := Scalar.divsi v3 c28_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c28_i32 c0_i32_1
  let v11 : BitVec 32 := Scalar.extui v10
  let c0_i32_2 : BitVec 32 := 0#32
  let v12 : BitVec 1 := Scalar.cmpi .slt c28_i32 c0_i32_2
  let v13 : BitVec 32 := Scalar.extui v12
  let v14 : BitVec 32 := Scalar.subi v11 v13
  let v15 : BitVec 1 := Scalar.cmpi .ne v9 v14
  let v16 : BitVec 32 := Scalar.remsi v3 c28_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c28_i32_4 : BitVec 32 := 28#32
  let c0_i32_5 : BitVec 32 := 0#32
  let v21 : BitVec 1 := Scalar.cmpi .eq c28_i32_4 c0_i32_5
  let c1_i32_6 : BitVec 32 := 1#32
  let v22 : BitVec 32 := Scalar.select v21 c1_i32_6 c28_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x8x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x8x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S224x224x96 : Shape := ⟨3, ![224, 224, 96]⟩
abbrev S784x4 : Shape := ⟨2, ![784, 4]⟩
abbrev S1x224x224x96 : Shape := ⟨4, ![1, 224, 224, 96]⟩
abbrev S1x96x224x224 : Shape := ⟨4, ![1, 96, 224, 224]⟩
abbrev S1x784x4 : Shape := ⟨3, ![1, 784, 4]⟩
abbrev S1x1x784x4 : Shape := ⟨4, ![1, 1, 784, 4]⟩
abbrev S1x8x784x4 : Shape := ⟨4, ![1, 8, 784, 4]⟩
abbrev S1x8x12x28x8x28x8 : Shape := ⟨7, ![1, 8, 12, 28, 8, 28, 8]⟩
abbrev S1x8x28x28x8x8x12 : Shape := ⟨7, ![1, 8, 28, 28, 8, 8, 12]⟩
abbrev S1x8x784x64x12 : Shape := ⟨5, ![1, 8, 784, 64, 12]⟩
abbrev S1x8x784x4x1x1 : Shape := ⟨6, ![1, 8, 784, 4, 1, 1]⟩
abbrev S1x8x1x784x64x12 : Shape := ⟨6, ![1, 8, 1, 784, 64, 12]⟩
abbrev S_ : Shape := ⟨0, ![]⟩
abbrev S8x784x4x1 : Shape := ⟨4, ![8, 784, 4, 1]⟩
abbrev S1 : Shape := ⟨1, ![1]⟩
abbrev S1x1x1x1 : Shape := ⟨4, ![1, 1, 1, 1]⟩
abbrev S8x784x4 : Shape := ⟨3, ![8, 784, 4]⟩
abbrev S1x8x784x4x64x12 : Shape := ⟨6, ![1, 8, 784, 4, 64, 12]⟩
abbrev S1x8x784x256x12 : Shape := ⟨5, ![1, 8, 784, 256, 12]⟩
abbrev S1x8x784x12x256 : Shape := ⟨5, ![1, 8, 784, 12, 256]⟩
abbrev S8x784x64x12 : Shape := ⟨4, ![8, 784, 64, 12]⟩
abbrev S8x784x12x256 : Shape := ⟨4, ![8, 784, 12, 256]⟩
abbrev S8x784x64x256 : Shape := ⟨4, ![8, 784, 64, 256]⟩
abbrev S1x8x784x64x256 : Shape := ⟨5, ![1, 8, 784, 64, 256]⟩
abbrev S1x8x784x64 : Shape := ⟨4, ![1, 8, 784, 64]⟩
abbrev S1x8x784x64x1 : Shape := ⟨5, ![1, 8, 784, 64, 1]⟩
abbrev S8x784x256x12 : Shape := ⟨4, ![8, 784, 256, 12]⟩

abbrev nBuf : Space → Nat
  | .hbm => 106
  | .vmem => 0
  | .smem => 0
  | _ => 0

abbrev bufTy : (tb : Table) → Fin (tcTables nBuf tb) → BufTy
  | .hbm, ⟨0, _⟩ => ⟨S224x224x96, .f32⟩
  | .hbm, ⟨1, _⟩ => ⟨S224x224x96, .f32⟩
  | .hbm, ⟨2, _⟩ => ⟨S224x224x96, .f32⟩
  | .hbm, ⟨3, _⟩ => ⟨S784x4, .i32⟩
  | .hbm, ⟨4, _⟩ => ⟨S1x224x224x96, .f32⟩
  | .hbm, ⟨5, _⟩ => ⟨S1x96x224x224, .f32⟩
  | .hbm, ⟨6, _⟩ => ⟨S1x224x224x96, .f32⟩
  | .hbm, ⟨7, _⟩ => ⟨S1x96x224x224, .f32⟩
  | .hbm, ⟨8, _⟩ => ⟨S1x224x224x96, .f32⟩
  | .hbm, ⟨9, _⟩ => ⟨S1x96x224x224, .f32⟩
  | .hbm, ⟨10, _⟩ => ⟨S1x784x4, .i32⟩
  | .hbm, ⟨11, _⟩ => ⟨S1x1x784x4, .i32⟩
  | .hbm, ⟨12, _⟩ => ⟨S1x8x784x4, .i32⟩
  | .hbm, ⟨13, _⟩ => ⟨S1x8x12x28x8x28x8, .f32⟩
  | .hbm, ⟨14, _⟩ => ⟨S1x8x28x28x8x8x12, .f32⟩
  | .hbm, ⟨15, _⟩ => ⟨S1x8x784x64x12, .f32⟩
  | .hbm, ⟨16, _⟩ => ⟨S1x8x12x28x8x28x8, .f32⟩
  | .hbm, ⟨17, _⟩ => ⟨S1x8x28x28x8x8x12, .f32⟩
  | .hbm, ⟨18, _⟩ => ⟨S1x8x784x64x12, .f32⟩
  | .hbm, ⟨19, _⟩ => ⟨S1x8x12x28x8x28x8, .f32⟩
  | .hbm, ⟨20, _⟩ => ⟨S1x8x28x28x8x8x12, .f32⟩
  | .hbm, ⟨21, _⟩ => ⟨S1x8x784x64x12, .f32⟩
  | .hbm, ⟨22, _⟩ => ⟨S1x8x784x4x1x1, .i32⟩
  | .hbm, ⟨23, _⟩ => ⟨S1x8x1x784x64x12, .f32⟩
  | .hbm, ⟨24, _⟩ => ⟨S_, .i32⟩
  | .hbm, ⟨25, _⟩ => ⟨S1x8x784x4x1x1, .i32⟩
  | .hbm, ⟨26, _⟩ => ⟨S1x8x784x4x1x1, .i1⟩
  | .hbm, ⟨27, _⟩ => ⟨S_, .i32⟩
  | .hbm, ⟨28, _⟩ => ⟨S1x8x784x4x1x1, .i32⟩
  | .hbm, ⟨29, _⟩ => ⟨S1x8x784x4x1x1, .i32⟩
  | .hbm, ⟨30, _⟩ => ⟨S1x8x784x4x1x1, .i32⟩
  | .hbm, ⟨31, _⟩ => ⟨S8x784x4x1, .i32⟩
  | .hbm, ⟨32, _⟩ => ⟨S1x8x784x64x12, .f32⟩
  | .hbm, ⟨33, _⟩ => ⟨S1, .i32⟩
  | .hbm, ⟨34, _⟩ => ⟨S_, .i32⟩
  | .hbm, ⟨35, _⟩ => ⟨S8x784x4x1, .i32⟩
  | .hbm, ⟨36, _⟩ => ⟨S8x784x4x1, .i1⟩
  | .hbm, ⟨37, _⟩ => ⟨S1x1x1x1, .i32⟩
  | .hbm, ⟨38, _⟩ => ⟨S8x784x4x1, .i32⟩
  | .hbm, ⟨39, _⟩ => ⟨S8x784x4x1, .i1⟩
  | .hbm, ⟨40, _⟩ => ⟨S8x784x4x1, .i1⟩
  | .hbm, ⟨41, _⟩ => ⟨S_, .i1⟩
  | .hbm, ⟨42, _⟩ => ⟨S8x784x4, .i1⟩
  | .hbm, ⟨43, _⟩ => ⟨S1x8x784x4x64x12, .f32⟩
  | .hbm, ⟨44, _⟩ => ⟨S1x8x784x4x64x12, .i1⟩
  | .hbm, ⟨45, _⟩ => ⟨S_, .f32⟩
  | .hbm, ⟨46, _⟩ => ⟨S1x8x784x4x64x12, .f32⟩
  | .hbm, ⟨47, _⟩ => ⟨S1x8x784x4x64x12, .f32⟩
  | .hbm, ⟨48, _⟩ => ⟨S1x8x1x784x64x12, .f32⟩
  | .hbm, ⟨49, _⟩ => ⟨S_, .i32⟩
  | .hbm, ⟨50, _⟩ => ⟨S1x8x784x4x1x1, .i32⟩
  | .hbm, ⟨51, _⟩ => ⟨S1x8x784x4x1x1, .i1⟩
  | .hbm, ⟨52, _⟩ => ⟨S_, .i32⟩
  | .hbm, ⟨53, _⟩ => ⟨S1x8x784x4x1x1, .i32⟩
  | .hbm, ⟨54, _⟩ => ⟨S1x8x784x4x1x1, .i32⟩
  | .hbm, ⟨55, _⟩ => ⟨S1x8x784x4x1x1, .i32⟩
  | .hbm, ⟨56, _⟩ => ⟨S8x784x4x1, .i32⟩
  | .hbm, ⟨57, _⟩ => ⟨S1x8x784x64x12, .f32⟩
  | .hbm, ⟨58, _⟩ => ⟨S1, .i32⟩
  | .hbm, ⟨59, _⟩ => ⟨S_, .i32⟩
  | .hbm, ⟨60, _⟩ => ⟨S8x784x4x1, .i32⟩
  | .hbm, ⟨61, _⟩ => ⟨S8x784x4x1, .i1⟩
  | .hbm, ⟨62, _⟩ => ⟨S1x1x1x1, .i32⟩
  | .hbm, ⟨63, _⟩ => ⟨S8x784x4x1, .i32⟩
  | .hbm, ⟨64, _⟩ => ⟨S8x784x4x1, .i1⟩
  | .hbm, ⟨65, _⟩ => ⟨S8x784x4x1, .i1⟩
  | .hbm, ⟨66, _⟩ => ⟨S_, .i1⟩
  | .hbm, ⟨67, _⟩ => ⟨S8x784x4, .i1⟩
  | .hbm, ⟨68, _⟩ => ⟨S1x8x784x4x64x12, .f32⟩
  | .hbm, ⟨69, _⟩ => ⟨S1x8x784x4x64x12, .i1⟩
  | .hbm, ⟨70, _⟩ => ⟨S_, .f32⟩
  | .hbm, ⟨71, _⟩ => ⟨S1x8x784x4x64x12, .f32⟩
  | .hbm, ⟨72, _⟩ => ⟨S1x8x784x4x64x12, .f32⟩
  | .hbm, ⟨73, _⟩ => ⟨S1x8x784x256x12, .f32⟩
  | .hbm, ⟨74, _⟩ => ⟨S1x8x784x256x12, .f32⟩
  | .hbm, ⟨75, _⟩ => ⟨S_, .f32⟩
  | .hbm, ⟨76, _⟩ => ⟨S1x8x784x64x12, .f32⟩
  | .hbm, ⟨77, _⟩ => ⟨S1x8x784x64x12, .f32⟩
  | .hbm, ⟨78, _⟩ => ⟨S1x8x784x12x256, .f32⟩
  | .hbm, ⟨79, _⟩ => ⟨S8x784x64x12, .f32⟩
  | .hbm, ⟨80, _⟩ => ⟨S8x784x12x256, .f32⟩
  | .hbm, ⟨81, _⟩ => ⟨S8x784x64x256, .f32⟩
  | .hbm, ⟨82, _⟩ => ⟨S1x8x784x64x256, .f32⟩
  | .hbm, ⟨83, _⟩ => ⟨S_, .f32⟩
  | .hbm, ⟨84, _⟩ => ⟨S1x8x784x64, .f32⟩
  | .hbm, ⟨85, _⟩ => ⟨S_, .f32⟩
  | .hbm, ⟨86, _⟩ => ⟨S1x8x784x64, .f32⟩
  | .hbm, ⟨87, _⟩ => ⟨S1x8x784x64, .f32⟩
  | .hbm, ⟨88, _⟩ => ⟨S1x8x784x64x1, .f32⟩
  | .hbm, ⟨89, _⟩ => ⟨S1x8x784x64x256, .f32⟩
  | .hbm, ⟨90, _⟩ => ⟨S1x8x784x64x256, .f32⟩
  | .hbm, ⟨91, _⟩ => ⟨S1x8x784x64x256, .f32⟩
  | .hbm, ⟨92, _⟩ => ⟨S_, .f32⟩
  | .hbm, ⟨93, _⟩ => ⟨S1x8x784x64, .f32⟩
  | .hbm, ⟨94, _⟩ => ⟨S1x8x784x64x1, .f32⟩
  | .hbm, ⟨95, _⟩ => ⟨S1x8x784x64x256, .f32⟩
  | .hbm, ⟨96, _⟩ => ⟨S1x8x784x64x256, .f32⟩
  | .hbm, ⟨97, _⟩ => ⟨S8x784x64x256, .f32⟩
  | .hbm, ⟨98, _⟩ => ⟨S8x784x256x12, .f32⟩
  | .hbm, ⟨99, _⟩ => ⟨S8x784x64x12, .f32⟩
  | .hbm, ⟨100, _⟩ => ⟨S1x8x784x64x12, .f32⟩
  | .hbm, ⟨101, _⟩ => ⟨S1x8x28x28x8x8x12, .f32⟩
  | .hbm, ⟨102, _⟩ => ⟨S1x8x12x28x8x28x8, .f32⟩
  | .hbm, ⟨103, _⟩ => ⟨S1x96x224x224, .f32⟩
  | .hbm, ⟨104, _⟩ => ⟨S1x224x224x96, .f32⟩
  | .hbm, ⟨105, _⟩ => ⟨S224x224x96, .f32⟩
  | _, _ => ⟨S224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_c_1 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_c_3 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_cst : Ref sig .tc := ⟨.hbm, 45, rfl⟩
abbrev main_call0_v16 : Ref sig .tc := ⟨.hbm, 46, rfl⟩
abbrev main_v20 : Ref sig .tc := ⟨.hbm, 47, rfl⟩
abbrev main_v21 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_c_1 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_c_3 : Ref sig .tc := ⟨.hbm, 66, rfl⟩
abbrev main_call1_v13 : Ref sig .tc := ⟨.hbm, 67, rfl⟩
abbrev main_call1_v14 : Ref sig .tc := ⟨.hbm, 68, rfl⟩
abbrev main_call1_v15 : Ref sig .tc := ⟨.hbm, 69, rfl⟩
abbrev main_call1_cst : Ref sig .tc := ⟨.hbm, 70, rfl⟩
abbrev main_call1_v16 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_cst : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_0 : Ref sig .tc := ⟨.hbm, 83, rfl⟩
abbrev main_v32 : Ref sig .tc := ⟨.hbm, 84, rfl⟩
abbrev main_cst_1 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_2 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩

abbrev nD : Nat := 1
abbrev τ : Topo := Topo.v7x

variable {F : FTy → Type} [FloatOps F]
-- ==== Kernel3.lean ====
abbrev S224x224x96 : Shape := ⟨3, ![224, 224, 96]⟩
abbrev S1024x128 : Shape := ⟨2, ![1024, 128]⟩
abbrev S96 : Shape := ⟨1, ![96]⟩
abbrev S_ : Shape := ⟨0, ![]⟩
abbrev S8 : Shape := ⟨1, ![8]⟩
abbrev S8x64 : Shape := ⟨2, ![8, 64]⟩
abbrev S512 : Shape := ⟨1, ![512]⟩
abbrev S1x96 : Shape := ⟨2, ![1, 96]⟩
abbrev S512x1 : Shape := ⟨2, ![512, 1]⟩
abbrev S512x96 : Shape := ⟨2, ![512, 96]⟩
abbrev S1024x96 : Shape := ⟨2, ![1024, 96]⟩
abbrev S96x1 : Shape := ⟨2, ![96, 1]⟩
abbrev S1x8 : Shape := ⟨2, ![1, 8]⟩
abbrev S96x8 : Shape := ⟨2, ![96, 8]⟩
abbrev S8x96 : Shape := ⟨2, ![8, 96]⟩
abbrev S8x16x96 : Shape := ⟨3, ![8, 16, 96]⟩
abbrev S8x8x96 : Shape := ⟨3, ![8, 8, 96]⟩
abbrev S64x96 : Shape := ⟨2, ![64, 96]⟩
abbrev S128x96 : Shape := ⟨2, ![128, 96]⟩
abbrev S1024 : Shape := ⟨1, ![1024]⟩
abbrev S1024x1 : Shape := ⟨2, ![1024, 1]⟩

abbrev nBuf : Space → Nat
  | .hbm => 44
  | .vmem => 11
  | .smem => 0
  | _ => 0

abbrev bufTy : (tb : Table) → Fin (tcTables nBuf tb) → BufTy
  | .hbm, ⟨0, _⟩ => ⟨S224x224x96, .f32⟩
  | .hbm, ⟨1, _⟩ => ⟨S224x224x96, .f32⟩
  | .hbm, ⟨2, _⟩ => ⟨S224x224x96, .f32⟩
  | .hbm, ⟨3, _⟩ => ⟨S1024x128, .f32⟩
  | .hbm, ⟨4, _⟩ => ⟨S96, .i32⟩
  | .hbm, ⟨5, _⟩ => ⟨S_, .i32⟩
  | .hbm, ⟨6, _⟩ => ⟨S_, .i32⟩
  | .hbm, ⟨7, _⟩ => ⟨S96, .i32⟩
  | .hbm, ⟨8, _⟩ => ⟨S96, .i32⟩
  | .hbm, ⟨9, _⟩ => ⟨S96, .i32⟩
  | .hbm, ⟨10, _⟩ => ⟨S_, .i32⟩
  | .hbm, ⟨11, _⟩ => ⟨S96, .i32⟩
  | .hbm, ⟨12, _⟩ => ⟨S96, .i1⟩
  | .hbm, ⟨13, _⟩ => ⟨S96, .i32⟩
  | .hbm, ⟨14, _⟩ => ⟨S96, .i32⟩
  | .hbm, ⟨15, _⟩ => ⟨S_, .i32⟩
  | .hbm, ⟨16, _⟩ => ⟨S96, .i32⟩
  | .hbm, ⟨17, _⟩ => ⟨S96, .i1⟩
  | .hbm, ⟨18, _⟩ => ⟨S96, .i1⟩
  | .hbm, ⟨19, _⟩ => ⟨S_, .i32⟩
  | .hbm, ⟨20, _⟩ => ⟨S96, .i32⟩
  | .hbm, ⟨21, _⟩ => ⟨S96, .i32⟩
  | .hbm, ⟨22, _⟩ => ⟨S96, .i32⟩
  | .hbm, ⟨23, _⟩ => ⟨S8, .i32⟩
  | .hbm, ⟨24, _⟩ => ⟨S8x64, .i32⟩
  | .hbm, ⟨25, _⟩ => ⟨S512, .i32⟩
  | .hbm, ⟨26, _⟩ => ⟨S1x96, .i32⟩
  | .hbm, ⟨27, _⟩ => ⟨S512x1, .i32⟩
  | .hbm, ⟨28, _⟩ => ⟨S512x96, .i32⟩
  | .hbm, ⟨29, _⟩ => ⟨S512x96, .i32⟩
  | .hbm, ⟨30, _⟩ => ⟨S512x96, .i1⟩
  | .hbm, ⟨31, _⟩ => ⟨S512x96, .f32⟩
  | .hbm, ⟨32, _⟩ => ⟨S_, .f32⟩
  | .hbm, ⟨33, _⟩ => ⟨S512x96, .f32⟩
  | .hbm, ⟨34, _⟩ => ⟨S512x96, .f32⟩
  | .hbm, ⟨35, _⟩ => ⟨S1024x96, .f32⟩
  | .hbm, ⟨36, _⟩ => ⟨S96x1, .i32⟩
  | .hbm, ⟨37, _⟩ => ⟨S1x8, .i32⟩
  | .hbm, ⟨38, _⟩ => ⟨S96x8, .i32⟩
  | .hbm, ⟨39, _⟩ => ⟨S96x8, .i32⟩
  | .hbm, ⟨40, _⟩ => ⟨S96x8, .i1⟩
  | .hbm, ⟨41, _⟩ => ⟨S96x8, .f32⟩
  | .hbm, ⟨42, _⟩ => ⟨S8x96, .f32⟩
  | .hbm, ⟨43, _⟩ => ⟨S224x224x96, .f32⟩
  | .local _ .vmem, ⟨0, _⟩ => ⟨S8x16x96, .f32⟩
  | .local _ .vmem, ⟨1, _⟩ => ⟨S8x16x96, .f32⟩
  | .local _ .vmem, ⟨2, _⟩ => ⟨S8x16x96, .f32⟩
  | .local _ .vmem, ⟨3, _⟩ => ⟨S8x16x96, .f32⟩
  | .local _ .vmem, ⟨4, _⟩ => ⟨S8x16x96, .f32⟩
  | .local _ .vmem, ⟨5, _⟩ => ⟨S8x16x96, .f32⟩
  | .local _ .vmem, ⟨6, _⟩ => ⟨S1024x96, .f32⟩
  | .local _ .vmem, ⟨7, _⟩ => ⟨S1024x128, .f32⟩
  | .local _ .vmem, ⟨8, _⟩ => ⟨S8x96, .f32⟩
  | .local _ .vmem, ⟨9, _⟩ => ⟨S8x16x96, .f32⟩
  | .local _ .vmem, ⟨10, _⟩ => ⟨S8x16x96, .f32⟩
  | _, _ => ⟨S224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![28, 14], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x16x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x16x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S224x224x96 : Shape := ⟨3, ![224, 224, 96]⟩
abbrev S1024x128 : Shape := ⟨2, ![1024, 128]⟩
abbrev S28x8x28x8x96 : Shape := ⟨5, ![28, 8, 28, 8, 96]⟩
abbrev S28x28x8x8x96 : Shape := ⟨5, ![28, 28, 8, 8, 96]⟩
abbrev S784x64x8x12 : Shape := ⟨4, ![784, 64, 8, 12]⟩
abbrev S784x8x64x12 : Shape := ⟨4, ![784, 8, 64, 12]⟩
abbrev S_ : Shape := ⟨0, ![]⟩
abbrev S784x8x12x64 : Shape := ⟨4, ![784, 8, 12, 64]⟩
abbrev S784x8x64x64 : Shape := ⟨4, ![784, 8, 64, 64]⟩
abbrev S784x8x64 : Shape := ⟨3, ![784, 8, 64]⟩
abbrev S784x8x64x1 : Shape := ⟨4, ![784, 8, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S224x224x96, .f32⟩
  | .hbm, ⟨1, _⟩ => ⟨S224x224x96, .f32⟩
  | .hbm, ⟨2, _⟩ => ⟨S224x224x96, .f32⟩
  | .hbm, ⟨3, _⟩ => ⟨S1024x128, .f32⟩
  | .hbm, ⟨4, _⟩ => ⟨S28x8x28x8x96, .f32⟩
  | .hbm, ⟨5, _⟩ => ⟨S28x28x8x8x96, .f32⟩
  | .hbm, ⟨6, _⟩ => ⟨S784x64x8x12, .f32⟩
  | .hbm, ⟨7, _⟩ => ⟨S784x8x64x12, .f32⟩
  | .hbm, ⟨8, _⟩ => ⟨S28x8x28x8x96, .f32⟩
  | .hbm, ⟨9, _⟩ => ⟨S28x28x8x8x96, .f32⟩
  | .hbm, ⟨10, _⟩ => ⟨S784x64x8x12, .f32⟩
  | .hbm, ⟨11, _⟩ => ⟨S784x8x64x12, .f32⟩
  | .hbm, ⟨12, _⟩ => ⟨S28x8x28x8x96, .f32⟩
  | .hbm, ⟨13, _⟩ => ⟨S28x28x8x8x96, .f32⟩
  | .hbm, ⟨14, _⟩ => ⟨S784x64x8x12, .f32⟩
  | .hbm, ⟨15, _⟩ => ⟨S784x8x64x12, .f32⟩
  | .hbm, ⟨16, _⟩ => ⟨S_, .f32⟩
  | .hbm, ⟨17, _⟩ => ⟨S784x8x64x12, .f32⟩
  | .hbm, ⟨18, _⟩ => ⟨S784x8x64x12, .f32⟩
  | .hbm, ⟨19, _⟩ => ⟨S784x8x12x64, .f32⟩
  | .hbm, ⟨20, _⟩ => ⟨S784x8x64x64, .f32⟩
  | .hbm, ⟨21, _⟩ => ⟨S_, .f32⟩
  | .hbm, ⟨22, _⟩ => ⟨S784x8x64, .f32⟩
  | .hbm, ⟨23, _⟩ => ⟨S_, .f32⟩
  | .hbm, ⟨24, _⟩ => ⟨S784x8x64, .f32⟩
  | .hbm, ⟨25, _⟩ => ⟨S784x8x64, .f32⟩
  | .hbm, ⟨26, _⟩ => ⟨S784x8x64x1, .f32⟩
  | .hbm, ⟨27, _⟩ => ⟨S784x8x64x64, .f32⟩
  | .hbm, ⟨28, _⟩ => ⟨S784x8x64x64, .f32⟩
  | .hbm, ⟨29, _⟩ => ⟨S784x8x64x64, .f32⟩
  | .hbm, ⟨30, _⟩ => ⟨S_, .f32⟩
  | .hbm, ⟨31, _⟩ => ⟨S784x8x64, .f32⟩
  | .hbm, ⟨32, _⟩ => ⟨S784x8x64x1, .f32⟩
  | .hbm, ⟨33, _⟩ => ⟨S784x8x64x64, .f32⟩
  | .hbm, ⟨34, _⟩ => ⟨S784x8x64x64, .f32⟩
  | .hbm, ⟨35, _⟩ => ⟨S784x8x64x12, .f32⟩
  | .hbm, ⟨36, _⟩ => ⟨S784x64x8x12, .f32⟩
  | .hbm, ⟨37, _⟩ => ⟨S28x28x8x8x96, .f32⟩
  | .hbm, ⟨38, _⟩ => ⟨S28x8x28x8x96, .f32⟩
  | .hbm, ⟨39, _⟩ => ⟨S224x224x96, .f32⟩
  | _, _ => ⟨S224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Reg0.lean ====
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index of every window of the joint projection. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- One element of the joint projection: a row of the tokens against a column of the joint weights, plus the bias. -/
def qf (X : FVec Ideal S50176x192 .f32) (W : FVec Ideal S192x576 .f32) (b : FVec Ideal S1x576 .f32) (n : Fin 50176) (k : Fin 576) : EReal :=
  (∑ a : Fin 192, X (ix2 n a) * W (ix2 a k)) + b (ix2 0 k)

/-- The body's joint projection of a block of rows. -/
theorem y_at (x : Vec Ideal S1792x192 .f32) (w : Vec Ideal S192x576 .f32) (b : Vec Ideal S1x576 .f32) (r : Fin 1792) (k : Fin 576) :
    k0_pay1 (F := Ideal) x w b (ix2 r k) = (∑ a : Fin 192, x (ix2 r a) * w (ix2 a k)) + b (ix2 0 k) := by
  pointwise [k0_pay1]

/-- The same on the blocks of one step. -/
theorem y_blk (c : Dev nD) (t : Fin cfg0.N) (r : Fin 1792) (k : Fin 576) (n : Fin 50176) (hn : (n : ℕ) = t.val * 1792 + r) :
    k0_pay1 (F := Ideal) (iblk0 V c 0 t) (iblk0 V c 1 t) (iblk0 V c 2 t) (ix2 r k) = qf (V c main_v0) (V c main_v4) (V c main_v6) n k := by
  rw [y_at, qf]
  blk_point [iblk0, idx0 t]

/-- Ninety-six columns of the joint projection, from column `o` on, as an array. -/
def QF (o : ℕ) (ho : o + 96 ≤ 576) (X : FVec Ideal S50176x192 .f32) (W : FVec Ideal S192x576 .f32) (b : FVec Ideal S1x576 .f32) : FVec Ideal S50176x96 .f32 :=
  fun i => qf X W b (i 0) ⟨o + (i 1).val, lt_of_lt_of_le (Nat.add_lt_add_left (i 1).isLt o) ho⟩

/-- The body's store of columns 0 to 95. -/
theorem q3_at (x : Vec Ideal S1792x192 .f32) (w : Vec Ideal S192x576 .f32) (b : Vec Ideal S1x576 .f32) (r : Fin 1792) (j : Fin 96) :
    k0_pay2 (F := Ideal) x w b (ix2 r j) = k0_pay1 (F := Ideal) x w b (ix2 r (⟨0 + j.val, by omega⟩ : Fin 576)) := by
  pointwise [k0_pay2]

/-- The array of columns 0 to 95. -/
theorem q3_final (c : Dev nD) : (dat0 V c).arrAt 3 cfg0.N = QF 0 (by decide) (V c main_v0) (V c main_v4) (V c main_v6) := by
  refine (dat0 V c).arrAt_eq_of_covers 3 _ (by decide +kernel) fun t _ y => ?_
  blk_simp
  rw [after0_3]; frame_out
  idx_vars y
  have ht : t.val < 28 := lt_of_lt_of_eq t.isLt N_0
  rw [q3_at, y_blk V c t y0 _ ⟨t.val * 1792 + y0, by omega⟩ rfl]
  refine congrArg₂ (qf (V c main_v0) (V c main_v4) (V c main_v6)) (Fin.ext ?_) (Fin.ext ?_)
  · blk_simp [idx0 t]
  · blk_simp [idx0 t]

/-- The body's store of columns 96 to 191. -/
theorem q4_at (x : Vec Ideal S1792x192 .f32) (w : Vec Ideal S192x576 .f32) (b : Vec Ideal S1x576 .f32) (r : Fin 1792) (j : Fin 96) :
    k0_pay3 (F := Ideal) x w b (ix2 r j) = k0_pay1 (F := Ideal) x w b (ix2 r (⟨96 + j.val, by omega⟩ : Fin 576)) := by
  pointwise [k0_pay3]

/-- The array of columns 96 to 191. -/
theorem q4_final (c : Dev nD) : (dat0 V c).arrAt 4 cfg0.N = QF 96 (by decide) (V c main_v0) (V c main_v4) (V c main_v6) := by
  refine (dat0 V c).arrAt_eq_of_covers 4 _ (by decide +kernel) fun t _ y => ?_
  blk_simp
  rw [after0_4]; frame_out
  idx_vars y
  have ht : t.val < 28 := lt_of_lt_of_eq t.isLt N_0
  rw [q4_at, y_blk V c t y0 _ ⟨t.val * 1792 + y0, by omega⟩ rfl]
  refine congrArg₂ (qf (V c main_v0) (V c main_v4) (V c main_v6)) (Fin.ext ?_) (Fin.ext ?_)
  · blk_simp [idx0 t]
  · blk_simp [idx0 t]

/-- The body's store of columns 192 to 287. -/
theorem q5_at (x : Vec Ideal S1792x192 .f32) (w : Vec Ideal S192x576 .f32) (b : Vec Ideal S1x576 .f32) (r : Fin 1792) (j : Fin 96) :
    k0_pay4 (F := Ideal) x w b (ix2 r j) = k0_pay1 (F := Ideal) x w b (ix2 r (⟨192 + j.val, by omega⟩ : Fin 576)) := by
  pointwise [k0_pay4]

/-- The array of columns 192 to 287. -/
theorem q5_final (c : Dev nD) : (dat0 V c).arrAt 5 cfg0.N = QF 192 (by decide) (V c main_v0) (V c main_v4) (V c main_v6) := by
  refine (dat0 V c).arrAt_eq_of_covers 5 _ (by decide +kernel) fun t _ y => ?_
  blk_simp
  rw [after0_5]; frame_out
  idx_vars y
  have ht : t.val < 28 := lt_of_lt_of_eq t.isLt N_0
  rw [q5_at, y_blk V c t y0 _ ⟨t.val * 1792 + y0, by omega⟩ rfl]
  refine congrArg₂ (qf (V c main_v0) (V c main_v4) (V c main_v6)) (Fin.ext ?_) (Fin.ext ?_)
  · blk_simp [idx0 t]
  · blk_simp [idx0 t]

/-- The body's store of columns 288 to 383. -/
theorem q6_at (x : Vec Ideal S1792x192 .f32) (w : Vec Ideal S192x576 .f32) (b : Vec Ideal S1x576 .f32) (r : Fin 1792) (j : Fin 96) :
    k0_pay5 (F := Ideal) x w b (ix2 r j) = k0_pay1 (F := Ideal) x w b (ix2 r (⟨288 + j.val, by omega⟩ : Fin 576)) := by
  pointwise [k0_pay5]

/-- The array of columns 288 to 383. -/
theorem q6_final (c : Dev nD) : (dat0 V c).arrAt 6 cfg0.N = QF 288 (by decide) (V c main_v0) (V c main_v4) (V c main_v6) := by
  refine (dat0 V c).arrAt_eq_of_covers 6 _ (by decide +kernel) fun t _ y => ?_
  blk_simp
  rw [after0_6]; frame_out
  idx_vars y
  have ht : t.val < 28 := lt_of_lt_of_eq t.isLt N_0
  rw [q6_at, y_blk V c t y0 _ ⟨t.val * 1792 + y0, by omega⟩ rfl]
  refine congrArg₂ (qf (V c main_v0) (V c main_v4) (V c main_v6)) (Fin.ext ?_) (Fin.ext ?_)
  · blk_simp [idx0 t]
  · blk_simp [idx0 t]

/-- The body's store of columns 384 to 479. -/
theorem q7_at (x : Vec Ideal S1792x192 .f32) (w : Vec Ideal S192x576 .f32) (b : Vec Ideal S1x576 .f32) (r : Fin 1792) (j : Fin 96) :
    k0_pay6 (F := Ideal) x w b (ix2 r j) = k0_pay1 (F := Ideal) x w b (ix2 r (⟨384 + j.val, by omega⟩ : Fin 576)) := by
  pointwise [k0_pay6]

/-- The array of columns 384 to 479. -/
theorem q7_final (c : Dev nD) : (dat0 V c).arrAt 7 cfg0.N = QF 384 (by decide) (V c main_v0) (V c main_v4) (V c main_v6) := by
  refine (dat0 V c).arrAt_eq_of_covers 7 _ (by decide +kernel) fun t _ y => ?_
  blk_simp
  rw [after0_7]; frame_out
  idx_vars y
  have ht : t.val < 28 := lt_of_lt_of_eq t.isLt N_0
  rw [q7_at, y_blk V c t y0 _ ⟨t.val * 1792 + y0, by omega⟩ rfl]
  refine congrArg₂ (qf (V c main_v0) (V c main_v4) (V c main_v6)) (Fin.ext ?_) (Fin.ext ?_)
  · blk_simp [idx0 t]
  · blk_simp [idx0 t]

/-- The body's store of columns 480 to 575. -/
theorem q8_at (x : Vec Ideal S1792x192 .f32) (w : Vec Ideal S192x576 .f32) (b : Vec Ideal S1x576 .f32) (r : Fin 1792) (j : Fin 96) :
    k0_pay7 (F := Ideal) x w b (ix2 r j) = k0_pay1 (F := Ideal) x w b (ix2 r (⟨480 + j.val, by omega⟩ : Fin 576)) := by
  pointwise [k0_pay7]

/-- The array of columns 480 to 575. -/
theorem q8_final (c : Dev nD) : (dat0 V c).arrAt 8 cfg0.N = QF 480 (by decide) (V c main_v0) (V c main_v4) (V c main_v6) := by
  refine (dat0 V c).arrAt_eq_of_covers 8 _ (by decide +kernel) fun t _ y => ?_
  blk_simp
  rw [after0_8]; frame_out
  idx_vars y
  have ht : t.val < 28 := lt_of_lt_of_eq t.isLt N_0
  rw [q8_at, y_blk V c t y0 _ ⟨t.val * 1792 + y0, by omega⟩ rfl]
  refine congrArg₂ (qf (V c main_v0) (V c main_v4) (V c main_v6)) (Fin.ext ?_) (Fin.ext ?_)
  · blk_simp [idx0 t]
  · blk_simp [idx0 t]

/-- The column of the joint projection that the convolution's channel `j` reads: the routing branch's values first, then the window branch's. -/
def lcol (j : Fin 192) : Fin 576 := if h : (j : ℕ) < 96 then ⟨480 + j, by omega⟩ else ⟨96 + j, by omega⟩

/-- The body's store of the convolution's input. -/
theorem q9_at (x : Vec Ideal S1792x192 .f32) (w : Vec Ideal S192x576 .f32) (b : Vec Ideal S1x576 .f32) (r : Fin 1792) (j : Fin 192) :
    k0_pay8 (F := Ideal) x w b (ix2 r j) = k0_pay1 (F := Ideal) x w b (ix2 r (lcol j)) := by
  pointwise [k0_pay8]
  unfold lcol
  split
  · rfl
  · refine congrArg _ (congrArg _ (Fin.ext ?_))
    show 192 + (j.val - 96) = 96 + j.val
    omega

/-- The convolution's input as an array. -/
def LI (X : FVec Ideal S50176x192 .f32) (W : FVec Ideal S192x576 .f32) (b : FVec Ideal S1x576 .f32) : FVec Ideal S50176x192 .f32 :=
  fun i => qf X W b (i 0) (lcol (i 1))

/-- The convolution's input array. -/
theorem q9_final (c : Dev nD) : (dat0 V c).arrAt 9 cfg0.N = LI (V c main_v0) (V c main_v4) (V c main_v6) := by
  refine (dat0 V c).arrAt_eq_of_covers 9 _ (by decide +kernel) fun t _ y => ?_
  blk_simp
  rw [after0_9]; frame_out
  idx_vars y
  have ht : t.val < 28 := lt_of_lt_of_eq t.isLt N_0
  rw [q9_at, y_blk V c t y0 _ ⟨t.val * 1792 + y0, by omega⟩ rfl]
  refine congrArg₂ (fun n j => qf (V c main_v0) (V c main_v4) (V c main_v6) n (lcol j)) (Fin.ext ?_) (Fin.ext ?_)
  · blk_simp [idx0 t]
  · blk_simp [idx0 t]

end Cert.KernelIdeal.Value

end
-- ==== Proof.Reg1.lean ====
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index of every window of the convolution. -/
theorem idx1 : ∀ t : Fin cfg1.N, win1_0.index t = ![t.val, 0, 0] ∧ win1_1.index t = ![t.val, 0, 0] ∧ win1_2.index t = ![t.val, 0, 0]
    ∧ win1_3.index t = ![0, 0] ∧ win1_4.index t = ![0, 0] ∧ win1_5.index t = ![t.val, 0, 0] :=
  (by decide +kernel : ∀ t : Fin grid1.N, _)

/-- Nine products of neighbours and weights after the bias, in the body's order. -/
def nine (b : EReal) (x : Fin 3 → Fin 3 → EReal) (w : Fin 9 → EReal) : EReal :=
  b + x 0 0 * w 0 + x 0 1 * w 1 + x 0 2 * w 2 + x 1 0 * w 3 + x 1 1 * w 4 + x 1 2 * w 5 + x 2 0 * w 6 + x 2 1 * w 7 + x 2 2 * w 8

/-- The column of the padded row that tap `e` reads. -/
def sh (j : Fin 224) (e : Fin 3) : Fin 226 := ⟨e + j, by omega⟩

/-- The weights' row of a tap. -/
def wr (k : Fin 9) : Fin 16 := ⟨k, by omega⟩

/-- The convolution's store, element by element. -/
theorem lepe_at (x0 x1 x2 : Vec Ideal S8x226x192 .f32) (w : Vec Ideal S16x192 .f32) (b : Vec Ideal S1x192 .f32) (i : Fin 8) (j : Fin 224) (k : Fin 192) :
    out1_5 (F := Ideal) x0 x1 x2 w b (ix3 i j k) = nine (b (ix2 0 k))
      ![fun e => x0 (ix3 i (sh j e) k), fun e => x1 (ix3 i (sh j e) k), fun e => x2 (ix3 i (sh j e) k)] (fun q => w (ix2 (wr q) k)) := by
  frame_out
  pointwise [k1_pay1, k1_pay2, k1_pay3, k1_pay4, k1_pay5]
  have h0 : sh j 0 = (⟨j.val, by omega⟩ : Fin 226) := Fin.ext (by show 0 + j.val = j.val; omega)
  show _ = nine (b (ix2 0 k)) _ _
  simp only [nine, Matrix.cons_val_zero, Matrix.cons_val_one, Matrix.cons_val, h0]
  rfl

/-- The convolution of three shifted copies of the padded rows, as an array. -/
def LF (x0 x1 x2 : FVec Ideal S224x226x192 .f32) (w : FVec Ideal S16x192 .f32) (b : FVec Ideal S1x192 .f32) : FVec Ideal S224x224x192 .f32 :=
  fun y => nine (b (ix2 0 (y 2)))
      ![fun e => x0 (ix3 (y 0) (sh (y 1) e) (y 2)), fun e => x1 (ix3 (y 0) (sh (y 1) e) (y 2)), fun e => x2 (ix3 (y 0) (sh (y 1) e) (y 2))] (fun q => w (ix2 (wr q) (y 2)))

set_option maxHeartbeats 1000000 in
/-- The convolution's array. -/
theorem lepe_final (c : Dev nD) : (dat1 V c).arrAt 5 cfg1.N = LF (V c main_v16) (V c main_v17) (V c main_v18) (V c main_v21) (V c main_v22) := by
  refine (dat1 V c).arrAt_eq_of_covers 5 _ (by decide +kernel) fun t _ y => ?_
  blk_simp
  rw [after1_5]
  idx_vars y
  rw [lepe_at, LF]
  have ht : t.val < 28 := lt_of_lt_of_eq t.isLt N_1
  have e0 : ∀ (a : Fin 226), iblk1 V c 0 t (ix3 y0 a y2) = V c main_v16 (ix3 ((win1_5.blk t).view.emb (ix3 y0 y1 y2) 0) a ((win1_5.blk t).view.emb (ix3 y0 y1 y2) 2)) := by
    intro a; blk_point [iblk1, idx1 t]
  have e1 : ∀ (a : Fin 226), iblk1 V c 1 t (ix3 y0 a y2) = V c main_v17 (ix3 ((win1_5.blk t).view.emb (ix3 y0 y1 y2) 0) a ((win1_5.blk t).view.emb (ix3 y0 y1 y2) 2)) := by
    intro a; blk_point [iblk1, idx1 t]
  have e2 : ∀ (a : Fin 226), iblk1 V c 2 t (ix3 y0 a y2) = V c main_v18 (ix3 ((win1_5.blk t).view.emb (ix3 y0 y1 y2) 0) a ((win1_5.blk t).view.emb (ix3 y0 y1 y2) 2)) := by
    intro a; blk_point [iblk1, idx1 t]
  have e3 : ∀ q : Fin 16, iblk1 V c 3 t (ix2 q y2) = V c main_v21 (ix2 q ((win1_5.blk t).view.emb (ix3 y0 y1 y2) 2)) := by
    intro q; blk_point [iblk1, idx1 t]
  have e4 : iblk1 V c 4 t (ix2 0 y2) = V c main_v22 (ix2 0 ((win1_5.blk t).view.emb (ix3 y0 y1 y2) 2)) := by
    blk_point [iblk1, idx1 t]
  have e5 : ((win1_5.blk t).view.emb (ix3 y0 y1 y2) 1 : Fin 224) = y1 := Fin.ext (by blk_simp [idx1 t])
  simp only [e0, e1, e2, e3, e4]
  rw [e5]

end Cert.KernelIdeal.Value

end
-- ==== Proof.Consts.lean ====
module

public import Idealize.ShloMosaic.PureOps.Ideal

@[expose] public section

noncomputable section

namespace Cert.Consts

open Idealize.ShloMosaic

/-- The word of minus infinity denotes `⊥`. -/
theorem neg_inf : Ideal.ofBits .f32 0xFF800000#32 = ⊥ := by
  simp [Ideal.ofBits, Ideal.ieee]

/-- The word of plus infinity denotes `⊤`. -/
theorem pos_inf : Ideal.ofBits .f32 0x7F800000#32 = ⊤ := by
  simp [Ideal.ofBits, Ideal.ieee]

/-- The word of the channel attention's scale denotes a real number. -/
theorem ca_scale : ∃ s : ℝ, Ideal.ofBits .f32 0x3E5105EC#32 = (s : EReal) := by
  simp [Ideal.ofBits, Ideal.ieee, -EReal.coe_mul]

end Cert.Consts

end
-- ==== Proof.RefPre.lean ====
module

public import proofs.«01_k».proof.Proof.Gen.ReferenceIdeal
public import Idealize.ShloMosaic.Lib.StableHlo.Run
public import Idealize.ShloMosaic.Lib.Pipeline.ValueKit
public import proofs.«01_k».proof.Proof.Consts

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The window branch's queries, keys and values. -/
def rQ (A : FVec Ideal S1x224x224x192 .f32) (W : FVec Ideal S96x288 .f32) (b : FVec Ideal S288 .f32) : FVec Ideal S1x224x224x288 .f32 :=
  addf (Host.dotGeneral dot_S1x224x224x96_S96x288_S1x224x224x288_3_0_012_1_n_n none (extractStridedSlice S1x224x224x96 ![0, 0, 0, 0] A slices_S1x224x224x192_S1x224x224x96_0_0_0_0) W) (broadcastInDim S1x224x224x288 ![0, 1, 2, 3] bcast_S1x1x1x288_S1x224x224x288_0_1_2_3 (broadcastInDim S1x1x1x288 ![3] bcast_S288_S1x1x1x288_3 b))

/-- The routing branch's queries, keys and values, channels first. -/
def rB (A : FVec Ideal S1x224x224x192 .f32) (W : FVec Ideal S96x288 .f32) (b : FVec Ideal S288 .f32) : FVec Ideal S1x288x224x224 .f32 :=
  transpose S1x288x224x224 [0, 3, 1, 2] (addf (Host.dotGeneral dot_S1x224x224x96_S96x288_S1x224x224x288_3_0_012_1_n_n none (extractStridedSlice S1x224x224x96 ![0, 0, 0, 96] A slices_S1x224x224x192_S1x224x224x96_0_0_0_96) W) (broadcastInDim S1x224x224x288 ![0, 1, 2, 3] bcast_S1x1x1x288_S1x224x224x288_0_1_2_3 (broadcastInDim S1x1x1x288 ![3] bcast_S288_S1x1x1x288_3 b))) transposes_S1x224x224x288_S1x288x224x224_0_3_1_2

/-- The convolution's input, padded by a ring of zeros: the routing branch's values, then the window branch's. -/
def rZ (B : FVec Ideal S1x288x224x224 .f32) (Q : FVec Ideal S1x224x224x288 .f32) : FVec Ideal S1x192x226x226 .f32 :=
  pad S1x192x226x226 ![0, 0, 1, 1] ![0, 0, 1, 1] ![0, 0, 0, 0] (concatenate S1x192x224x224 1 [⟨S1x96x224x224, (extractStridedSlice S1x96x224x224 ![0, 192, 0, 0] B slices_S1x288x224x224_S1x96x224x224_0_192_0_0)⟩, ⟨S1x96x224x224, (transpose S1x96x224x224 [0, 3, 1, 2] (extractStridedSlice S1x224x224x96 ![0, 0, 0, 192] Q slices_S1x224x224x288_S1x224x224x96_0_0_0_192) transposes_S1x224x224x96_S1x96x224x224_0_3_1_2)⟩] concatenates_S1x96x224x224_S1x96x224x224_S1x192x224x224_d1) (sitofp .f32 (constantI S_ 32 0#32)) pads_S1x192x224x224_S1x192x226x226_000_000_110_110 h_S_

/-- The two branches' outputs side by side, channels first. -/
def rC (A0 A1 : FVec Ideal S224x224x96 .f32) : FVec Ideal S1x192x224x224 .f32 :=
  concatenate S1x192x224x224 1 [⟨S1x96x224x224, (transpose S1x96x224x224 [0, 3, 1, 2] (broadcastInDim S1x224x224x96 ![1, 2, 3] bcast_S224x224x96_S1x224x224x96_1_2_3 A0) transposes_S1x224x224x96_S1x96x224x224_0_3_1_2)⟩, ⟨S1x96x224x224, (transpose S1x96x224x224 [0, 3, 1, 2] (broadcastInDim S1x224x224x96 ![1, 2, 3] bcast_S224x224x96_S1x224x224x96_1_2_3 A1) transposes_S1x224x224x96_S1x96x224x224_0_3_1_2)⟩] concatenates_S1x96x224x224_S1x96x224x224_S1x192x224x224_d1

/-- The convolution, tap by tap, plus its bias. -/
def rO (Z : FVec Ideal S1x192x226x226 .f32) (w : FVec Ideal S192x1x3x3 .f32) (b : FVec Ideal S192 .f32) : FVec Ideal S1x192x224x224 .f32 :=
  addf (addf (addf (addf (addf (addf (addf (addf (addf (addf (broadcastInDim S1x192x224x224 ![] bcast_S_S1x192x224x224 (constant S_ .f32 0x00000000#32)) (mulf (extractStridedSlice S1x192x224x224 ![0, 0, 0, 0] Z slices_S1x192x226x226_S1x192x224x224_0_0_0_0) (broadcastInDim S1x192x224x224 ![0, 1, 2, 3] bcast_S1x192x1x1_S1x192x224x224_0_1_2_3 (shapeCast _ (shapeCast _ (extractStridedSlice S192x1x1x1 ![0, 0, 0, 0] w slices_S192x1x3x3_S192x1x1x1_0_0_0_0) shapeCasts_S192x1x1x1_S192) shapeCasts_S192_S1x192x1x1)))) (mulf (extractStridedSlice S1x192x224x224 ![0, 0, 0, 1] Z slices_S1x192x226x226_S1x192x224x224_0_0_0_1) (broadcastInDim S1x192x224x224 ![0, 1, 2, 3] bcast_S1x192x1x1_S1x192x224x224_0_1_2_3 (shapeCast _ (shapeCast _ (extractStridedSlice S192x1x1x1 ![0, 0, 0, 1] w slices_S192x1x3x3_S192x1x1x1_0_0_0_1) shapeCasts_S192x1x1x1_S192) shapeCasts_S192_S1x192x1x1)))) (mulf (extractStridedSlice S1x192x224x224 ![0, 0, 0, 2] Z slices_S1x192x226x226_S1x192x224x224_0_0_0_2) (broadcastInDim S1x192x224x224 ![0, 1, 2, 3] bcast_S1x192x1x1_S1x192x224x224_0_1_2_3 (shapeCast _ (shapeCast _ (extractStridedSlice S192x1x1x1 ![0, 0, 0, 2] w slices_S192x1x3x3_S192x1x1x1_0_0_0_2) shapeCasts_S192x1x1x1_S192) shapeCasts_S192_S1x192x1x1)))) (mulf (extractStridedSlice S1x192x224x224 ![0, 0, 1, 0] Z slices_S1x192x226x226_S1x192x224x224_0_0_1_0) (broadcastInDim S1x192x224x224 ![0, 1, 2, 3] bcast_S1x192x1x1_S1x192x224x224_0_1_2_3 (shapeCast _ (shapeCast _ (extractStridedSlice S192x1x1x1 ![0, 0, 1, 0] w slices_S192x1x3x3_S192x1x1x1_0_0_1_0) shapeCasts_S192x1x1x1_S192) shapeCasts_S192_S1x192x1x1)))) (mulf (extractStridedSlice S1x192x224x224 ![0, 0, 1, 1] Z slices_S1x192x226x226_S1x192x224x224_0_0_1_1) (broadcastInDim S1x192x224x224 ![0, 1, 2, 3] bcast_S1x192x1x1_S1x192x224x224_0_1_2_3 (shapeCast _ (shapeCast _ (extractStridedSlice S192x1x1x1 ![0, 0, 1, 1] w slices_S192x1x3x3_S192x1x1x1_0_0_1_1) shapeCasts_S192x1x1x1_S192) shapeCasts_S192_S1x192x1x1)))) (mulf (extractStridedSlice S1x192x224x224 ![0, 0, 1, 2] Z slices_S1x192x226x226_S1x192x224x224_0_0_1_2) (broadcastInDim S1x192x224x224 ![0, 1, 2, 3] bcast_S1x192x1x1_S1x192x224x224_0_1_2_3 (shapeCast _ (shapeCast _ (extractStridedSlice S192x1x1x1 ![0, 0, 1, 2] w slices_S192x1x3x3_S192x1x1x1_0_0_1_2) shapeCasts_S192x1x1x1_S192) shapeCasts_S192_S1x192x1x1)))) (mulf (extractStridedSlice S1x192x224x224 ![0, 0, 2, 0] Z slices_S1x192x226x226_S1x192x224x224_0_0_2_0) (broadcastInDim S1x192x224x224 ![0, 1, 2, 3] bcast_S1x192x1x1_S1x192x224x224_0_1_2_3 (shapeCast _ (shapeCast _ (extractStridedSlice S192x1x1x1 ![0, 0, 2, 0] w slices_S192x1x3x3_S192x1x1x1_0_0_2_0) shapeCasts_S192x1x1x1_S192) shapeCasts_S192_S1x192x1x1)))) (mulf (extractStridedSlice S1x192x224x224 ![0, 0, 2, 1] Z slices_S1x192x226x226_S1x192x224x224_0_0_2_1) (broadcastInDim S1x192x224x224 ![0, 1, 2, 3] bcast_S1x192x1x1_S1x192x224x224_0_1_2_3 (shapeCast _ (shapeCast _ (extractStridedSlice S192x1x1x1 ![0, 0, 2, 1] w slices_S192x1x3x3_S192x1x1x1_0_0_2_1) shapeCasts_S192x1x1x1_S192) shapeCasts_S192_S1x192x1x1)))) (mulf (extractStridedSlice S1x192x224x224 ![0, 0, 2, 2] Z slices_S1x192x226x226_S1x192x224x224_0_0_2_2) (broadcastInDim S1x192x224x224 ![0, 1, 2, 3] bcast_S1x192x1x1_S1x192x224x224_0_1_2_3 (shapeCast _ (shapeCast _ (extractStridedSlice S192x1x1x1 ![0, 0, 2, 2] w slices_S192x1x3x3_S192x1x1x1_0_0_2_2) shapeCasts_S192x1x1x1_S192) shapeCasts_S192_S1x192x1x1)))) (broadcastInDim S1x192x224x224 ![0, 1, 2, 3] bcast_S1x192x1x1_S1x192x224x224_0_1_2_3 (broadcastInDim S1x192x1x1 ![1] bcast_S192_S1x192x1x1_1 b))

/-- The tokens. -/
def rX (C O : FVec Ideal S1x192x224x224 .f32) : FVec Ideal S1x50176x192 .f32 :=
  transpose S1x50176x192 [0, 2, 1] (shapeCast _ (addf C O) shapeCasts_S1x192x224x224_S1x192x50176) transposes_S1x192x50176_S1x50176x192_0_2_1

/-- One element of a branch's joint projection at a position of the image; the branch's channels start at `o`. -/
def qv (A : FVec Ideal S1x224x224x192 .f32) (W : FVec Ideal S96x288 .f32) (b : FVec Ideal S288 .f32) (o : Fin 97) (i j : Fin 224) (k : Fin 288) : EReal :=
  (∑ a : Fin 96, A (ix4 0 i j (⟨o + a, by omega⟩ : Fin 192)) * W (ix2 a k)) + b (ix1 k)

/-- The window branch's projection, read. -/
theorem rQ_at (A : FVec Ideal S1x224x224x192 .f32) (W : FVec Ideal S96x288 .f32) (b : FVec Ideal S288 .f32) (i j : Fin 224) (k : Fin 288) :
    rQ A W b (ix4 0 i j k) = qv A W b 0 i j k := by
  pointwise [rQ, qv]

/-- The routing branch's projection, read. -/
theorem rB_at (A : FVec Ideal S1x224x224x192 .f32) (W : FVec Ideal S96x288 .f32) (b : FVec Ideal S288 .f32) (k : Fin 288) (i j : Fin 224) :
    rB A W b (ix4 0 k i j) = qv A W b 96 i j k := by
  pointwise [rB, qv]

/-- The convolution's input at a position of the padded image: zero on the ring. -/
def ring (p : EReal) (L : Fin 224 → Fin 224 → EReal) (i j : Fin 226) : EReal :=
  if h : (1 ≤ (i : ℕ) ∧ (i : ℕ) - 1 < 224) ∧ 1 ≤ (j : ℕ) ∧ (j : ℕ) - 1 < 224 then L ⟨i - 1, by omega⟩ ⟨j - 1, by omega⟩ else p

/-- The convolution's padded input, read. -/
theorem rZ_at (B : FVec Ideal S1x288x224x224 .f32) (Q : FVec Ideal S1x224x224x288 .f32) (k : Fin 192) (i j : Fin 226) :
    rZ B Q (ix4 0 k i j) = ring (FloatOps.sitofp (F := Ideal) .f32 0#32) (fun i j => if h : (k : ℕ) < 96 then B (ix4 0 (⟨192 + k, by omega⟩ : Fin 288) i j) else Q (ix4 0 i j (⟨192 + (k - 96), by omega⟩ : Fin 288))) i j := by
  pointwise [rZ]
  rfl

/-- The convolution's input: the routing branch's values, then the window branch's. -/
def lin (A : FVec Ideal S1x224x224x192 .f32) (w1 : FVec Ideal S96x288 .f32) (b1 : FVec Ideal S288 .f32) (w3 : FVec Ideal S96x288 .f32) (b3 : FVec Ideal S288 .f32)
    (k : Fin 192) (i j : Fin 224) : EReal :=
  if h : (k : ℕ) < 96 then qv A w3 b3 96 i j (⟨192 + k, by omega⟩ : Fin 288) else qv A w1 b1 0 i j (⟨192 + (k - 96), by omega⟩ : Fin 288)

/-- The convolution's padded input, from the arguments. -/
theorem rZ_lin (A : FVec Ideal S1x224x224x192 .f32) (w1 : FVec Ideal S96x288 .f32) (b1 : FVec Ideal S288 .f32) (w3 : FVec Ideal S96x288 .f32) (b3 : FVec Ideal S288 .f32)
    (k : Fin 192) (i j : Fin 226) :
    rZ (rB A w3 b3) (rQ A w1 b1) (ix4 0 k i j) = ring (FloatOps.sitofp (F := Ideal) .f32 0#32) (lin A w1 b1 w3 b3 k) i j := by
  rw [rZ_at]
  simp only [rB_at, rQ_at]
  rfl

/-- The sum of nine products in order, from zero, then the bias. -/
def taps (b : EReal) (z : Fin 3 → Fin 3 → EReal) (w : Fin 3 → Fin 3 → EReal) : EReal :=
  0 + z 0 0 * w 0 0 + z 0 1 * w 0 1 + z 0 2 * w 0 2 + z 1 0 * w 1 0 + z 1 1 * w 1 1 + z 1 2 * w 1 2 + z 2 0 * w 2 0 + z 2 1 * w 2 1 + z 2 2 * w 2 2 + b

/-- The convolution, read. -/
theorem rO_at (Z : FVec Ideal S1x192x226x226 .f32) (w : FVec Ideal S192x1x3x3 .f32) (b : FVec Ideal S192 .f32) (k : Fin 192) (i j : Fin 224) :
    rO Z w b (ix4 0 k i j) = taps (b (ix1 k)) (fun d e => Z (ix4 0 k (⟨d + i, by omega⟩ : Fin 226) (⟨e + j, by omega⟩ : Fin 226))) (fun d e => w (ix4 k 0 d e)) := by
  pointwise [rO, taps]

/-- The convolution at a position and channel, from the arguments. -/
def lpe (A : FVec Ideal S1x224x224x192 .f32) (w1 : FVec Ideal S96x288 .f32) (b1 : FVec Ideal S288 .f32) (w3 : FVec Ideal S96x288 .f32) (b3 : FVec Ideal S288 .f32)
    (w : FVec Ideal S192x1x3x3 .f32) (b : FVec Ideal S192 .f32) (i j : Fin 224) (k : Fin 192) : EReal :=
  taps (b (ix1 k)) (fun d e => ring (FloatOps.sitofp (F := Ideal) .f32 0#32) (lin A w1 b1 w3 b3 k) (⟨d + i, by omega⟩ : Fin 226) (⟨e + j, by omega⟩ : Fin 226))
    (fun d e => w (ix4 k 0 d e))

/-- The reference's convolution, from the arguments. -/
theorem rO_lpe (A : FVec Ideal S1x224x224x192 .f32) (w1 : FVec Ideal S96x288 .f32) (b1 : FVec Ideal S288 .f32) (w3 : FVec Ideal S96x288 .f32) (b3 : FVec Ideal S288 .f32)
    (w : FVec Ideal S192x1x3x3 .f32) (b : FVec Ideal S192 .f32) (k : Fin 192) (i j : Fin 224) :
    rO (rZ (rB A w3 b3) (rQ A w1 b1)) w b (ix4 0 k i j) = lpe A w1 b1 w3 b3 w b i j k := by
  rw [rO_at]
  simp only [rZ_lin]
  rfl

/-- A token: the window branch beside the routing branch, plus the convolution's output. -/
def tok (A0 A1 : FVec Ideal S224x224x96 .f32) (l : Fin 224 → Fin 224 → Fin 192 → EReal) (n : Fin 50176) (j : Fin 192) : EReal :=
  (if h : (j : ℕ) < 96 then A0 (ix3 (⟨n / 224, by omega⟩ : Fin 224) (⟨n % 224, by omega⟩ : Fin 224) (⟨j, h⟩ : Fin 96))
    else A1 (ix3 (⟨n / 224, by omega⟩ : Fin 224) (⟨n % 224, by omega⟩ : Fin 224) (⟨j - 96, by omega⟩ : Fin 96)))
    + l (⟨n / 224, by omega⟩ : Fin 224) (⟨n % 224, by omega⟩ : Fin 224) j

/-- The reference's tokens, read. -/
theorem rX_at (A0 A1 : FVec Ideal S224x224x96 .f32) (O : FVec Ideal S1x192x224x224 .f32) (n : Fin 50176) (j : Fin 192) :
    rX (rC A0 A1) O (ix3 0 n j) = tok A0 A1 (fun i j k => O (ix4 0 k i j)) n j := by
  pointwise [rX, rC]
  rfl

/-- The window branch's queries as an image. -/
def rqw (Q : FVec Ideal S1x224x224x288 .f32) : FVec Ideal S224x224x96 .f32 :=
  shapeCast _ (extractStridedSlice S1x224x224x96 ![0, 0, 0, 0] Q slices_S1x224x224x288_S1x224x224x96_0_0_0_0) shapeCasts_S1x224x224x96_S224x224x96

/-- The window branch's queries, read. -/
theorem rqw_at (A : FVec Ideal S1x224x224x192 .f32) (W : FVec Ideal S96x288 .f32) (b : FVec Ideal S288 .f32) (i j : Fin 224) (k : Fin 96) :
    rqw (rQ A W b) (ix3 i j k) = qv A W b 0 i j ⟨0 + k, by omega⟩ := by
  rw [← rQ_at]
  pointwise [rqw]

/-- The routing branch's queries as an image. -/
def rqb (B : FVec Ideal S1x288x224x224 .f32) : FVec Ideal S224x224x96 .f32 :=
  shapeCast _ (transpose S1x224x224x96 [0, 2, 3, 1] (extractStridedSlice S1x96x224x224 ![0, 0, 0, 0] B slices_S1x288x224x224_S1x96x224x224_0_0_0_0) transposes_S1x96x224x224_S1x224x224x96_0_2_3_1) shapeCasts_S1x224x224x96_S224x224x96

/-- The routing branch's queries, read. -/
theorem rqb_at (A : FVec Ideal S1x224x224x192 .f32) (W : FVec Ideal S96x288 .f32) (b : FVec Ideal S288 .f32) (i j : Fin 224) (k : Fin 96) :
    rqb (rB A W b) (ix3 i j k) = qv A W b 96 i j ⟨0 + k, by omega⟩ := by
  rw [← rB_at]
  pointwise [rqb]

/-- The window branch's keys as an image. -/
def rkw (Q : FVec Ideal S1x224x224x288 .f32) : FVec Ideal S224x224x96 .f32 :=
  shapeCast _ (extractStridedSlice S1x224x224x96 ![0, 0, 0, 96] Q slices_S1x224x224x288_S1x224x224x96_0_0_0_96) shapeCasts_S1x224x224x96_S224x224x96

/-- The window branch's keys, read. -/
theorem rkw_at (A : FVec Ideal S1x224x224x192 .f32) (W : FVec Ideal S96x288 .f32) (b : FVec Ideal S288 .f32) (i j : Fin 224) (k : Fin 96) :
    rkw (rQ A W b) (ix3 i j k) = qv A W b 0 i j ⟨96 + k, by omega⟩ := by
  rw [← rQ_at]
  pointwise [rkw]

/-- The routing branch's keys as an image. -/
def rkb (B : FVec Ideal S1x288x224x224 .f32) : FVec Ideal S224x224x96 .f32 :=
  shapeCast _ (transpose S1x224x224x96 [0, 2, 3, 1] (extractStridedSlice S1x96x224x224 ![0, 96, 0, 0] B slices_S1x288x224x224_S1x96x224x224_0_96_0_0) transposes_S1x96x224x224_S1x224x224x96_0_2_3_1) shapeCasts_S1x224x224x96_S224x224x96

/-- The routing branch's keys, read. -/
theorem rkb_at (A : FVec Ideal S1x224x224x192 .f32) (W : FVec Ideal S96x288 .f32) (b : FVec Ideal S288 .f32) (i j : Fin 224) (k : Fin 96) :
    rkb (rB A W b) (ix3 i j k) = qv A W b 96 i j ⟨96 + k, by omega⟩ := by
  rw [← rB_at]
  pointwise [rkb]

/-- The window branch's values as an image. -/
def rvw (Q : FVec Ideal S1x224x224x288 .f32) : FVec Ideal S224x224x96 .f32 :=
  shapeCast _ (extractStridedSlice S1x224x224x96 ![0, 0, 0, 192] Q slices_S1x224x224x288_S1x224x224x96_0_0_0_192) shapeCasts_S1x224x224x96_S224x224x96

/-- The window branch's values, read. -/
theorem rvw_at (A : FVec Ideal S1x224x224x192 .f32) (W : FVec Ideal S96x288 .f32) (b : FVec Ideal S288 .f32) (i j : Fin 224) (k : Fin 96) :
    rvw (rQ A W b) (ix3 i j k) = qv A W b 0 i j ⟨192 + k, by omega⟩ := by
  rw [← rQ_at]
  pointwise [rvw]

/-- The routing branch's values as an image. -/
def rvb (B : FVec Ideal S1x288x224x224 .f32) : FVec Ideal S224x224x96 .f32 :=
  shapeCast _ (transpose S1x224x224x96 [0, 2, 3, 1] (extractStridedSlice S1x96x224x224 ![0, 192, 0, 0] B slices_S1x288x224x224_S1x96x224x224_0_192_0_0) transposes_S1x96x224x224_S1x224x224x96_0_2_3_1) shapeCasts_S1x224x224x96_S224x224x96

/-- The routing branch's values, read. -/
theorem rvb_at (A : FVec Ideal S1x224x224x192 .f32) (W : FVec Ideal S96x288 .f32) (b : FVec Ideal S288 .f32) (i j : Fin 224) (k : Fin 96) :
    rvb (rB A W b) (ix3 i j k) = qv A W b 96 i j ⟨192 + k, by omega⟩ := by
  rw [← rB_at]
  pointwise [rvb]

end Cert.ReferenceIdeal.Value

end
-- ==== Proof.KerPre.lean ====
module

public import proofs.«01_k».proof.Proof.Reg0
public import proofs.«01_k».proof.Proof.Reg1
public import proofs.«01_k».proof.Proof.RefPre

@[expose] public section

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Value (qv lin ring taps lpe)

/-- The joint weights: the two branches' weights as diagonal blocks. -/
def kw (w1 w3 : FVec Ideal S96x288 .f32) : FVec Ideal S192x576 .f32 :=
  concatenate S192x576 0 [⟨S96x576, concatenate S96x576 1 [⟨S96x288, w1⟩, ⟨S96x288, broadcastInDim S96x288 ![] bcast_S_S96x288 (constant S_ .f32 0x00000000#32)⟩] concatenates_S96x288_S96x288_S96x576_d1⟩,
    ⟨S96x576, concatenate S96x576 1 [⟨S96x288, broadcastInDim S96x288 ![] bcast_S_S96x288 (constant S_ .f32 0x00000000#32)⟩, ⟨S96x288, w3⟩] concatenates_S96x288_S96x288_S96x576_d1⟩] concatenates_S96x576_S96x576_S192x576_d0

/-- The joint bias as a row. -/
def kb (b1 b3 : FVec Ideal S288 .f32) : FVec Ideal S1x576 .f32 :=
  broadcastInDim S1x576 ![1] bcast_S576_S1x576_1 (concatenate S576 0 [⟨S288, b1⟩, ⟨S288, b3⟩] concatenates_S288_S288_S576_d0)

/-- The image's rows. -/
def ka (A : FVec Ideal S1x224x224x192 .f32) : FVec Ideal S50176x192 .f32 := shapeCast S50176x192 A shapeCasts_S1x224x224x192_S50176x192

/-- The joint weights, read. -/
theorem kw_at (w1 w3 : FVec Ideal S96x288 .f32) (a : Fin 192) (k : Fin 576) : kw w1 w3 (ix2 a k)
    = if h : (a : ℕ) < 96 then (if h' : (k : ℕ) < 288 then w1 (ix2 (⟨a, h⟩ : Fin 96) (⟨k, h'⟩ : Fin 288)) else 0)
      else (if h' : (k : ℕ) < 288 then 0 else w3 (ix2 (⟨a - 96, by omega⟩ : Fin 96) (⟨k - 288, by omega⟩ : Fin 288))) := by
  pointwise [kw]

/-- The joint bias, read. -/
theorem kb_at (b1 b3 : FVec Ideal S288 .f32) (k : Fin 576) : kb b1 b3 (ix2 0 k)
    = if h : (k : ℕ) < 288 then b1 (ix1 (⟨k, h⟩ : Fin 288)) else b3 (ix1 (⟨k - 288, by omega⟩ : Fin 288)) := by
  pointwise [kb]

/-- The image's rows, read. -/
theorem ka_at (A : FVec Ideal S1x224x224x192 .f32) (i j : Fin 224) (a : Fin 192) : ka A (ix2 (⟨i * 224 + j, by omega⟩ : Fin 50176) a) = A (ix4 0 i j a) := by
  pointwise [ka]

/-- A sum over both branches' channels, one half of which vanishes. -/
theorem sum_halves (f : Fin 192 → EReal) : ∑ a, f a = (∑ a : Fin 96, f ⟨0 + a, by omega⟩) + ∑ a : Fin 96, f ⟨96 + a, by omega⟩ := by
  refine (Fin.sum_univ_add (a := 96) (b := 96) f).trans (congrArg (· + _) (Finset.sum_congr rfl fun a _ => congrArg f (Fin.ext ?_)))
  show (a : ℕ) = 0 + a
  omega

/-- The joint projection's first half of the columns is the window branch's projection: the other branch's weights there are zero. -/
theorem qf_win (A : FVec Ideal S1x224x224x192 .f32) (w1 : FVec Ideal S96x288 .f32) (b1 : FVec Ideal S288 .f32) (w3 : FVec Ideal S96x288 .f32) (b3 : FVec Ideal S288 .f32)
    (i j : Fin 224) (k : Fin 288) : qf (ka A) (kw w1 w3) (kb b1 b3) ⟨i * 224 + j, by omega⟩ ⟨k, by omega⟩ = qv A w1 b1 0 i j k := by
  rw [qf, qv, kb_at, dif_pos k.isLt, sum_halves]
  refine congrArg (· + _) ?_
  have hz : ∑ a : Fin 96, ka A (ix2 (⟨i * 224 + j, by omega⟩ : Fin 50176) (⟨96 + a, by omega⟩ : Fin 192)) * kw w1 w3 (ix2 (⟨96 + a, by omega⟩ : Fin 192) (⟨k, by omega⟩ : Fin 576)) = 0 := by
    refine Finset.sum_eq_zero fun a _ => ?_
    rw [kw_at, dif_neg (by show ¬ 96 + (a : ℕ) < 96; omega), dif_pos k.isLt, mul_zero]
  rw [hz, add_zero]
  refine Finset.sum_congr rfl fun a _ => ?_
  rw [ka_at, kw_at, dif_pos (by show 0 + (a : ℕ) < 96; omega), dif_pos k.isLt]
  refine congrArg (_ * ·) (congrArg w1 (congrArg (ix2 · k) (Fin.ext ?_)))
  show 0 + (a : ℕ) = a
  omega

/-- The joint projection's second half of the columns is the routing branch's projection. -/
theorem qf_bra (A : FVec Ideal S1x224x224x192 .f32) (w1 : FVec Ideal S96x288 .f32) (b1 : FVec Ideal S288 .f32) (w3 : FVec Ideal S96x288 .f32) (b3 : FVec Ideal S288 .f32)
    (i j : Fin 224) (k : Fin 288) : qf (ka A) (kw w1 w3) (kb b1 b3) ⟨i * 224 + j, by omega⟩ ⟨288 + k, by omega⟩ = qv A w3 b3 96 i j k := by
  have hk : ¬ 288 + (k : ℕ) < 288 := by omega
  have ek : (⟨288 + (k : ℕ) - 288, by omega⟩ : Fin 288) = k := Fin.ext (by show 288 + (k : ℕ) - 288 = k; omega)
  rw [qf, qv, kb_at, dif_neg hk, sum_halves]
  have hz : ∑ a : Fin 96, ka A (ix2 (⟨i * 224 + j, by omega⟩ : Fin 50176) (⟨0 + a, by omega⟩ : Fin 192)) * kw w1 w3 (ix2 (⟨0 + a, by omega⟩ : Fin 192) (⟨288 + k, by omega⟩ : Fin 576)) = 0 := by
    refine Finset.sum_eq_zero fun a _ => ?_
    rw [kw_at, dif_pos (by show 0 + (a : ℕ) < 96; omega), dif_neg hk, mul_zero]
  rw [hz, zero_add]
  refine congrArg₂ (· + ·) (Finset.sum_congr rfl fun a _ => ?_) (congrArg b3 (congrArg ix1 ek))
  rw [ka_at, kw_at, dif_neg (by show ¬ 96 + (a : ℕ) < 96; omega), dif_neg hk]
  refine congrArg (_ * ·) (congrArg w3 (congrArg₂ ix2 (Fin.ext ?_) ek))
  show 96 + (a : ℕ) - 96 = a
  omega

/-- Ninety-six columns of the joint projection as an image. -/
def kq (o : ℕ) (ho : o + 96 ≤ 576) (A : FVec Ideal S1x224x224x192 .f32) (w1 : FVec Ideal S96x288 .f32) (b1 : FVec Ideal S288 .f32) (w3 : FVec Ideal S96x288 .f32) (b3 : FVec Ideal S288 .f32) :
    FVec Ideal S224x224x96 .f32 :=
  shapeCast S224x224x96 (QF o ho (ka A) (kw w1 w3) (kb b1 b3)) shapeCasts_S50176x96_S224x224x96

/-- The columns as an image, read. -/
theorem kq_at (o : ℕ) (ho : o + 96 ≤ 576) (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq o ho A w1 b1 w3 b3 (ix3 i j k) = qf (ka A) (kw w1 w3) (kb b1 b3) ⟨i * 224 + j, by omega⟩ ⟨o + k, by omega⟩ := by
  pointwise [kq, QF]

/-- The window branch's queries, read. -/
theorem kqw_at (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq 0 (by decide) A w1 b1 w3 b3 (ix3 i j k) = qv A w1 b1 0 i j ⟨0 + k, by omega⟩ := by
  rw [kq_at]
  refine (congrArg (qf _ _ _ _) (Fin.ext ?_)).trans (qf_win A w1 b1 w3 b3 i j ⟨0 + k, by omega⟩)
  show 0 + (k : ℕ) = (0 + k)
  omega

/-- The window branch's keys, read. -/
theorem kkw_at (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq 96 (by decide) A w1 b1 w3 b3 (ix3 i j k) = qv A w1 b1 0 i j ⟨96 + k, by omega⟩ := by
  rw [kq_at]
  refine (congrArg (qf _ _ _ _) (Fin.ext ?_)).trans (qf_win A w1 b1 w3 b3 i j ⟨96 + k, by omega⟩)
  show 96 + (k : ℕ) = (96 + k)
  omega

/-- The window branch's values, read. -/
theorem kvw_at (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq 192 (by decide) A w1 b1 w3 b3 (ix3 i j k) = qv A w1 b1 0 i j ⟨192 + k, by omega⟩ := by
  rw [kq_at]
  refine (congrArg (qf _ _ _ _) (Fin.ext ?_)).trans (qf_win A w1 b1 w3 b3 i j ⟨192 + k, by omega⟩)
  show 192 + (k : ℕ) = (192 + k)
  omega

/-- The routing branch's queries, read. -/
theorem kqb_at (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq 288 (by decide) A w1 b1 w3 b3 (ix3 i j k) = qv A w3 b3 96 i j ⟨0 + k, by omega⟩ := by
  rw [kq_at]
  refine (congrArg (qf _ _ _ _) (Fin.ext ?_)).trans (qf_bra A w1 b1 w3 b3 i j ⟨0 + k, by omega⟩)
  show 288 + (k : ℕ) = 288 + (0 + k)
  omega

/-- The routing branch's keys, read. -/
theorem kkb_at (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq 384 (by decide) A w1 b1 w3 b3 (ix3 i j k) = qv A w3 b3 96 i j ⟨96 + k, by omega⟩ := by
  rw [kq_at]
  refine (congrArg (qf _ _ _ _) (Fin.ext ?_)).trans (qf_bra A w1 b1 w3 b3 i j ⟨96 + k, by omega⟩)
  show 384 + (k : ℕ) = 288 + (96 + k)
  omega

/-- The routing branch's values, read. -/
theorem kvb_at (A : FVec Ideal S1x224x224x192 .f32) (w1 : FVec Ideal S96x288 .f32) (b1 : FVec Ideal S288 .f32) (w3 : FVec Ideal S96x288 .f32) (b3 : FVec Ideal S288 .f32)
    (i j : Fin 224) (k : Fin 96) : kq 480 (by decide) A w1 b1 w3 b3 (ix3 i j k) = qv A w3 b3 96 i j ⟨192 + k, by omega⟩ := by
  rw [kq_at]
  refine (congrArg (qf _ _ _ _) (Fin.ext ?_)).trans (qf_bra A w1 b1 w3 b3 i j ⟨192 + k, by omega⟩)
  show 480 + (k : ℕ) = 288 + (192 + k)
  omega

/-- The convolution's input, padded by a ring of zeros. -/
def kz (A : FVec Ideal S1x224x224x192 .f32) (w1 : FVec Ideal S96x288 .f32) (b1 : FVec Ideal S288 .f32) (w3 : FVec Ideal S96x288 .f32) (b3 : FVec Ideal S288 .f32) : FVec Ideal S226x226x192 .f32 :=
  pad S226x226x192 ![1, 1, 0] ![1, 1, 0] ![0, 0, 0] (shapeCast S224x224x192 (LI (ka A) (kw w1 w3) (kb b1 b3)) shapeCasts_S50176x192_S224x224x192) (sitofp .f32 (constantI S_ 32 0#32)) pads_S224x224x192_S226x226x192_110_110_000 h_S_

/-- The column that the convolution's channel reads is the reference's. -/
theorem lcol_eq (A : FVec Ideal S1x224x224x192 .f32) (w1 : FVec Ideal S96x288 .f32) (b1 : FVec Ideal S288 .f32) (w3 : FVec Ideal S96x288 .f32) (b3 : FVec Ideal S288 .f32)
    (k : Fin 192) (i j : Fin 224) : qf (ka A) (kw w1 w3) (kb b1 b3) ⟨i * 224 + j, by omega⟩ (lcol k) = lin A w1 b1 w3 b3 k i j := by
  unfold lcol lin
  split
  · refine (congrArg (qf _ _ _ _) (Fin.ext ?_)).trans (qf_bra A w1 b1 w3 b3 i j ⟨192 + k, by omega⟩)
    show 480 + (k : ℕ) = 288 + (192 + k)
    omega
  · refine (congrArg (qf _ _ _ _) (Fin.ext ?_)).trans (qf_win A w1 b1 w3 b3 i j ⟨192 + (k - 96), by omega⟩)
    show 96 + (k : ℕ) = 192 + (k - 96)
    omega

/-- The convolution's padded input, read. -/
theorem kz_at (A : FVec Ideal S1x224x224x192 .f32) (w1 : FVec Ideal S96x288 .f32) (b1 : FVec Ideal S288 .f32) (w3 : FVec Ideal S96x288 .f32) (b3 : FVec Ideal S288 .f32)
    (i j : Fin 226) (k : Fin 192) : kz A w1 b1 w3 b3 (ix3 i j k) = ring (FloatOps.sitofp (F := Ideal) .f32 0#32) (lin A w1 b1 w3 b3 k) i j := by
  have e : kz A w1 b1 w3 b3 (ix3 i j k) = ring (FloatOps.sitofp (F := Ideal) .f32 0#32) (fun i j => qf (ka A) (kw w1 w3) (kb b1 b3) ⟨i * 224 + j, by omega⟩ (lcol k)) i j := by
    pointwise [kz, LI]
    rfl
  rw [e]
  simp only [lcol_eq]

/-- The convolution's weights: one row for each tap. -/
def kc (w : FVec Ideal S192x1x3x3 .f32) : FVec Ideal S16x192 .f32 :=
  pad S16x192 ![0, 0] ![7, 0] ![0, 0] (transpose S9x192 [1, 0] (shapeCast S192x9 w shapeCasts_S192x1x3x3_S192x9) transposes_S192x9_S9x192_1_0) (sitofp .f32 (constantI S_ 32 0#32)) pads_S9x192_S16x192_070_000 h_S_

/-- The convolution's weights, read. -/
theorem kc_at (w : FVec Ideal S192x1x3x3 .f32) (d e : Fin 3) (k : Fin 192) : kc w (ix2 (⟨d * 3 + e, by omega⟩ : Fin 16) k) = w (ix4 k 0 d e) := by
  pointwise [kc]
  rw [dif_pos (by omega)]

/-- The convolution's output. -/
def kl (A : FVec Ideal S1x224x224x192 .f32) (w1 : FVec Ideal S96x288 .f32) (b1 : FVec Ideal S288 .f32) (w3 : FVec Ideal S96x288 .f32) (b3 : FVec Ideal S288 .f32)
    (w : FVec Ideal S192x1x3x3 .f32) (b : FVec Ideal S192 .f32) : FVec Ideal S224x224x192 .f32 :=
  LF (extractStridedSlice S224x226x192 ![0, 0, 0] (kz A w1 b1 w3 b3) slices_S226x226x192_S224x226x192_0_0_0)
    (extractStridedSlice S224x226x192 ![1, 0, 0] (kz A w1 b1 w3 b3) slices_S226x226x192_S224x226x192_1_0_0)
    (extractStridedSlice S224x226x192 ![2, 0, 0] (kz A w1 b1 w3 b3) slices_S226x226x192_S224x226x192_2_0_0)
    (kc w) (broadcastInDim S1x192 ![1] bcast_S192_S1x192_1 b)

/-- The bias first or last. -/
theorem nine_taps (b : EReal) (z : Fin 3 → Fin 3 → EReal) (w : Fin 3 → Fin 3 → EReal) (v : Fin 9 → EReal)
    (hv : ∀ d e : Fin 3, v ⟨d * 3 + e, by omega⟩ = w d e) : nine b z v = taps b z w := by
  unfold nine taps
  rw [← hv 0 0, ← hv 0 1, ← hv 0 2, ← hv 1 0, ← hv 1 1, ← hv 1 2, ← hv 2 0, ← hv 2 1, ← hv 2 2, zero_add]
  show b + z 0 0 * v 0 + z 0 1 * v 1 + z 0 2 * v 2 + z 1 0 * v 3 + z 1 1 * v 4 + z 1 2 * v 5 + z 2 0 * v 6 + z 2 1 * v 7 + z 2 2 * v 8
    = z 0 0 * v 0 + z 0 1 * v 1 + z 0 2 * v 2 + z 1 0 * v 3 + z 1 1 * v 4 + z 1 2 * v 5 + z 2 0 * v 6 + z 2 1 * v 7 + z 2 2 * v 8 + b
  ac_rfl

/-- The convolution of three shifted copies, read. -/
theorem LF_at (x0 x1 x2 : FVec Ideal S224x226x192 .f32) (w : FVec Ideal S16x192 .f32) (b : FVec Ideal S1x192 .f32) (i j : Fin 224) (k : Fin 192) :
    LF x0 x1 x2 w b (ix3 i j k) = nine (b (ix2 0 k)) ![fun e => x0 (ix3 i (sh j e) k), fun e => x1 (ix3 i (sh j e) k), fun e => x2 (ix3 i (sh j e) k)] (fun q => w (ix2 (wr q) k)) := rfl

/-- The convolution's output is the reference's. -/
theorem kl_at (A : FVec Ideal S1x224x224x192 .f32) (w1 : FVec Ideal S96x288 .f32) (b1 : FVec Ideal S288 .f32) (w3 : FVec Ideal S96x288 .f32) (b3 : FVec Ideal S288 .f32)
    (w : FVec Ideal S192x1x3x3 .f32) (b : FVec Ideal S192 .f32) (i j : Fin 224) (k : Fin 192) :
    kl A w1 b1 w3 b3 w b (ix3 i j k) = lpe A w1 b1 w3 b3 w b i j k := by
  unfold lpe
  refine (?_ : _ = nine (b (ix1 k)) (fun d e => ring (FloatOps.sitofp (F := Ideal) .f32 0#32) (lin A w1 b1 w3 b3 k) (⟨d + i, by omega⟩ : Fin 226) (⟨e + j, by omega⟩ : Fin 226))
    (fun q => kc w (ix2 (wr q) k))).trans (nine_taps _ _ _ _ fun d e => kc_at w d e k)
  have s0 : ∀ (j : Fin 226), extractStridedSlice S224x226x192 ![0, 0, 0] (kz A w1 b1 w3 b3) slices_S226x226x192_S224x226x192_0_0_0 (ix3 i j k)
      = ring (FloatOps.sitofp (F := Ideal) .f32 0#32) (lin A w1 b1 w3 b3 k) (⟨0 + i, by omega⟩ : Fin 226) j := by
    intro j; rw [← kz_at]; pointwise []
  have s1 : ∀ (j : Fin 226), extractStridedSlice S224x226x192 ![1, 0, 0] (kz A w1 b1 w3 b3) slices_S226x226x192_S224x226x192_1_0_0 (ix3 i j k)
      = ring (FloatOps.sitofp (F := Ideal) .f32 0#32) (lin A w1 b1 w3 b3 k) (⟨1 + i, by omega⟩ : Fin 226) j := by
    intro j; rw [← kz_at]; pointwise []
  have s2 : ∀ (j : Fin 226), extractStridedSlice S224x226x192 ![2, 0, 0] (kz A w1 b1 w3 b3) slices_S226x226x192_S224x226x192_2_0_0 (ix3 i j k)
      = ring (FloatOps.sitofp (F := Ideal) .f32 0#32) (lin A w1 b1 w3 b3 k) (⟨2 + i, by omega⟩ : Fin 226) j := by
    intro j; rw [← kz_at]; pointwise []
  have sb : broadcastInDim S1x192 ![1] bcast_S192_S1x192_1 b (ix2 0 k) = b (ix1 k) := by pointwise []
  rw [kl, LF_at]
  simp only [s0, s1, s2, sb]
  refine congrArg (fun z => nine (b (ix1 k)) z _) (funext fun d => ?_)
  fin_cases d <;> rfl

end Cert.KernelIdeal.Value

end
-- ==== Proof.Reg.lean ====
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index of every window of the first call. -/
theorem idx2 : ∀ t : Fin cfg2.N, win2_0.index t = ![t.val, 0] ∧ win2_1.index t = ![t.val, 0] ∧ win2_2.index t = ![t.val, 0]
    ∧ win2_3.index t = ![t.val, 0] ∧ win2_4.index t = ![0, 0] :=
  (by decide +kernel : ∀ t : Fin grid2.N, _)

/-- The block index of every window of the second call. -/
theorem idx3 : ∀ t : Fin cfg3.N, win3_0.index t = ![0, 0] ∧ win3_1.index t = ![0, 0] ∧ win3_2.index t = ![0, 0]
    ∧ win3_3.index t = ![0, 0] ∧ win3_4.index t = ![0, 0] ∧ win3_5.index t = ![0, 0] :=
  (by decide +kernel : ∀ t : Fin grid3.N, _)

/-- The block index of every window of the third call. -/
theorem idx4 : ∀ t : Fin cfg4.N, win4_0.index t = ![t.val, 0] ∧ win4_1.index t = ![0, 0] ∧ win4_2.index t = ![0, 0]
    ∧ win4_3.index t = ![t.val, 0] :=
  (by decide +kernel : ∀ t : Fin grid4.N, _)

/-- The tokens: the two branches side by side plus the convolution. -/
def xf (W B : FVec Ideal S50176x96 .f32) (L : FVec Ideal S50176x192 .f32) (n : Fin 50176) (j : Fin 192) : EReal :=
  (if h : (j : ℕ) < 96 then W (ix2 n (⟨j, h⟩ : Fin 96)) else B (ix2 n (⟨(j : ℕ) - 96, by omega⟩ : Fin 96))) + L (ix2 n j)

/-- The tokens as an array. -/
def XF (W B : FVec Ideal S50176x96 .f32) (L : FVec Ideal S50176x192 .f32) : FVec Ideal S50176x192 .f32 := fun i =>
  xf W B L (i 0) (i 1)

/-- The first call's body computes the tokens of its block of rows. -/
theorem pay1_at (w b : Vec Ideal S1792x96 .f32) (l : Vec Ideal S1792x192 .f32) (r : Fin 1792) (j : Fin 192) :
    k2_pay1 (F := Ideal) w b l (ix2 r j) = (if h : (j : ℕ) < 96 then w (ix2 r (⟨j, h⟩ : Fin 96))
      else b (ix2 r (⟨(j : ℕ) - 96, by omega⟩ : Fin 96))) + l (ix2 r j) := by
  pointwise [k2_pay1]

/-- What the body computes from its blocks is the tokens' block. -/
theorem pay1_blk (c : Dev nD) (t : Fin cfg2.N) (r : Fin 1792) (j : Fin 192) (n : Fin 50176) (hn : (n : ℕ) = t.val * 1792 + r) :
    k2_pay1 (F := Ideal) (iblk2 V c 0 t) (iblk2 V c 1 t) (iblk2 V c 2 t) (ix2 r j)
      = xf (V c main_v25) (V c main_v26) (V c main_v24) n j := by
  rw [pay1_at, xf]
  split
  · blk_point [iblk2, idx2 t]
  · blk_point [iblk2, idx2 t]

/-- The tokens' array after the first call. -/
theorem x_final (c : Dev nD) : (dat2 V c).arrAt 3 cfg2.N = XF (V c main_v25) (V c main_v26) (V c main_v24) := by
  refine (dat2 V c).arrAt_eq_of_covers 3 _ (by decide +kernel) fun t _ y => ?_
  blk_simp
  rw [after2_3]
  have hp : (outsAt2 V c t.val t.isLt).1 = k2_pay1 (F := Ideal) (iblk2 V c 0 t) (iblk2 V c 1 t) (iblk2 V c 2 t) := by
    by_cases h : t.val % 28 = 0
    · rw [outsAt2_A V c t h]; frame_out
    · rw [outsAt2_B V c t h]; frame_out
  rw [hp]
  idx_vars y
  have ht : t.val < 28 := lt_of_lt_of_eq t.isLt N_2
  refine (pay1_blk V c t y0 y1 ⟨t.val * 1792 + y0, by omega⟩ rfl).trans ?_
  refine congrArg₂ (xf (V c main_v25) (V c main_v26) (V c main_v24)) (Fin.ext ?_) (Fin.ext ?_)
  · blk_simp [idx2 t]
  · blk_simp [idx2 t]

/-- The zero fill. -/
theorem pay2_at (j : S192x192.Idx) : k2_pay2 (F := Ideal) j = 0 := by
  pointwise [k2_pay2]

/-- The accumulating store: what was there plus the products of the block's rows. -/
theorem pay3_at (w b : Vec Ideal S1792x96 .f32) (l : Vec Ideal S1792x192 .f32) (s : Vec Ideal S192x192 .f32) (j : S192x192.Idx) :
    k2_pay3 (F := Ideal) w b l s j = s j + ∑ r : Fin 1792, k2_pay1 (F := Ideal) w b l (ix2 r (j 0)) * k2_pay1 (F := Ideal) w b l (ix2 r (j 1)) := by
  pointwise [k2_pay3]

/-- The second moments of the tokens, as an array. -/
def SF (X : Fin 50176 → Fin 192 → EReal) : FVec Ideal S192x192 .f32 := fun j =>
  ∑ n : Fin 50176, X n (j 0) * X n (j 1)

/-- The second moments' array after the first call. -/
theorem s_final (c : Dev nD) : (dat2 V c).arrAt 4 cfg2.N = SF (xf (V c main_v25) (V c main_v26) (V c main_v24)) := by
  refine (dat2 V c).arrAt_eq_of_covers 4 _ (by decide +kernel) fun t hf y => ?_
  blk_simp
  rw [after2_4, Pipeline.eq_sum_fin_of_reset_step_apply_of_flush (fun n h => (outsAt2 V c n h).2) 28 (fun _ => 0) _
    (fun t h j => by rw [outsAt2_A V c t h]; frame_out; rw [pay3_at, pay2_at]) (fun t h j => by rw [outsAt2_B V c t h]; frame_out; rw [pay3_at])
    t ((flush2_4 t).mp hf) _, zero_add]
  have h0 : ((win2_4.blk t).view.emb y) = y := by
    blk_ext [idx2 t]
  rw [h0, SF]
  refine Fin.sum_mul_add_congr fun s k hl => ?_
  have ht : t.val < 28 := lt_of_lt_of_eq t.isLt N_2
  have hs : 28 * (t.val / 28) + s.val = s.val := by omega
  have e := fun j => pay1_blk V c ⟨28 * (t.val / 28) + s.val, Pipeline.run_point_lt_of_flush t ((flush2_4 t).mp hf) s⟩ k j ⟨s * 1792 + k, hl⟩ (by simp only [hs])
  exact congrArg₂ (· * ·) (e _) (e _)

/-- The result of the third call's body on a block of rows. -/
theorem pay2_1_at (x : Vec Ideal S1792x192 .f32) (w : Vec Ideal S192x192 .f32) (b : Vec Ideal S1x192 .f32) (r : Fin 1792) (j : Fin 192) :
    k4_pay1 (F := Ideal) x w b (ix2 r j) = (∑ a : Fin 192, x (ix2 r a) * w (ix2 a j)) + b (ix2 0 j) := by
  pointwise [k4_pay1]

/-- A product of the tokens with a square matrix plus a row, as an array. -/
def OF (X : FVec Ideal S50176x192 .f32) (w : FVec Ideal S192x192 .f32) (b : FVec Ideal S1x192 .f32) : FVec Ideal S50176x192 .f32 := fun i =>
  (∑ a : Fin 192, X (ix2 (i 0) a) * w (ix2 a (i 1))) + b (ix2 0 (i 1))

/-- The third call's array. -/
theorem o_final (c : Dev nD) : (dat4 V c).arrAt 3 cfg4.N = OF (V c main_v27_0) (V c main_v31) (V c main_v32) := by
  refine (dat4 V c).arrAt_eq_of_covers 3 _ (by decide +kernel) fun t _ y => ?_
  blk_simp
  rw [after4_3]; frame_out
  idx_vars y
  rw [pay2_1_at, OF]
  blk_point [iblk4, idx4 t]

set_option maxHeartbeats 1000000 in
/-- The second call's array: the folded weights. -/
theorem f_final (c : Dev nD) : (dat3 V c).arrAt 5 cfg3.N =
    k3_pay1 (F := Ideal) (k3_pay2 (V c main_v27_1) (V c main_v30) (V c main_v29)) k3_pay3 (iota .tc S192x192 32 [1] iota_S192x192_d1_w32) 24#32
      k3_pay4 k3_pay5 (V c main_v28) (V c main_arg8) := by
  refine (dat3 V c).arrAt_eq_of_covers 5 _ (by decide +kernel) fun t _ y => ?_
  blk_simp
  rw [after3_5]; frame_out
  have h0 : ((win3_5.blk t).view.emb y) = y := by
    blk_ext [idx3 t]
  rw [h0]
  have e0 : iblk3 V c 0 t = V c main_v27_1 := by blk_ext! [iblk3, idx3 t]
  have e1 : iblk3 V c 1 t = V c main_v28 := by blk_ext! [iblk3, idx3 t]
  have e2 : iblk3 V c 2 t = V c main_v29 := by blk_ext! [iblk3, idx3 t]
  have e3 : iblk3 V c 3 t = V c main_v30 := by blk_ext! [iblk3, idx3 t]
  have e4 : iblk3 V c 4 t = V c main_arg8 := by blk_ext! [iblk3, idx3 t]
  rw [e0, e1, e2, e3, e4]

end Cert.KernelIdeal.Value

end
-- ==== Proof.Chain.lean ====
module

public import proofs.«01_k».proof.Proof.KerPre
public import proofs.«01_k».proof.Proof.Reg
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The image's rows, as the projection reads them. -/
theorem V1_v0 (c : Dev nD) : V1 m ρ c main_v0 = ka (m ((c.tc : Thread nD τ).loc main_arg0)) := by
  show StableHlo.after hostOps0 (W0 m ρ c) _ = _
  after_results_simp
  rfl

/-- The joint weights, as the projection reads them. -/
theorem V1_v4 (c : Dev nD) : V1 m ρ c main_v4 = kw (m ((c.tc : Thread nD τ).loc main_arg1)) (m ((c.tc : Thread nD τ).loc main_arg3)) := by
  show StableHlo.after hostOps0 (W0 m ρ c) _ = _
  after_results_simp
  rfl

/-- The joint bias, as the projection reads it. -/
theorem V1_v6 (c : Dev nD) : V1 m ρ c main_v6 = kb (m ((c.tc : Thread nD τ).loc main_arg2)) (m ((c.tc : Thread nD τ).loc main_arg4)) := by
  show StableHlo.after hostOps0 (W0 m ρ c) _ = _
  after_results_simp
  rfl

/-- The window branch's queries after the projection. -/
theorem W2_0 (c : Dev nD) : W2 m ρ c (Proc.devRef .tc main_v7_0) = QF 0 (by decide) (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 3).trans ((q3_final (V1 m ρ) c).trans ?_)
  rw [V1_v0, V1_v4, V1_v6]

/-- The window branch's keys after the projection. -/
theorem W2_1 (c : Dev nD) : W2 m ρ c (Proc.devRef .tc main_v7_1) = QF 96 (by decide) (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 4).trans ((q4_final (V1 m ρ) c).trans ?_)
  rw [V1_v0, V1_v4, V1_v6]

/-- The window branch's values after the projection. -/
theorem W2_2 (c : Dev nD) : W2 m ρ c (Proc.devRef .tc main_v7_2) = QF 192 (by decide) (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 5).trans ((q5_final (V1 m ρ) c).trans ?_)
  rw [V1_v0, V1_v4, V1_v6]

/-- The routing branch's queries after the projection. -/
theorem W2_3 (c : Dev nD) : W2 m ρ c (Proc.devRef .tc main_v7_3) = QF 288 (by decide) (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 6).trans ((q6_final (V1 m ρ) c).trans ?_)
  rw [V1_v0, V1_v4, V1_v6]

/-- The routing branch's keys after the projection. -/
theorem W2_4 (c : Dev nD) : W2 m ρ c (Proc.devRef .tc main_v7_4) = QF 384 (by decide) (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 7).trans ((q7_final (V1 m ρ) c).trans ?_)
  rw [V1_v0, V1_v4, V1_v6]

/-- The routing branch's values after the projection. -/
theorem W2_5 (c : Dev nD) : W2 m ρ c (Proc.devRef .tc main_v7_5) = QF 480 (by decide) (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 8).trans ((q8_final (V1 m ρ) c).trans ?_)
  rw [V1_v0, V1_v4, V1_v6]

/-- The convolution's input after the projection. -/
theorem W2_6 (c : Dev nD) : W2 m ρ c (Proc.devRef .tc main_v7_6) = LI (ka (m ((c.tc : Thread nD τ).loc main_arg0))) (kw (m ((c.tc : Thread nD τ).loc main_arg1)) (m ((c.tc : Thread nD τ).loc main_arg3))) (kb (m ((c.tc : Thread nD τ).loc main_arg2)) (m ((c.tc : Thread nD τ).loc main_arg4))) := by
  refine (W2_arr m ρ c 9).trans ((q9_final (V1 m ρ) c).trans ?_)
  rw [V1_v0, V1_v4, V1_v6]

/-- A reference no later step writes keeps its contents to the end. -/
theorem keep (c : Dev nD) (r : Ref sig .tc) (h4 : r ∉ hostOps1_1_W) (h5 : r ∉ hostOps1_2_W) (h6 : r ∉ hostOps1_3_W) (h7 : r ∉ hostOps1_4_W)
    (h8 : ∀ w : Fin cfg1.W, Pipeline.arrRef spec1 w = r → (cfg1.win w).isOut = false) (h9 : r ∉ hostOps2_W)
    (h10 : ∀ w : Fin cfg2.W, Pipeline.arrRef spec2 w = r → (cfg2.win w).isOut = false) (h11 : r ∉ hostOps3_W)
    (h12 : ∀ w : Fin cfg3.W, Pipeline.arrRef spec3 w = r → (cfg3.win w).isOut = false) (h13 : r ∉ hostOps4_W)
    (h14 : ∀ w : Fin cfg4.W, Pipeline.arrRef spec4 w = r → (cfg4.win w).isOut = false) (h15 : r ∉ hostOps5_W) :
    W15 m ρ c (Proc.devRef .tc r) = W3 m ρ c (Proc.devRef .tc r) :=
  (W15_of m ρ c r h15).trans ((W14_of m ρ c r h14).trans ((W13_of m ρ c r h13).trans ((W12_of m ρ c r h12).trans
    ((W11_of m ρ c r h11).trans ((W10_of m ρ c r h10).trans ((W9_of m ρ c r h9).trans ((W8_of m ρ c r h8).trans
      ((W7_of m ρ c r h7).trans ((W6_of m ρ c r h6).trans ((W5_of m ρ c r h5).trans (W4_of m ρ c r h4)))))))))))

/-- The window branch's queries at the end. -/
theorem W15_q0 (c : Dev nD) : W15 m ρ c (Proc.devRef .tc main_v8) = kq 0 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (keep m ρ c main_v8 (by decide) (by decide) (by decide) (by decide) (by decide) (by decide) (by decide) (by decide) (by decide) (by decide) (by decide) (by decide)).trans ?_
  show StableHlo.after hostOps1 (W2 m ρ c) _ = _
  after_results_simp
  rw [W2_0]
  rfl

/-- The window branch's keys at the end. -/
theorem W15_q1 (c : Dev nD) : W15 m ρ c (Proc.devRef .tc main_v9) = kq 96 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (keep m ρ c main_v9 (by decide) (by decide) (by decide) (by decide) (by decide) (by decide) (by decide) (by decide) (by decide) (by decide) (by decide) (by decide)).trans ?_
  show StableHlo.after hostOps1 (W2 m ρ c) _ = _
  after_results_simp
  rw [W2_1]
  rfl

/-- The window branch's values at the end. -/
theorem W15_q2 (c : Dev nD) : W15 m ρ c (Proc.devRef .tc main_v10) = kq 192 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (keep m ρ c main_v10 (by decide) (by decide) (by decide) (by decide) (by decide) (by decide) (by decide) (by decide) (by decide) (by decide) (by decide) (by decide)).trans ?_
  show StableHlo.after hostOps1 (W2 m ρ c) _ = _
  after_results_simp
  rw [W2_2]
  rfl

/-- The routing branch's queries at the end. -/
theorem W15_q3 (c : Dev nD) : W15 m ρ c (Proc.devRef .tc main_v11) = kq 288 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (keep m ρ c main_v11 (by decide) (by decide) (by decide) (by decide) (by decide) (by decide) (by decide) (by decide) (by decide) (by decide) (by decide) (by decide)).trans ?_
  show StableHlo.after hostOps1 (W2 m ρ c) _ = _
  after_results_simp
  rw [W2_3]
  rfl

/-- The routing branch's keys at the end. -/
theorem W15_q4 (c : Dev nD) : W15 m ρ c (Proc.devRef .tc main_v12) = kq 384 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (keep m ρ c main_v12 (by decide) (by decide) (by decide) (by decide) (by decide) (by decide) (by decide) (by decide) (by decide) (by decide) (by decide) (by decide)).trans ?_
  show StableHlo.after hostOps1 (W2 m ρ c) _ = _
  after_results_simp
  rw [W2_4]
  rfl

/-- The routing branch's values at the end. -/
theorem W15_q5 (c : Dev nD) : W15 m ρ c (Proc.devRef .tc main_v13) = kq 480 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (keep m ρ c main_v13 (by decide) (by decide) (by decide) (by decide) (by decide) (by decide) (by decide) (by decide) (by decide) (by decide) (by decide) (by decide)).trans ?_
  show StableHlo.after hostOps1 (W2 m ρ c) _ = _
  after_results_simp
  rw [W2_5]
  rfl

/-- The padded input from row 0 on. -/
theorem V7_0 (c : Dev nD) : V7 m ρ c main_v16 = extractStridedSlice S224x226x192 ![0, 0, 0] (kz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) slices_S226x226x192_S224x226x192_0_0_0 := by
  refine (W7_of m ρ c main_v16 (by decide)).trans ((W6_of m ρ c main_v16 (by decide)).trans ?_)
  show StableHlo.after hostOps1_2 (W4 m ρ c) _ = _
  after_results_simp
  rw [W2_6]
  rfl

/-- The padded input from row 1 on. -/
theorem V7_1 (c : Dev nD) : V7 m ρ c main_v17 = extractStridedSlice S224x226x192 ![1, 0, 0] (kz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) slices_S226x226x192_S224x226x192_1_0_0 := by
  refine (W7_of m ρ c main_v17 (by decide)).trans ((W6_of m ρ c main_v17 (by decide)).trans ?_)
  show StableHlo.after hostOps1_2 (W4 m ρ c) _ = _
  after_results_simp
  rw [W2_6]
  rfl

/-- The padded input from row 2 on. -/
theorem V7_2 (c : Dev nD) : V7 m ρ c main_v18 = extractStridedSlice S224x226x192 ![2, 0, 0] (kz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) slices_S226x226x192_S224x226x192_2_0_0 := by
  refine (W7_of m ρ c main_v18 (by decide)).trans ((W6_of m ρ c main_v18 (by decide)).trans ?_)
  show StableHlo.after hostOps1_2 (W4 m ρ c) _ = _
  after_results_simp
  rw [W2_6]
  rfl

/-- The convolution's weights, as it reads them. -/
theorem V7_w (c : Dev nD) : V7 m ρ c main_v21 = kc (m ((c.tc : Thread nD τ).loc main_arg5)) := by
  refine (W7_of m ρ c main_v21 (by decide)).trans ?_
  show StableHlo.after hostOps1_3 (W5 m ρ c) _ = _
  after_results_simp
  rw [W2_args m ρ c main_arg5 (by decide)]
  rfl

/-- The convolution's bias, as it reads it. -/
theorem V7_b (c : Dev nD) : V7 m ρ c main_v22 = broadcastInDim S1x192 ![1] bcast_S192_S1x192_1 (m ((c.tc : Thread nD τ).loc main_arg6)) := by
  show StableHlo.after hostOps1_4 (W6 m ρ c) _ = _
  after_results_simp
  rw [W2_args m ρ c main_arg6 (by decide)]

/-- The convolution's output, from the arguments. -/
def klep (c : Dev nD) : FVec Ideal S224x224x192 .f32 := kl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The convolution's array after its call. -/
theorem W8_l (c : Dev nD) : W8 m ρ c (Proc.devRef .tc main_v23) = klep m c := by
  refine (W8_arr m ρ c 5).trans ((lepe_final (V7 m ρ) c).trans ?_)
  rw [V7_0, V7_1, V7_2, V7_w, V7_b]
  rfl

/-- The window branch's rows, as the channel attention reads them. -/
theorem V9_v1 (c : Dev nD) : V9 m ρ c main_v25 = shapeCast S50176x96 (m ((c.tc : Thread nD τ).loc main_arg10)) shapeCasts_S224x224x96_S50176x96 := by
  show StableHlo.after hostOps2 (W8 m ρ c) _ = _
  after_results_simp
  rw [W8_args m ρ c main_arg10 (by decide)]
  rfl

/-- The routing branch's rows. -/
theorem V9_v2 (c : Dev nD) : V9 m ρ c main_v26 = shapeCast S50176x96 (m ((c.tc : Thread nD τ).loc main_arg11)) shapeCasts_S224x224x96_S50176x96 := by
  show StableHlo.after hostOps2 (W8 m ρ c) _ = _
  after_results_simp
  rw [W8_args m ρ c main_arg11 (by decide)]
  rfl

/-- The convolution's rows. -/
theorem V9_v0 (c : Dev nD) : V9 m ρ c main_v24 = shapeCast S50176x192 (klep m c) shapeCasts_S224x224x192_S50176x192 := by
  show StableHlo.after hostOps2 (W8 m ρ c) _ = _
  after_results_simp
  rw [W8_l]
  rfl

/-- The kernel's tokens. -/
def ktok (c : Dev nD) : Fin 50176 → Fin 192 → EReal :=
  xf (shapeCast S50176x96 (m ((c.tc : Thread nD τ).loc main_arg10)) shapeCasts_S224x224x96_S50176x96)
    (shapeCast S50176x96 (m ((c.tc : Thread nD τ).loc main_arg11)) shapeCasts_S224x224x96_S50176x96)
    (shapeCast S50176x192 (klep m c) shapeCasts_S224x224x192_S50176x192)

/-- The tokens' array after the first call. -/
theorem W10_x (c : Dev nD) : W10 m ρ c (Proc.devRef .tc main_v27_0) = fun i => ktok m c (i 0) (i 1) := by
  refine (W10_arr m ρ c 3).trans ((x_final (V9 m ρ) c).trans ?_)
  rw [V9_v1, V9_v2, V9_v0]
  rfl

/-- The second moments after the first call. -/
theorem W10_s (c : Dev nD) : W10 m ρ c (Proc.devRef .tc main_v27_1) = SF (ktok m c) := by
  refine (W10_arr m ρ c 4).trans ((s_final (V9 m ρ) c).trans ?_)
  rw [V9_v1, V9_v2, V9_v0]
  rfl

/-- The second call reads the second moments. -/
theorem V11_s (c : Dev nD) : V11 m ρ c main_v27_1 = SF (ktok m c) :=
  (W11_of m ρ c main_v27_1 (by decide)).trans (W10_s m ρ c)

/-- The query weights. -/
theorem V11_q (c : Dev nD) : V11 m ρ c main_v28 = extractStridedSlice S192x192 ![0, 0] (m ((c.tc : Thread nD τ).loc main_arg7)) slices_S192x576_S192x192_0_0 := by
  show StableHlo.after hostOps3 (W10 m ρ c) _ = _
  after_results_simp
  rw [W10_args m ρ c main_arg7 (by decide)]

/-- The key weights. -/
theorem V11_k (c : Dev nD) : V11 m ρ c main_v29 = extractStridedSlice S192x192 ![0, 192] (m ((c.tc : Thread nD τ).loc main_arg7)) slices_S192x576_S192x192_0_192 := by
  show StableHlo.after hostOps3 (W10 m ρ c) _ = _
  after_results_simp
  rw [W10_args m ρ c main_arg7 (by decide)]

/-- The value weights. -/
theorem V11_v (c : Dev nD) : V11 m ρ c main_v30 = extractStridedSlice S192x192 ![0, 384] (m ((c.tc : Thread nD τ).loc main_arg7)) slices_S192x576_S192x192_0_384 := by
  show StableHlo.after hostOps3 (W10 m ρ c) _ = _
  after_results_simp
  rw [W10_args m ρ c main_arg7 (by decide)]

/-- The projection weights. -/
theorem V11_p (c : Dev nD) : V11 m ρ c main_arg8 = m ((c.tc : Thread nD τ).loc main_arg8) := W11_args m ρ c main_arg8 (by decide)

/-- The folded weights, from the arguments. -/
def kfold (c : Dev nD) : FVec Ideal S192x192 .f32 :=
  k3_pay1 (F := Ideal) (k3_pay2 (SF (ktok m c)) (extractStridedSlice S192x192 ![0, 384] (m ((c.tc : Thread nD τ).loc main_arg7)) slices_S192x576_S192x192_0_384)
      (extractStridedSlice S192x192 ![0, 192] (m ((c.tc : Thread nD τ).loc main_arg7)) slices_S192x576_S192x192_0_192))
    k3_pay3 (iota .tc S192x192 32 [1] iota_S192x192_d1_w32) 24#32 k3_pay4 k3_pay5
    (extractStridedSlice S192x192 ![0, 0] (m ((c.tc : Thread nD τ).loc main_arg7)) slices_S192x576_S192x192_0_0) (m ((c.tc : Thread nD τ).loc main_arg8))

/-- The folded weights' array after the second call. -/
theorem W12_f (c : Dev nD) : W12 m ρ c (Proc.devRef .tc main_v31) = kfold m c := by
  refine (W12_arr m ρ c 5).trans ((f_final (V11 m ρ) c).trans ?_)
  rw [V11_s, V11_q, V11_k, V11_v, V11_p]
  rfl

/-- The third call reads the folded weights. -/
theorem V13_f (c : Dev nD) : V13 m ρ c main_v31 = kfold m c :=
  (W13_of m ρ c main_v31 (by decide)).trans (W12_f m ρ c)

/-- The third call reads the tokens. -/
theorem V13_x (c : Dev nD) : V13 m ρ c main_v27_0 = fun i => ktok m c (i 0) (i 1) :=
  (W13_of m ρ c main_v27_0 (by decide)).trans ((W12_of m ρ c main_v27_0 (by decide)).trans
    ((W11_of m ρ c main_v27_0 (by decide)).trans (W10_x m ρ c)))

/-- The third call reads the bias as a row. -/
theorem V13_b (c : Dev nD) : V13 m ρ c main_v32 = broadcastInDim S1x192 ![1] bcast_S192_S1x192_1 (m ((c.tc : Thread nD τ).loc main_arg9)) := by
  show StableHlo.after hostOps4 (W12 m ρ c) _ = _
  after_results_simp
  rw [W12_args m ρ c main_arg9 (by decide)]

/-- The result, from the arguments. -/
def kres (c : Dev nD) : FVec Ideal S1x50176x192 .f32 :=
  shapeCast S1x50176x192 (OF (fun i => ktok m c (i 0) (i 1)) (kfold m c)
    (broadcastInDim S1x192 ![1] bcast_S192_S1x192_1 (m ((c.tc : Thread nD τ).loc main_arg9)))) shapeCasts_S50176x192_S1x50176x192

/-- The result's array at the end. -/
theorem W15_out (c : Dev nD) : W15 m ρ c (Proc.devRef .tc main_v34) = kres m c := by
  show StableHlo.after hostOps5 (W14 m ρ c) _ = _
  after_results_simp
  have e : W14 m ρ c (Proc.devRef .tc main_v33) = OF (fun i => ktok m c (i 0) (i 1)) (kfold m c)
      (broadcastInDim S1x192 ![1] bcast_S192_S1x192_1 (m ((c.tc : Thread nD τ).loc main_arg9))) := by
    refine (W14_arr m ρ c 3).trans ((o_final (V13 m ρ) c).trans ?_)
    rw [V13_x, V13_f, V13_b]
    rfl
  rw [e]
  rfl

end Cert.KernelIdeal.Value

end
-- ==== Proof.Run.lean ====
module

public import proofs.«01_k».proof.Proof.Chain
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- The kernel ends with its results at `kres` and `kq` and its arguments as launched. -/
theorem run : θ_run defs (onTc (τ := τ) (main (F := Ideal))) ⟨m, fun _ => 0, ρ⟩ (fun r => ∀ c : Dev nD,
      r.2.mem ((c.tc : Thread nD τ).loc main_v34) = kres m c
      ∧ r.2.mem ((c.tc : Thread nD τ).loc main_v8) = kq 0 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9) = kq 96 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10) = kq 192 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v11) = kq 288 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v12) = kq 384 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v13) = kq 480 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => fun c =>
      ⟨(h c _ (mem_uc main_v34 (by decide))).trans (W15_out m ρ c),
       (h c _ (mem_uc main_v8 (by decide))).trans (W15_q0 m ρ c),
       (h c _ (mem_uc main_v9 (by decide))).trans (W15_q1 m ρ c),
       (h c _ (mem_uc main_v10 (by decide))).trans (W15_q2 m ρ c),
       (h c _ (mem_uc main_v11 (by decide))).trans (W15_q3 m ρ c),
       (h c _ (mem_uc main_v12 (by decide))).trans (W15_q4 m ρ c),
       (h c _ (mem_uc main_v13 (by decide))).trans (W15_q5 m ρ c),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Value

end
-- ==== Proof.Finite.lean ====
module

public import proofs.«01_k».proof.Defs
public import proofs.«01_k».proof.Proof.Gen.Pre_finite
public import Idealize.ShloMosaic.Lib.Claim
public import Idealize.ShloMosaic.Lib.ReduceAll
public import proofs.«01_k».proof.Proof.Consts
public import proofs.«01_k».proof.Proof.RefPre

@[expose] public section

set_option maxRecDepth 16384

noncomputable section

namespace Cert.Finite

open Idealize.ShloMosaic Idealize.ShloMosaic.TcCoe Idealize.SL.Sem
open Cert.Pre_finite Cert.Pre_finite.Gen

/-- An extended real below infinity in absolute value is a real number. -/
theorem real_of_abs (x : EReal) (h : Ideal.cmp .olt (max x (-x)) (Ideal.ofBits .f32 0x7F800000#32) = 1#1) : ∃ r : ℝ, x = (r : EReal) := by
  rw [Cert.Consts.pos_inf] at h
  have h' : max x (-x) < ⊤ := by
    by_contra hn
    simp [Ideal.cmp, hn] at h
  rw [max_lt_iff] at h'
  induction x using EReal.rec with
  | bot => simp at h'
  | top => simp at h'
  | coe r => exact ⟨r, rfl⟩

/-- The precondition makes every element of every argument but the last bias a real number. -/
theorem all_real (a0 : FVec Ideal S1x224x224x192 .f32) (a1 : FVec Ideal S96x288 .f32) (a2 : FVec Ideal S288 .f32) (a3 : FVec Ideal S96x288 .f32) (a4 : FVec Ideal S288 .f32) (a5 : FVec Ideal S192x1x3x3 .f32) (a6 : FVec Ideal S192 .f32) (a7 : FVec Ideal S192x576 .f32) (a8 : FVec Ideal S192x192 .f32) (a9 : FVec Ideal S192 .f32) (a10 : FVec Ideal S224x224x96 .f32) (a11 : FVec Ideal S224x224x96 .f32)
    (h : Cert.Pre_finite.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a10 i = (r : EReal)) ∧ (∀ i, ∃ r : ℝ, a11 i = (r : EReal)) := by
  have e := congrFun h (Shape.Idx.first h_S_)
  dsimp only [Cert.Pre_finite.fn, Cert.Pre_finite.fn_part1, Cert.Pre_finite.fn_part2, Cert.Pre_finite.fn_part3, andi] at e
  simp only [IntOp.andi_eq_one] at e
  obtain ⟨⟨⟨⟨⟨⟨⟨⟨⟨⟨⟨-, e0⟩, e1⟩, e2⟩, e3⟩, e4⟩, e5⟩, e6⟩, e7⟩, e8⟩, e10⟩, e11⟩ := e
  exact ⟨fun i => real_of_abs _ (Host.reduce_andi_all _ _ _ _ _ e0 i),
    fun i => real_of_abs _ (Host.reduce_andi_all _ _ _ _ _ e1 i),
    fun i => real_of_abs _ (Host.reduce_andi_all _ _ _ _ _ e2 i),
    fun i => real_of_abs _ (Host.reduce_andi_all _ _ _ _ _ e3 i),
    fun i => real_of_abs _ (Host.reduce_andi_all _ _ _ _ _ e4 i),
    fun i => real_of_abs _ (Host.reduce_andi_all _ _ _ _ _ e5 i),
    fun i => real_of_abs _ (Host.reduce_andi_all _ _ _ _ _ e6 i),
    fun i => real_of_abs _ (Host.reduce_andi_all _ _ _ _ _ e7 i),
    fun i => real_of_abs _ (Host.reduce_andi_all _ _ _ _ _ e8 i),
    fun i => real_of_abs _ (Host.reduce_andi_all _ _ _ _ _ e10 i),
    fun i => real_of_abs _ (Host.reduce_andi_all _ _ _ _ _ e11 i)⟩

open Cert.ReferenceIdeal.Value (qv lin ring taps lpe tok)

/-- A sum of two real numbers is real. -/
theorem real_add (x y : EReal) (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- A product of two real numbers is real. -/
theorem real_mul (x y : EReal) (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A finite sum of real numbers is real. -/
theorem real_sum {ι : Type} (s : Finset ι) (f : ι → EReal) (h : ∀ i, ∃ r : ℝ, f i = (r : EReal)) : ∃ r : ℝ, ∑ i ∈ s, f i = (r : EReal) :=
  Finset.sum_induction f (fun x => ∃ r : ℝ, x = (r : EReal)) real_add ⟨0, rfl⟩ fun i _ => h i

/-- A branch's projection of real data is real. -/
theorem qv_real (A : FVec Ideal S1x224x224x192 .f32) (W : FVec Ideal S96x288 .f32) (b : FVec Ideal S288 .f32) (hA : ∀ i, ∃ r : ℝ, A i = (r : EReal))
    (hW : ∀ i, ∃ r : ℝ, W i = (r : EReal)) (hb : ∀ i, ∃ r : ℝ, b i = (r : EReal)) (o : Fin 97) (i j : Fin 224) (k : Fin 288) :
    ∃ r : ℝ, qv A W b o i j k = (r : EReal) :=
  real_add _ _ (real_sum _ _ fun a => real_mul _ _ (hA _) (hW _)) (hb _)

/-- The convolution's input is real on real data. -/
theorem lin_real (A : FVec Ideal S1x224x224x192 .f32) (w1 : FVec Ideal S96x288 .f32) (b1 : FVec Ideal S288 .f32) (w3 : FVec Ideal S96x288 .f32) (b3 : FVec Ideal S288 .f32)
    (hA : ∀ i, ∃ r : ℝ, A i = (r : EReal)) (hw1 : ∀ i, ∃ r : ℝ, w1 i = (r : EReal)) (hb1 : ∀ i, ∃ r : ℝ, b1 i = (r : EReal)) (hw3 : ∀ i, ∃ r : ℝ, w3 i = (r : EReal)) (hb3 : ∀ i, ∃ r : ℝ, b3 i = (r : EReal))
    (k : Fin 192) (i j : Fin 224) : ∃ r : ℝ, lin A w1 b1 w3 b3 k i j = (r : EReal) := by
  unfold lin
  split
  · exact qv_real A w3 b3 hA hw3 hb3 _ _ _ _
  · exact qv_real A w1 b1 hA hw1 hb1 _ _ _ _

/-- A padded array of real numbers is real. -/
theorem ring_real (p : EReal) (L : Fin 224 → Fin 224 → EReal) (hp : ∃ r : ℝ, p = (r : EReal)) (hL : ∀ i j, ∃ r : ℝ, L i j = (r : EReal)) (i j : Fin 226) :
    ∃ r : ℝ, ring p L i j = (r : EReal) := by
  unfold ring
  split
  · exact hL _ _
  · exact hp

/-- Nine products of real numbers and a real bias have a real sum. -/
theorem taps_real (b : EReal) (z w : Fin 3 → Fin 3 → EReal) (hb : ∃ r : ℝ, b = (r : EReal)) (hz : ∀ d e, ∃ r : ℝ, z d e = (r : EReal))
    (hw : ∀ d e, ∃ r : ℝ, w d e = (r : EReal)) : ∃ r : ℝ, taps b z w = (r : EReal) := by
  have h : ∀ d e, ∃ r : ℝ, z d e * w d e = (r : EReal) := fun d e => real_mul _ _ (hz d e) (hw d e)
  exact real_add _ _ (real_add _ _ (real_add _ _ (real_add _ _ (real_add _ _ (real_add _ _ (real_add _ _ (real_add _ _ (real_add _ _ (real_add _ _ ⟨0, rfl⟩
    (h 0 0)) (h 0 1)) (h 0 2)) (h 1 0)) (h 1 1)) (h 1 2)) (h 2 0)) (h 2 1)) (h 2 2)) hb

/-- The convolution of real data is real. -/
theorem lpe_real (A : FVec Ideal S1x224x224x192 .f32) (w1 : FVec Ideal S96x288 .f32) (b1 : FVec Ideal S288 .f32) (w3 : FVec Ideal S96x288 .f32) (b3 : FVec Ideal S288 .f32)
    (w : FVec Ideal S192x1x3x3 .f32) (b : FVec Ideal S192 .f32)
    (hA : ∀ i, ∃ r : ℝ, A i = (r : EReal)) (hw1 : ∀ i, ∃ r : ℝ, w1 i = (r : EReal)) (hb1 : ∀ i, ∃ r : ℝ, b1 i = (r : EReal)) (hw3 : ∀ i, ∃ r : ℝ, w3 i = (r : EReal)) (hb3 : ∀ i, ∃ r : ℝ, b3 i = (r : EReal))
    (hw : ∀ i, ∃ r : ℝ, w i = (r : EReal)) (hb : ∀ i, ∃ r : ℝ, b i = (r : EReal))
    (i j : Fin 224) (k : Fin 192) : ∃ r : ℝ, lpe A w1 b1 w3 b3 w b i j k = (r : EReal) :=
  taps_real _ _ _ (hb _) (fun d e => ring_real _ _ ⟨((0#32).toInt : ℝ), rfl⟩ (lin_real A w1 b1 w3 b3 hA hw1 hb1 hw3 hb3 k) _ _) fun d e => hw _

/-- Tokens of real data are real numbers. -/
theorem tok_real (A0 A1 : FVec Ideal S224x224x96 .f32) (l : Fin 224 → Fin 224 → Fin 192 → EReal) (h0 : ∀ i, ∃ r : ℝ, A0 i = (r : EReal))
    (h1 : ∀ i, ∃ r : ℝ, A1 i = (r : EReal)) (hl : ∀ i j k, ∃ r : ℝ, l i j k = (r : EReal)) (n : Fin 50176) (j : Fin 192) :
    ∃ r : ℝ, tok A0 A1 l n j = (r : EReal) := by
  unfold tok
  refine real_add _ _ ?_ (hl _ _ _)
  split
  · exact h0 _
  · exact h1 _

end Cert.Finite
end
-- ==== Proof.FoldMath.lean ====
module

public import Idealize.ShloMosaic.PureOps.Ideal
public import Idealize.ShloMosaic.Lib.Pointwise

@[expose] public section

noncomputable section

namespace Cert.Fold

open Idealize.ShloMosaic

/-- A sum of reals, cast. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The channel of head `h` and lane `c`. -/
def ch (h : Fin 8) (c : Fin 24) : Fin 192 := ⟨h * 24 + c, by omega⟩

/-- The head of a channel. -/
def hd (r : Fin 192) : Fin 8 := ⟨r / 24, by omega⟩

/-- The lane of a channel within its head. -/
def ln (r : Fin 192) : Fin 24 := ⟨r % 24, by omega⟩

/-- A channel is the lane of its head it lies at. -/
theorem ch_hd_ln (r : Fin 192) : ch (hd r) (ln r) = r := Fin.ext (by simp only [ch, hd, ln]; omega)
/-- The head of a head's lane. -/
theorem hd_ch (h : Fin 8) (c : Fin 24) : hd (ch h c) = h := Fin.ext (by simp only [ch, hd]; omega)
/-- The lane of a head's lane. -/
theorem ln_ch (h : Fin 8) (c : Fin 24) : ln (ch h c) = c := Fin.ext (by simp only [ch, ln]; omega)

/-- A sum over all channels that vanishes off one head is the sum over that head's lanes. -/
theorem sum_pick {M : Type*} [AddCommMonoid M] (h : Fin 8) (g : Fin 192 → M) :
    ∑ r, (if h = hd r then g r else 0) = ∑ c, g (ch h c) := by
  rw [← Finset.sum_filter]
  refine Finset.sum_nbij' ln (ch h) ?_ ?_ ?_ ?_ ?_
  · intro r _; exact Finset.mem_univ _
  · intro c _; simp [hd_ch]
  · intro r hr; rw [(Finset.mem_filter.mp hr).2]; exact ch_hd_ln r
  · intro c _; exact ln_ch h c
  · intro r hr; rw [(Finset.mem_filter.mp hr).2, ch_hd_ln]

variable {ι : Type*} [Fintype ι]

/-! ## The kernel's arithmetic -/

/-- The logits of a pair of channels from the second moments of the tokens. -/
def klg (sc : EReal) (S : Fin 192 → Fin 192 → EReal) (Wk Wv : Fin 192 → Fin 192 → EReal) (r c : Fin 192) : EReal :=
  (∑ a, Wk a r * ∑ b, S a b * Wv b c) * sc

/-- The logits with `⊥` off the diagonal blocks. -/
def msk (L : Fin 192 → Fin 192 → EReal) (r c : Fin 192) : EReal := if hd r = hd c then L r c else ⊥

/-- The exponentials of the masked logits less the row's maximum. -/
def kexp (L : Fin 192 → Fin 192 → EReal) (r c : Fin 192) : EReal :=
  Ideal.exp (msk L r c - Finset.fold max ⊥ (msk L r) Finset.univ)

/-- The row-normalised exponentials, by multiplication with the reciprocal. -/
def katt (L : Fin 192 → Fin 192 → EReal) (r c : Fin 192) : EReal :=
  kexp L r c * Ideal.div 1 (∑ c, kexp L r c)

/-- The folded weights. -/
def kwf (A : Fin 192 → Fin 192 → EReal) (Wq P : Fin 192 → Fin 192 → EReal) (i j : Fin 192) : EReal :=
  ∑ r, (∑ c, Wq i c * A r c) * P r j

/-! ## The reference's arithmetic -/

/-- The logits of two lanes of a head. -/
def rlg (sc : EReal) (K V : ι → Fin 192 → EReal) (h : Fin 8) (d c : Fin 24) : EReal :=
  ∑ n, K n (ch h d) * sc * V n (ch h c)

/-- The exponentials of the logits less the row's maximum. -/
def rexp (L : Fin 8 → Fin 24 → Fin 24 → EReal) (h : Fin 8) (d c : Fin 24) : EReal :=
  Ideal.exp (L h d c - max ⊥ (Finset.fold max ⊥ (L h d) Finset.univ))

/-- The row-normalised exponentials, by division. -/
def ratt (L : Fin 8 → Fin 24 → Fin 24 → EReal) (h : Fin 8) (d c : Fin 24) : EReal :=
  Ideal.div (rexp L h d c) (0 + ∑ c, rexp L h d c)

/-- The attention applied to the queries, projected. -/
def rout (A : Fin 8 → Fin 24 → Fin 24 → EReal) (Q : ι → Fin 192 → EReal) (P : Fin 192 → Fin 192 → EReal) (n : ι) (j : Fin 192) : EReal :=
  ∑ r, (∑ c, A (hd r) (ln r) c * Q n (ch (hd r) c)) * P r j

/-- A product of the tokens with a weight matrix. -/
def lin (X : ι → Fin 192 → EReal) (W : Fin 192 → Fin 192 → EReal) (n : ι) (r : Fin 192) : EReal := ∑ a, X n a * W a r

/-! ## The two agree on finite data -/

/-- The maximum folded over all columns is their supremum. -/
theorem fold_max_eq_sup {κ : Type*} [Fintype κ] (f : κ → EReal) : Finset.fold max ⊥ f Finset.univ = Finset.univ.sup f := rfl

/-- A maximum of finitely many, at least one, reals is one of them. -/
theorem sup_real (f : Fin 24 → ℝ) : ∃ μ : ℝ, Finset.univ.sup (fun c => (f c : EReal)) = (μ : EReal) := by
  obtain ⟨c, -, h⟩ := Finset.exists_mem_eq_sup (Finset.univ : Finset (Fin 24)) Finset.univ_nonempty (fun c => (f c : EReal))
  exact ⟨f c, h⟩

/-- The kernel's maximum over a masked row is the maximum over the head's lanes. -/
theorem sup_msk (L : Fin 192 → Fin 192 → EReal) (r : Fin 192) :
    Finset.univ.sup (msk L r) = Finset.univ.sup (fun c => L r (ch (hd r) c)) := by
  refine le_antisymm (Finset.sup_le fun c' _ => ?_) (Finset.sup_le fun c _ => ?_)
  · unfold msk
    split
    · rename_i h
      refine le_trans (le_of_eq ?_) (Finset.le_sup (f := fun c => L r (ch (hd r) c)) (Finset.mem_univ (ln c')))
      simp only [h, ch_hd_ln]
    · exact bot_le
  · refine le_trans (le_of_eq ?_) (Finset.le_sup (Finset.mem_univ (ch (hd r) c)))
    simp only [msk, hd_ch, if_true]

/-- On real logits both normalisations are the same real matrix, zero off the diagonal blocks. -/
theorem att_real (l : Fin 192 → Fin 192 → ℝ) : ∃ A : Fin 192 → Fin 192 → ℝ,
    (∀ r c, katt (fun r c => (l r c : EReal)) r c = ((if hd r = hd c then A r c else 0 : ℝ) : EReal)) ∧
    (∀ h d c, ratt (fun h d c => (l (ch h d) (ch h c) : EReal)) h d c = (A (ch h d) (ch h c) : EReal)) := by
  choose μ hμ using fun r => sup_real (fun c => l r (ch (hd r) c))
  have hs : ∀ r, 0 < ∑ c, Real.exp (l r (ch (hd r) c) - μ r) := fun r =>
    Finset.sum_pos (fun c _ => Real.exp_pos _) Finset.univ_nonempty
  have hk : ∀ r c, kexp (fun r c => (l r c : EReal)) r c = ((if hd r = hd c then Real.exp (l r c - μ r) else 0 : ℝ) : EReal) := by
    intro r c
    unfold kexp
    rw [fold_max_eq_sup, sup_msk, hμ, msk]
    split
    · rw [← EReal.coe_sub, Ideal.exp_coe]
    · rw [EReal.bot_sub, Ideal.exp_bot, EReal.coe_zero]
  have hr : ∀ h d c, rexp (fun h d c => (l (ch h d) (ch h c) : EReal)) h d c = (Real.exp (l (ch h d) (ch h c) - μ (ch h d)) : EReal) := by
    intro h d c
    have := hμ (ch h d)
    rw [hd_ch] at this
    unfold rexp
    rw [fold_max_eq_sup, this, max_eq_right bot_le, ← EReal.coe_sub, Ideal.exp_coe]
  refine ⟨fun r c => Real.exp (l r c - μ r) * (1 / ∑ c, Real.exp (l r (ch (hd r) c) - μ r)), ?_, ?_⟩
  · intro r c
    unfold katt
    simp only [hk]
    rw [← coe_sum, sum_pick, Ideal.div_coe (hs r).ne', one_mul, ← EReal.coe_mul, ite_mul, zero_mul]
  · intro h d c
    have h0 := hs (ch h d)
    rw [hd_ch] at h0
    unfold ratt
    simp only [hr]
    rw [← coe_sum, zero_add, Ideal.div_coe h0.ne', ← EReal.coe_mul]
    simp only [hd_ch]

/-- The logits agree: the tokens' second moments between the two weight matrices, scaled, are the sum over the tokens of
    the scaled keys times the values. -/
theorem lg_eq (s : ℝ) (x : ι → Fin 192 → ℝ) (wk wv : Fin 192 → Fin 192 → ℝ) (r c : Fin 192) :
    (∑ a, wk a r * ∑ b, (∑ n, x n a * x n b) * wv b c) * s = ∑ n, (∑ a, x n a * wk a r) * s * ∑ b, x n b * wv b c := by
  have e : ∀ n, (∑ a, x n a * wk a r) * s * ∑ b, x n b * wv b c = ∑ a, ∑ b, wk a r * (x n a * x n b * wv b c) * s := by
    intro n
    rw [mul_assoc, Finset.sum_mul]
    refine Finset.sum_congr rfl fun a _ => ?_
    rw [Finset.mul_sum, Finset.mul_sum]
    exact Finset.sum_congr rfl fun b _ => by ring
  simp only [e]
  rw [Finset.sum_comm, Finset.sum_mul]
  refine Finset.sum_congr rfl fun a _ => ?_
  rw [Finset.sum_comm, Finset.mul_sum, Finset.sum_mul]
  refine Finset.sum_congr rfl fun b _ => ?_
  rw [Finset.sum_mul, Finset.mul_sum, Finset.sum_mul]

/-- The kernel's result and the reference's are one, on real tokens and weights. -/
theorem out_eq (s : ℝ) (x : ι → Fin 192 → ℝ) (wq wk wv p : Fin 192 → Fin 192 → ℝ) (n : ι) (j : Fin 192) :
    (∑ a, (x n a : EReal) * kwf (katt (klg (s : EReal) (fun a b => ∑ n, (x n a : EReal) * (x n b : EReal)) (fun a r => wk a r) (fun a r => wv a r)))
        (fun a r => wq a r) (fun a r => p a r) a j)
    = rout (ratt (rlg (s : EReal) (lin (fun n a => (x n a : EReal)) (fun a r => wk a r)) (lin (fun n a => (x n a : EReal)) (fun a r => wv a r))))
        (lin (fun n a => (x n a : EReal)) (fun a r => wq a r)) (fun a r => p a r) n j := by
  have hl : ∀ w : Fin 192 → Fin 192 → ℝ, lin (fun n a => (x n a : EReal)) (fun a r => (w a r : EReal))
      = fun n r => ((∑ a, x n a * w a r : ℝ) : EReal) := by
    intro w; funext n r; rw [lin, coe_sum]; simp only [EReal.coe_mul]
  have hk : klg (s : EReal) (fun a b => ∑ n, (x n a : EReal) * (x n b : EReal)) (fun a r => (wk a r : EReal)) (fun a r => (wv a r : EReal))
      = fun r c => ((∑ n, (∑ a, x n a * wk a r) * s * ∑ b, x n b * wv b c : ℝ) : EReal) := by
    funext r c
    rw [← lg_eq, klg]
    simp only [coe_sum, EReal.coe_mul]
  have hr : rlg (s : EReal) (fun n r => ((∑ a, x n a * wk a r : ℝ) : EReal)) (fun n r => ((∑ a, x n a * wv a r : ℝ) : EReal))
      = fun h d c => ((∑ n, (∑ a, x n a * wk a (ch h d)) * s * ∑ b, x n b * wv b (ch h c) : ℝ) : EReal) := by
    funext h d c
    rw [rlg, coe_sum (ι := ι)]
    simp only [EReal.coe_mul]
  obtain ⟨A, hA, hB⟩ := att_real (fun r c => ∑ n, (∑ a, x n a * wk a r) * s * ∑ b, x n b * wv b c)
  have hA' := funext fun r => funext fun c => hA r c
  have hB' := funext fun h => funext fun d => funext fun c => hB h d c
  rw [hl, hl, hl, hk, hr, hA', hB']
  have e1 : ∀ r, (∑ c, (A (ch (hd r) (ln r)) (ch (hd r) c) : EReal) * ((∑ a, x n a * wq a (ch (hd r) c) : ℝ) : EReal))
      = ((∑ c, (if hd r = hd c then A r c else 0) * ∑ a, x n a * wq a c : ℝ) : EReal) := by
    intro r
    have := sum_pick (hd r) (fun c => A r c * ∑ a, x n a * wq a c)
    simp only [ite_mul, zero_mul]
    rw [this, ch_hd_ln, coe_sum]
    simp only [EReal.coe_mul]
  unfold rout
  simp only [e1]
  unfold kwf
  have e2 : ∀ a, (∑ r, (∑ c, (wq a c : EReal) * ((if hd r = hd c then A r c else 0 : ℝ) : EReal)) * (p r j : EReal))
      = ((∑ r, (∑ c, wq a c * (if hd r = hd c then A r c else 0)) * p r j : ℝ) : EReal) := by
    intro a
    simp only [coe_sum, EReal.coe_mul]
  simp only [e2, ← EReal.coe_mul, ← coe_sum]
  congr 1
  generalize hB0 : (fun r c => if hd r = hd c then A r c else 0) = B
  have hB1 : ∀ r c, (if hd r = hd c then A r c else 0) = B r c := fun r c => congrFun (congrFun hB0 r) c
  simp only [hB1]
  simp only [Finset.mul_sum]
  rw [Finset.sum_comm]
  refine Finset.sum_congr rfl fun r _ => ?_
  rw [Finset.sum_comm, Finset.sum_mul]
  simp only [Finset.sum_mul, Finset.mul_sum]
  exact Finset.sum_congr rfl fun c _ => Finset.sum_congr rfl fun a _ => by ring

end Cert.Fold

end
-- ==== Proof.Fold.lean ====
module

public import proofs.«01_k».proof.Proof.Gen.KernelIdeal.Skeleton
public import Idealize.ShloMosaic.Lib.Pipeline.ValueKit
public import proofs.«01_k».proof.Proof.Consts
public import proofs.«01_k».proof.Proof.FoldMath

@[expose] public section

set_option maxRecDepth 16384

noncomputable section

namespace Cert.KernelIdeal.Value

open Idealize.ShloMosaic Idealize.ShloMosaic.TcCoe Idealize.SL.Sem
open Cert.KernelIdeal Cert.KernelIdeal.Gen

/-- The quotient by 24 rounded down, in the words the kernel computes it with. -/
def fdiv (x : ℕ) : BitVec 32 :=
  Scalar.select (IntOp.andi
      (IntOp.cmpi CmpIPredicate.ne
        (IntOp.subi (BitVec.setWidth 32 (IntOp.cmpi CmpIPredicate.sgt (BitVec.ofNat 32 x) 0#32))
          (BitVec.setWidth 32 (IntOp.cmpi CmpIPredicate.slt (BitVec.ofNat 32 x) 0#32)))
        (Scalar.subi (Scalar.extui (Scalar.cmpi CmpIPredicate.sgt 24#32 0#32)) (Scalar.extui (Scalar.cmpi CmpIPredicate.slt 24#32 0#32))))
      (IntOp.cmpi CmpIPredicate.ne (IntOp.remsi ArithUnit.vector (BitVec.ofNat 32 x) 24#32) 0#32))
    (IntOp.subi (IntOp.divsi ArithUnit.vector (BitVec.ofNat 32 x) 24#32) 1#32)
    (IntOp.divsi ArithUnit.vector (BitVec.ofNat 32 x) 24#32)

/-- It is the head of the channel. -/
theorem fdiv_eq : ∀ r : Fin 192, fdiv r = BitVec.ofNat 32 (Cert.Fold.hd r) := by decide +kernel

/-- Two heads' words are equal just when the heads are. -/
theorem heads_eq : ∀ g h : Fin 8, IntOp.cmpi .eq (BitVec.ofNat 32 g) (BitVec.ofNat 32 h) = if g = h then 1#1 else 0#1 := by decide +kernel

/-- The name of the masking constant denotes `⊥`. -/
theorem mask_named : Named.named (F := Ideal) κ "mask" (φ := .f32) 0xF149F2CA#32 = (⊥ : EReal) :=
  IdealRules.named_const.ideal_named_scalar _ _ _ _ rfl

/-- The kernel's masking reads as the mask of the heads. -/
theorem sel_at (L : Fin 192 → Fin 192 → EReal) (r c : Fin 192) :
    Scalar.select (IntOp.cmpi CmpIPredicate.eq (fdiv r) (fdiv c)) (L r c) (Named.named (F := Ideal) κ "mask" (φ := .f32) 0xF149F2CA#32)
      = Cert.Fold.msk L r c := by
  rw [fdiv_eq, fdiv_eq, heads_eq, mask_named, Cert.Fold.msk]
  split <;> simp [Scalar.select]

/-- The logits the second call computes. -/
theorem lg_at (s wv wk : Vec Ideal S192x192 .f32) (r c : Fin 192) :
    k3_pay2 (F := Ideal) s wv wk (ix2 r c) = Cert.Fold.klg (Ideal.ofBits .f32 0x3E5105EC#32) (fun a b => s (ix2 a b))
      (fun a r => wk (ix2 a r)) (fun a r => wv (ix2 a r)) r c := by
  pointwise! [k3_pay2, Cert.Fold.klg]

/-- The weights the second call computes. -/
theorem fold_at (L : Vec Ideal S192x192 .f32) (wq pw : Vec Ideal S192x192 .f32) (i j : Fin 192) :
    k3_pay1 (F := Ideal) L k3_pay3 (iota .tc S192x192 32 [1] iota_S192x192_d1_w32) 24#32
      k3_pay4 k3_pay5 wq pw (ix2 i j) = Cert.Fold.kwf (Cert.Fold.katt (fun r c => L (ix2 r c))) (fun a r => wq (ix2 a r)) (fun a r => pw (ix2 a r)) i j := by
  pointwise [k3_pay1, k3_pay3, k3_pay4, k3_pay5]
  have key := sel_at (fun r c => L (ix2 r c))
  simp only [fdiv] at key
  simp only [key, Cert.Consts.neg_inf]
  rfl

end Cert.KernelIdeal.Value

end
-- ==== Proof.RefVal.lean ====
module

public import proofs.«01_k».proof.Proof.RefPre
public import Idealize.ShloMosaic.Lib.Pipeline.ValueKit
public import proofs.«01_k».proof.Proof.Consts
public import proofs.«01_k».proof.Proof.FoldMath

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- Queries, keys and values, by head. -/
def rT (X : FVec Ideal S1x50176x192 .f32) (W : FVec Ideal S192x576 .f32) : FVec Ideal S3x1x8x50176x24 .f32 :=
  transpose S3x1x8x50176x24 [2, 0, 3, 1, 4] (shapeCast _ (Host.dotGeneral dot_S1x50176x192_S192x576_S1x50176x576_2_0_01_1_n_n none X W) shapeCasts_S1x50176x576_S1x50176x3x8x24) transposes_S1x50176x3x8x24_S3x1x8x50176x24_2_0_3_1_4

/-- The logits, by head. -/
def rL (T : FVec Ideal S3x1x8x50176x24 .f32) : FVec Ideal S1x8x24x24 .f32 :=
  broadcastInDim S1x8x24x24 ![1, 2, 3] bcast_S8x24x24_S1x8x24x24_1_2_3 (Host.dotGeneral dot_S8x24x50176_S8x50176x24_S8x24x24_2_1_1_2_0_0 none (shapeCast _ (transpose S1x8x24x50176 [0, 1, 3, 2] (mulf (shapeCast _ (extractStridedSlice S1x1x8x50176x24 ![1, 0, 0, 0, 0] T slices_S3x1x8x50176x24_S1x1x8x50176x24_1_0_0_0_0) shapeCasts_S1x1x8x50176x24_S1x8x50176x24) (broadcastInDim S1x8x50176x24 ![] bcast_S_S1x8x50176x24 (constant S_ .f32 0x3E5105EC#32))) transposes_S1x8x50176x24_S1x8x24x50176_0_1_3_2) shapeCasts_S1x8x24x50176_S8x24x50176) (shapeCast _ (shapeCast _ (extractStridedSlice S1x1x8x50176x24 ![2, 0, 0, 0, 0] T slices_S3x1x8x50176x24_S1x1x8x50176x24_2_0_0_0_0) shapeCasts_S1x1x8x50176x24_S1x8x50176x24) shapeCasts_S1x8x50176x24_S8x50176x24))

/-- The exponentials of the logits less their row's maximum. -/
def rE (L : FVec Ideal S1x8x24x24 .f32) : FVec Ideal S1x8x24x24 .f32 :=
  Host.exp (subf L (broadcastInDim S1x8x24x24 ![0, 1, 2, 3] bcast_S1x8x24x1_S1x8x24x24_0_1_2_3 (broadcastInDim S1x8x24x1 ![0, 1, 2] bcast_S1x8x24_S1x8x24x1_0_1_2 (maximumf (broadcastInDim S1x8x24 ![] bcast_S_S1x8x24 (constant S_ .f32 0xFF800000#32)) (Host.reduce FloatOps.maximumf L (constant S_ .f32 0xFF800000#32) reducesTo_S1x8x24x24_S1x8x24_d3 h_S_)))))

/-- The attention: the exponentials over their row's sum. -/
def rA (E : FVec Ideal S1x8x24x24 .f32) : FVec Ideal S1x8x24x24 .f32 :=
  Host.divf E (broadcastInDim S1x8x24x24 ![0, 1, 2, 3] bcast_S1x8x24x1_S1x8x24x24_0_1_2_3 (broadcastInDim S1x8x24x1 ![0, 1, 2] bcast_S1x8x24_S1x8x24x1_0_1_2 (Host.reduceAdd E (constant S_ .f32 0x00000000#32) reducesTo_S1x8x24x24_S1x8x24_d3 h_S_)))

/-- The attention applied to the queries, by token. -/
def rY (A : FVec Ideal S1x8x24x24 .f32) (T : FVec Ideal S3x1x8x50176x24 .f32) : FVec Ideal S1x50176x192 .f32 :=
  shapeCast _ (transpose S1x50176x8x24 [0, 2, 1, 3] (transpose S1x8x50176x24 [0, 1, 3, 2] (broadcastInDim S1x8x24x50176 ![1, 2, 3] bcast_S8x24x50176_S1x8x24x50176_1_2_3 (Host.dotGeneral dot_S8x24x24_S8x24x50176_S8x24x50176_2_1_1_2_0_0 none (shapeCast _ A shapeCasts_S1x8x24x24_S8x24x24) (shapeCast _ (transpose S1x8x24x50176 [0, 1, 3, 2] (shapeCast _ (extractStridedSlice S1x1x8x50176x24 ![0, 0, 0, 0, 0] T slices_S3x1x8x50176x24_S1x1x8x50176x24_0_0_0_0_0) shapeCasts_S1x1x8x50176x24_S1x8x50176x24) transposes_S1x8x50176x24_S1x8x24x50176_0_1_3_2) shapeCasts_S1x8x24x50176_S8x24x50176))) transposes_S1x8x24x50176_S1x8x50176x24_0_1_3_2) transposes_S1x8x50176x24_S1x50176x8x24_0_2_1_3) shapeCasts_S1x50176x8x24_S1x50176x192

/-- The projection. -/
def rP (Y : FVec Ideal S1x50176x192 .f32) (P : FVec Ideal S192x192 .f32) (b : FVec Ideal S192 .f32) : FVec Ideal S1x50176x192 .f32 :=
  addf (Host.dotGeneral dot_S1x50176x192_S192x192_S1x50176x192_2_0_01_1_n_n none Y P) (broadcastInDim S1x50176x192 ![0, 1, 2] bcast_S1x1x192_S1x50176x192_0_1_2 (broadcastInDim S1x1x192 ![2] bcast_S192_S1x1x192_2 b))

open Cert.Fold (ch hd ln)

/-- Column `192 k + r` of the joint weights, `k` choosing queries, keys or values. -/
def col (k : Fin 3) (r : Fin 192) : Fin 576 := ⟨k * 192 + r, by omega⟩

/-- The queries, keys and values, read. -/
theorem rT_at (X : FVec Ideal S1x50176x192 .f32) (W : FVec Ideal S192x576 .f32) (k : Fin 3) (h : Fin 8) (n : Fin 50176) (d : Fin 24) :
    rT X W (ix5 k 0 h n d) = ∑ a : Fin 192, X (ix3 0 n a) * W (ix2 a (col k (ch h d))) := by
  pointwise [rT]
  refine Finset.sum_congr rfl fun a _ => ?_
  congr 3
  refine Fin.ext ?_
  show (k : ℕ) * 192 + (h : ℕ) * 24 + (d : ℕ) = (k : ℕ) * 192 + ((h : ℕ) * 24 + (d : ℕ))
  omega

/-- The logits, read. -/
theorem rL_at (T : FVec Ideal S3x1x8x50176x24 .f32) (h : Fin 8) (d c : Fin 24) :
    rL T (ix4 0 h d c) = ∑ n : Fin 50176, T (ix5 1 0 h n d) * Ideal.ofBits .f32 0x3E5105EC#32 * T (ix5 2 0 h n c) := by
  pointwise [rL]

/-- The exponentials, read. -/
theorem rE_at (L : FVec Ideal S1x8x24x24 .f32) (h : Fin 8) (d c : Fin 24) :
    rE L (ix4 0 h d c) = Cert.Fold.rexp (fun h d c => L (ix4 0 h d c)) h d c := by
  pointwise [rE]
  simp only [Cert.Consts.neg_inf]
  rfl

/-- The attention, read. -/
theorem rA_at (E : FVec Ideal S1x8x24x24 .f32) (h : Fin 8) (d c : Fin 24) :
    rA E (ix4 0 h d c) = Ideal.div (E (ix4 0 h d c)) (0 + ∑ c, E (ix4 0 h d c)) := by
  pointwise [rA]

/-- The attended queries, read. -/
theorem rY_at (A : FVec Ideal S1x8x24x24 .f32) (T : FVec Ideal S3x1x8x50176x24 .f32) (n : Fin 50176) (r : Fin 192) :
    rY A T (ix3 0 n r) = ∑ c : Fin 24, A (ix4 0 (hd r) (ln r) c) * T (ix5 0 0 (hd r) n c) := by
  pointwise [rY]
  rfl

/-- The projection, read. -/
theorem rP_at (Y : FVec Ideal S1x50176x192 .f32) (P : FVec Ideal S192x192 .f32) (b : FVec Ideal S192 .f32) (n : Fin 50176) (j : Fin 192) :
    rP Y P b (ix3 0 n j) = (∑ r : Fin 192, Y (ix3 0 n r) * P (ix2 r j)) + b (ix1 j) := by
  pointwise [rP]

/-- The channel attention of an array of tokens, stage by stage. -/
def chan (X : FVec Ideal S1x50176x192 .f32) (W : FVec Ideal S192x576 .f32) (P : FVec Ideal S192x192 .f32) (b : FVec Ideal S192 .f32) : FVec Ideal S1x50176x192 .f32 :=
  rP (rY (rA (rE (rL (rT X W)))) (rT X W)) P b

/-- The reference's channel attention over an array of tokens, in the plain form. -/
theorem chan_at (X : FVec Ideal S1x50176x192 .f32) (W : FVec Ideal S192x576 .f32)
    (P : FVec Ideal S192x192 .f32) (b : FVec Ideal S192 .f32) (n : Fin 50176) (j : Fin 192) :
    chan X W P b (ix3 0 n j)
      = Cert.Fold.rout (Cert.Fold.ratt (Cert.Fold.rlg (Ideal.ofBits .f32 0x3E5105EC#32)
            (Cert.Fold.lin (fun n a => X (ix3 0 n a)) fun a r => W (ix2 a (col 1 r)))
            (Cert.Fold.lin (fun n a => X (ix3 0 n a)) fun a r => W (ix2 a (col 2 r)))))
          (Cert.Fold.lin (fun n a => X (ix3 0 n a)) fun a r => W (ix2 a (col 0 r))) (fun a r => P (ix2 a r)) n j + b (ix1 j) := by
  rw [chan, rP_at]
  simp only [rY_at, rA_at, rE_at, rL_at, rT_at]
  rfl

/-- The reference's tokens, from the arguments. -/
theorem tokens_at (A : FVec Ideal S1x224x224x192 .f32) (w1 : FVec Ideal S96x288 .f32) (b1 : FVec Ideal S288 .f32) (w3 : FVec Ideal S96x288 .f32) (b3 : FVec Ideal S288 .f32)
    (w : FVec Ideal S192x1x3x3 .f32) (b : FVec Ideal S192 .f32) (A0 A1 : FVec Ideal S224x224x96 .f32) (n : Fin 50176) (j : Fin 192) :
    rX (rC A0 A1) (rO (rZ (rB A w3 b3) (rQ A w1 b1)) w b) (ix3 0 n j) = tok A0 A1 (lpe A w1 b1 w3 b3 w b) n j := by
  rw [rX_at]
  simp only [rO_lpe]

end Cert.ReferenceIdeal.Value

end
-- ==== Proof.KerVal.lean ====
module

public import proofs.«01_k».proof.Proof.Chain
public import proofs.«01_k».proof.Proof.Fold
public import proofs.«01_k».proof.Proof.RefVal

@[expose] public section

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Value (tok col lpe)

variable (m : (ℓ : Loc nD τ sig) → Buf (Elt Ideal) ℓ) (c : Dev nD)

/-- The kernel's tokens, from arrays. -/
theorem xf_at (A0 A1 : FVec Ideal S224x224x96 .f32) (A2 : FVec Ideal S224x224x192 .f32) (n : Fin 50176) (j : Fin 192) :
    xf (shapeCast S50176x96 A0 shapeCasts_S224x224x96_S50176x96) (shapeCast S50176x96 A1 shapeCasts_S224x224x96_S50176x96)
      (shapeCast S50176x192 A2 shapeCasts_S224x224x192_S50176x192) n j = tok A0 A1 (fun i j k => A2 (ix3 i j k)) n j := by
  pointwise [xf]
  rfl

/-- The kernel's tokens are the reference's. -/
theorem ktok_at (n : Fin 50176) (j : Fin 192) : ktok m c n j
    = tok (m ((c.tc : Thread nD τ).loc main_arg10)) (m ((c.tc : Thread nD τ).loc main_arg11)) (lpe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) n j := by
  refine (xf_at _ _ _ n j).trans ?_
  exact congrArg (fun l => tok (m ((c.tc : Thread nD τ).loc main_arg10)) (m ((c.tc : Thread nD τ).loc main_arg11)) l n j) (funext fun i => funext fun j => funext fun k => kl_at _ _ _ _ _ _ _ i j k)

/-- The query weights are the first third of the joint weights. -/
theorem wq_at (W : FVec Ideal S192x576 .f32) (a r : Fin 192) :
    extractStridedSlice S192x192 ![0, 0] W slices_S192x576_S192x192_0_0 (ix2 a r) = W (ix2 a (col 0 r)) := by
  pointwise [col]

/-- The key weights are the second third. -/
theorem wk_at (W : FVec Ideal S192x576 .f32) (a r : Fin 192) :
    extractStridedSlice S192x192 ![0, 192] W slices_S192x576_S192x192_0_192 (ix2 a r) = W (ix2 a (col 1 r)) := by
  pointwise [col]

/-- The value weights are the last third. -/
theorem wv_at (W : FVec Ideal S192x576 .f32) (a r : Fin 192) :
    extractStridedSlice S192x192 ![0, 384] W slices_S192x576_S192x192_0_384 (ix2 a r) = W (ix2 a (col 2 r)) := by
  pointwise [col]

/-- The folded weights, read. -/
theorem fold_slices_at (X : Fin 50176 → Fin 192 → EReal) (W : FVec Ideal S192x576 .f32) (P : FVec Ideal S192x192 .f32) (i j : Fin 192) :
    k3_pay1 (F := Ideal) (k3_pay2 (SF X) (extractStridedSlice S192x192 ![0, 384] W slices_S192x576_S192x192_0_384)
        (extractStridedSlice S192x192 ![0, 192] W slices_S192x576_S192x192_0_192))
      k3_pay3 (iota .tc S192x192 32 [1] iota_S192x192_d1_w32) 24#32 k3_pay4 k3_pay5
      (extractStridedSlice S192x192 ![0, 0] W slices_S192x576_S192x192_0_0) P (ix2 i j)
    = Cert.Fold.kwf (Cert.Fold.katt (Cert.Fold.klg (Ideal.ofBits .f32 0x3E5105EC#32) (fun a b => ∑ n, X n a * X n b)
          (fun a r => W (ix2 a (col 1 r))) (fun a r => W (ix2 a (col 2 r)))))
        (fun a r => W (ix2 a (col 0 r))) (fun a r => P (ix2 a r)) i j := by
  rw [fold_at]
  simp only [lg_at, wq_at, wk_at, wv_at]
  rfl

/-- The result, read, from arrays. -/
theorem res_at (X : Fin 50176 → Fin 192 → EReal) (w : FVec Ideal S192x192 .f32) (b : FVec Ideal S192 .f32) (n : Fin 50176) (j : Fin 192) :
    shapeCast S1x50176x192 (OF (fun i => X (i 0) (i 1)) w (broadcastInDim S1x192 ![1] bcast_S192_S1x192_1 b)) shapeCasts_S50176x192_S1x50176x192 (ix3 0 n j)
      = (∑ a : Fin 192, X n a * w (ix2 a j)) + b (ix1 j) := by
  pointwise [OF]

/-- The kernel's result agrees with the reference's plain form where the tokens and the weights are real numbers. -/
theorem kres_eq (hx : ∀ n a, ∃ r : ℝ, ktok m c n a = (r : EReal)) (hw : ∀ i, ∃ r : ℝ, m ((c.tc : Thread nD τ).loc main_arg7) i = (r : EReal))
    (hp : ∀ i, ∃ r : ℝ, m ((c.tc : Thread nD τ).loc main_arg8) i = (r : EReal)) (n : Fin 50176) (j : Fin 192) : kres m c (ix3 0 n j)
    = Cert.Fold.rout (Cert.Fold.ratt (Cert.Fold.rlg (Ideal.ofBits .f32 0x3E5105EC#32)
            (Cert.Fold.lin (ktok m c) fun a r => m ((c.tc : Thread nD τ).loc main_arg7) (ix2 a (col 1 r)))
            (Cert.Fold.lin (ktok m c) fun a r => m ((c.tc : Thread nD τ).loc main_arg7) (ix2 a (col 2 r)))))
          (Cert.Fold.lin (ktok m c) fun a r => m ((c.tc : Thread nD τ).loc main_arg7) (ix2 a (col 0 r)))
          (fun a r => m ((c.tc : Thread nD τ).loc main_arg8) (ix2 a r)) n j + m ((c.tc : Thread nD τ).loc main_arg9) (ix1 j) := by
  refine (res_at (ktok m c) (kfold m c) _ n j).trans (congrArg (· + _) ?_)
  choose x hx using hx
  choose w hw using hw
  choose p hp using hp
  obtain ⟨s, hs⟩ := Cert.Consts.ca_scale
  have hX : ktok m c = fun n a => (x n a : EReal) := funext fun n => funext fun a => hx n a
  have hf := fun i => fold_slices_at (ktok m c) (m ((c.tc : Thread nD τ).loc main_arg7)) (m ((c.tc : Thread nD τ).loc main_arg8)) i j
  refine (Finset.sum_congr rfl fun a _ => congrArg (ktok m c n a * ·) (hf a)).trans ?_
  simp only [hs, hX, hw, hp]
  exact Cert.Fold.out_eq s x (fun a r => w (ix2 a (col 0 r))) (fun a r => w (ix2 a (col 1 r))) (fun a r => w (ix2 a (col 2 r)))
    (fun a r => p (ix2 a r)) n j

/-- An index of the result: the batch coordinate is zero. -/
theorem idx_one (y : S1x50176x192.Idx) : y = ix3 0 (y 1) (y 2) := by
  funext k
  fin_cases k
  · exact Subsingleton.elim (α := Fin 1) _ _
  · rfl
  · rfl

/-- An index of an image of ninety-six channels. -/
theorem idx_img (y : S224x224x96.Idx) : y = ix3 (y 0) (y 1) (y 2) := by
  funext k
  fin_cases k <;> rfl

/-- The window branch's queries are the reference's. -/
theorem same_qw (A : FVec Ideal S1x224x224x192 .f32) (w1 : FVec Ideal S96x288 .f32) (b1 : FVec Ideal S288 .f32) (w3 : FVec Ideal S96x288 .f32) (b3 : FVec Ideal S288 .f32) :
    Cert.ReferenceIdeal.Value.rqw (Cert.ReferenceIdeal.Value.rQ A w1 b1) = kq 0 (by decide) A w1 b1 w3 b3 := by
  funext y
  rw [idx_img y]
  exact (Cert.ReferenceIdeal.Value.rqw_at _ _ _ _ _ _).trans (kqw_at A w1 b1 w3 b3 _ _ _).symm

/-- The window branch's keys are the reference's. -/
theorem same_kw (A : FVec Ideal S1x224x224x192 .f32) (w1 : FVec Ideal S96x288 .f32) (b1 : FVec Ideal S288 .f32) (w3 : FVec Ideal S96x288 .f32) (b3 : FVec Ideal S288 .f32) :
    Cert.ReferenceIdeal.Value.rkw (Cert.ReferenceIdeal.Value.rQ A w1 b1) = kq 96 (by decide) A w1 b1 w3 b3 := by
  funext y
  rw [idx_img y]
  exact (Cert.ReferenceIdeal.Value.rkw_at _ _ _ _ _ _).trans (kkw_at A w1 b1 w3 b3 _ _ _).symm

/-- The window branch's values are the reference's. -/
theorem same_vw (A : FVec Ideal S1x224x224x192 .f32) (w1 : FVec Ideal S96x288 .f32) (b1 : FVec Ideal S288 .f32) (w3 : FVec Ideal S96x288 .f32) (b3 : FVec Ideal S288 .f32) :
    Cert.ReferenceIdeal.Value.rvw (Cert.ReferenceIdeal.Value.rQ A w1 b1) = kq 192 (by decide) A w1 b1 w3 b3 := by
  funext y
  rw [idx_img y]
  exact (Cert.ReferenceIdeal.Value.rvw_at _ _ _ _ _ _).trans (kvw_at A w1 b1 w3 b3 _ _ _).symm

/-- The routing branch's queries are the reference's. -/
theorem same_qb (A : FVec Ideal S1x224x224x192 .f32) (w1 : FVec Ideal S96x288 .f32) (b1 : FVec Ideal S288 .f32) (w3 : FVec Ideal S96x288 .f32) (b3 : FVec Ideal S288 .f32) :
    Cert.ReferenceIdeal.Value.rqb (Cert.ReferenceIdeal.Value.rB A w3 b3) = kq 288 (by decide) A w1 b1 w3 b3 := by
  funext y
  rw [idx_img y]
  exact (Cert.ReferenceIdeal.Value.rqb_at _ _ _ _ _ _).trans (kqb_at A w1 b1 w3 b3 _ _ _).symm

/-- The routing branch's keys are the reference's. -/
theorem same_kb (A : FVec Ideal S1x224x224x192 .f32) (w1 : FVec Ideal S96x288 .f32) (b1 : FVec Ideal S288 .f32) (w3 : FVec Ideal S96x288 .f32) (b3 : FVec Ideal S288 .f32) :
    Cert.ReferenceIdeal.Value.rkb (Cert.ReferenceIdeal.Value.rB A w3 b3) = kq 384 (by decide) A w1 b1 w3 b3 := by
  funext y
  rw [idx_img y]
  exact (Cert.ReferenceIdeal.Value.rkb_at _ _ _ _ _ _).trans (kkb_at A w1 b1 w3 b3 _ _ _).symm

/-- The routing branch's values are the reference's. -/
theorem same_vb (A : FVec Ideal S1x224x224x192 .f32) (w1 : FVec Ideal S96x288 .f32) (b1 : FVec Ideal S288 .f32) (w3 : FVec Ideal S96x288 .f32) (b3 : FVec Ideal S288 .f32) :
    Cert.ReferenceIdeal.Value.rvb (Cert.ReferenceIdeal.Value.rB A w3 b3) = kq 480 (by decide) A w1 b1 w3 b3 := by
  funext y
  rw [idx_img y]
  exact (Cert.ReferenceIdeal.Value.rvb_at _ _ _ _ _ _).trans (kvb_at A w1 b1 w3 b3 _ _ _).symm

end Cert.KernelIdeal.Value
end
-- ==== Proof.RefOut.lean ====
module

public import proofs.«01_k».proof.Proof.Gen.ReferenceIdeal.Run
public import proofs.«01_k».proof.Proof.RefVal

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The window branch's projection is its stage. -/
theorem v5_stage (V : Valuation τ sig (Elt Ideal)) : res_main_v5 V = rQ (V (Proc.devRef .tc main_arg0)) (V (Proc.devRef .tc main_arg1)) (V (Proc.devRef .tc main_arg2)) := rfl

/-- The routing branch's projection is its stage. -/
theorem v14_stage (V : Valuation τ sig (Elt Ideal)) : res_main_v14 V = rB (V (Proc.devRef .tc main_arg0)) (V (Proc.devRef .tc main_arg3)) (V (Proc.devRef .tc main_arg4)) := rfl

/-- The padded input is its stage. -/
theorem v24_stage (V : Valuation τ sig (Elt Ideal)) : res_main_v24 V = rZ (res_main_v14 V) (res_main_v5 V) := rfl

/-- The branches' outputs plus the convolution are their stages. -/
theorem v92_stage (V : Valuation τ sig (Elt Ideal)) : res_main_v92 V = addf (rC (V (Proc.devRef .tc main_arg10)) (V (Proc.devRef .tc main_arg11)))
    (rO (res_main_v24 V) (V (Proc.devRef .tc main_arg5)) (V (Proc.devRef .tc main_arg6))) := rfl

/-- The tokens, from the arguments. -/
def rtok (V : Valuation τ sig (Elt Ideal)) : FVec Ideal S1x50176x192 .f32 :=
  rX (rC (V (Proc.devRef .tc main_arg10)) (V (Proc.devRef .tc main_arg11)))
    (rO (rZ (rB (V (Proc.devRef .tc main_arg0)) (V (Proc.devRef .tc main_arg3)) (V (Proc.devRef .tc main_arg4)))
        (rQ (V (Proc.devRef .tc main_arg0)) (V (Proc.devRef .tc main_arg1)) (V (Proc.devRef .tc main_arg2))))
      (V (Proc.devRef .tc main_arg5)) (V (Proc.devRef .tc main_arg6)))

/-- Queries, keys and values of the channel attention are their stage. -/
theorem v97_stage (V : Valuation τ sig (Elt Ideal)) : res_main_v97 V = rT (rtok V) (V (Proc.devRef .tc main_arg7)) := by
  unfold rtok
  rw [← v5_stage, ← v14_stage, ← v24_stage]
  unfold res_main_v97
  rw [v92_stage]
  rfl

/-- The logits are their stage. -/
theorem v110_stage (V : Valuation τ sig (Elt Ideal)) : res_main_v110 V = rL (res_main_v97 V) := rfl

/-- The exponentials are their stage. -/
theorem v117_stage (V : Valuation τ sig (Elt Ideal)) : res_main_v117 V = rE (res_main_v110 V) := rfl

end Cert.ReferenceIdeal.Value

end
-- ==== Proof.Same.lean ====
module

public import proofs.«01_k».proof.Defs
public import proofs.«01_k».proof.Proof.Finite
public import proofs.«01_k».proof.Proof.KerVal
public import proofs.«01_k».proof.Proof.RefOut

@[expose] public section

set_option maxRecDepth 16384

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The arguments the channel attention's tokens and weights are made of, on both sides. -/
theorem same_out (hpre : Cert.Pre_KernelIdeal_finite m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD) :
    Cert.ReferenceIdeal.Value.chan (Cert.ReferenceIdeal.Value.rtok (StableHlo.launchContents m' c)) (StableHlo.launchContents m' c (Proc.devRef .tc Cert.ReferenceIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = Cert.KernelIdeal.Value.kres m c := by
  obtain ⟨h0, h1, h2, h3, h4, h5, h6, h7, h8, h9, h10, h11⟩ := hagree c
  obtain ⟨r0, r1, r2, r3, r4, r5, r6, r7, r8, r10, r11⟩ := Cert.Finite.all_real _ _ _ _ _ _ _ _ _ _ _ _ (hpre c)
  have hk := Cert.KernelIdeal.Value.kres_eq m c
    (fun n a => by
      obtain ⟨x, hx⟩ := Cert.Finite.tok_real _ _ _ r10 r11 (Cert.Finite.lpe_real _ _ _ _ _ _ _ r0 r1 r2 r3 r4 r5 r6) n a
      exact ⟨x, (Cert.KernelIdeal.Value.ktok_at m c n a).trans hx⟩) r7 r8
  have ht := funext fun n => funext fun a => Cert.KernelIdeal.Value.ktok_at m c n a
  rw [ht] at hk
  have g : Cert.ReferenceIdeal.Value.chan (Cert.ReferenceIdeal.Value.rtok (StableHlo.launchContents m' c)) (StableHlo.launchContents m' c (Proc.devRef .tc Cert.ReferenceIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.ReferenceIdeal.Value.chan (Cert.ReferenceIdeal.Value.rX (Cert.ReferenceIdeal.Value.rC (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
          (Cert.ReferenceIdeal.Value.rO (Cert.ReferenceIdeal.Value.rZ (Cert.ReferenceIdeal.Value.rB (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.ReferenceIdeal.Value.rQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
    unfold Cert.ReferenceIdeal.Value.rtok
    rw [← h0, ← h1, ← h2, ← h3, ← h4, ← h5, ← h6, ← h7, ← h8, ← h9, ← h10, ← h11]
  refine g.trans ?_
  funext y
  rw [Cert.KernelIdeal.Value.idx_one y]
  refine (Cert.ReferenceIdeal.Value.chan_at _ _ _ _ _ _).trans (Eq.trans ?_ (hk _ _).symm)
  simp only [Cert.ReferenceIdeal.Value.tokens_at]

/-- A function of the window branch's arguments, on both sides. -/
theorem same_win (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD)
    (f : FVec Ideal Cert.KernelIdeal.S1x224x224x192 .f32 → FVec Ideal Cert.KernelIdeal.S96x288 .f32 → FVec Ideal Cert.KernelIdeal.S288 .f32 → FVec Ideal Cert.KernelIdeal.S224x224x96 .f32) :
    f (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) = f (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨h0, h1, h2, h3, h4, h5, h6, h7, h8, h9, h10, h11⟩ := hagree c
  rw [← h0, ← h1, ← h2]

/-- A function of the routing branch's arguments, on both sides. -/
theorem same_bra (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (c : Dev Cert.KernelIdeal.nD)
    (f : FVec Ideal Cert.KernelIdeal.S1x224x224x192 .f32 → FVec Ideal Cert.KernelIdeal.S96x288 .f32 → FVec Ideal Cert.KernelIdeal.S288 .f32 → FVec Ideal Cert.KernelIdeal.S224x224x96 .f32) :
    f (StableHlo.launchContents m' c (Proc.devRef .tc Cert.ReferenceIdeal.main_arg0)) (StableHlo.launchContents m' c (Proc.devRef .tc Cert.ReferenceIdeal.main_arg3)) (StableHlo.launchContents m' c (Proc.devRef .tc Cert.ReferenceIdeal.main_arg4)) = f (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨h0, h1, h2, h3, h4, h5, h6, h7, h8, h9, h10, h11⟩ := hagree c
  rw [← h0, ← h3, ← h4]

end Cert.Proof

end
-- ==== Proof.BraBits.lean ====
module

public import proofs.«01_k».proof.Defs
public import proofs.«01_k».proof.Proof.Gen.Kernel2.Frame
public import proofs.«01_k».proof.Proof.Gen.Pre_in_range
public import Idealize.ShloMosaic.Lib.Pipeline.ValueKit
public import Idealize.ShloMosaic.Lib.ReduceAll

@[expose] public section

set_option maxRecDepth 16384

noncomputable section

namespace Cert.Kernel2.Value

open Idealize.ShloMosaic Idealize.ShloMosaic.TcCoe Idealize.SL.Sem
open Cert.Kernel2 Cert.Kernel2.Gen

/-- A table that holds one word everywhere. -/
def kon (w : BitVec 32) : pre0.Contents (Elt Bits) := fun | 0 => fun _ => w

/-- The first grid point. -/
def pt0 : grid0.Coords := fun a => ⟨0, by revert a; decide⟩

/-- The block that a word below 784 names: its quotient by 28, its remainder by 28, and 0. -/
theorem chain_val : ∀ n : Fin 784, cc0_transform_1 (F := Bits) k0_off1_inb numel1_S1 (kon (BitVec.ofNat 32 n.val)) pt0 = ![n.val / 28, n.val % 28, 0] := by
  decide +kernel

/-- The offset that the index maps compute of a grid point. -/
theorem off_val : ∀ n : Fin 784, ∀ t : Fin 4, (Scalar.indexCast (Scalar.addi (Scalar.muli (BitVec.ofNat 32 n.val) 4#32) (BitVec.ofNat 32 t.val))).toNat = n.val * 4 + t.val := by
  decide +kernel

/-- The word of the table that slot `t` of grid point `i` reads. -/
def wd (pf : pre0.Contents (Elt Bits)) (i : grid0.Coords) (t : Fin 4) : BitVec 32 :=
  pf.at 0 (Rect.unit (s := S3136) ![(Scalar.indexCast (Scalar.addi (Scalar.muli (BitVec.ofNat 32 (i 0).val) 4#32) (BitVec.ofNat 32 t.val))).toNat] S1.size (k0_off1_inb i t)) numel1_S1

/-- That word is the table's element `4 i + t`. -/
theorem wd_eq (pf : pre0.Contents (Elt Bits)) (i : grid0.Coords) (t : Fin 4) (n : Fin 784) (hn : (i 0).val = n.val) : wd pf i t = pf 0 (ix1 (⟨n.val * 4 + t.val, by omega⟩ : Fin 3136)) := by
  have h := off_val n t
  rw [← hn] at h
  refine congrArg (pf 0) ((eq_ix1 _).trans (congrArg ix1 (Fin.ext ?_)))
  refine Eq.trans ?_ (h.trans (by rw [hn]))
  rfl

/-- The key map of the first slot is the chain of its word. -/
theorem map1 (pf : pre0.Contents (Elt Bits)) (i : grid0.Coords) : cc0_transform_1 k0_off1_inb numel1_S1 pf i = cc0_transform_1 k0_off1_inb numel1_S1 (kon (wd pf i 0)) pt0 := rfl

/-- The key map of the second slot is the chain of its word. -/
theorem map2 (pf : pre0.Contents (Elt Bits)) (i : grid0.Coords) : cc0_transform_2 k0_off1_inb numel1_S1 pf i = cc0_transform_1 k0_off1_inb numel1_S1 (kon (wd pf i 1)) pt0 := rfl

/-- The key map of the third slot is the chain of its word. -/
theorem map3 (pf : pre0.Contents (Elt Bits)) (i : grid0.Coords) : cc0_transform_3 k0_off1_inb numel1_S1 pf i = cc0_transform_1 k0_off1_inb numel1_S1 (kon (wd pf i 2)) pt0 := rfl

/-- The key map of the fourth slot is the chain of its word. -/
theorem map4 (pf : pre0.Contents (Elt Bits)) (i : grid0.Coords) : cc0_transform_4 k0_off1_inb numel1_S1 pf i = cc0_transform_1 k0_off1_inb numel1_S1 (kon (wd pf i 3)) pt0 := rfl

/-- The value map of the first slot is the chain of its word. -/
theorem map5 (pf : pre0.Contents (Elt Bits)) (i : grid0.Coords) : cc0_transform_5 k0_off1_inb numel1_S1 pf i = cc0_transform_1 k0_off1_inb numel1_S1 (kon (wd pf i 0)) pt0 := rfl

/-- The value map of the second slot is the chain of its word. -/
theorem map6 (pf : pre0.Contents (Elt Bits)) (i : grid0.Coords) : cc0_transform_6 k0_off1_inb numel1_S1 pf i = cc0_transform_1 k0_off1_inb numel1_S1 (kon (wd pf i 1)) pt0 := rfl

/-- The value map of the third slot is the chain of its word. -/
theorem map7 (pf : pre0.Contents (Elt Bits)) (i : grid0.Coords) : cc0_transform_7 k0_off1_inb numel1_S1 pf i = cc0_transform_1 k0_off1_inb numel1_S1 (kon (wd pf i 2)) pt0 := rfl

/-- The value map of the fourth slot is the chain of its word. -/
theorem map8 (pf : pre0.Contents (Elt Bits)) (i : grid0.Coords) : cc0_transform_8 k0_off1_inb numel1_S1 pf i = cc0_transform_1 k0_off1_inb numel1_S1 (kon (wd pf i 3)) pt0 := rfl

/-- The chain of a word below 784. -/
theorem chain_of (w : BitVec 32) (n : Fin 784) (h : w = BitVec.ofNat 32 n.val) : cc0_transform_1 (F := Bits) k0_off1_inb numel1_S1 (kon w) pt0 = ![n.val / 28, n.val % 28, 0] := by
  rw [h]; exact chain_val n

/-- A block of a region lies inside the image. -/
theorem inside (n : Fin 784) : ∀ a, ((![n.val / 28, n.val % 28, 0] : Fin 3 → Nat) a + 1) * S8x8x96.size a ≤ S224x224x96.size a := by
  intro a
  have := n.isLt
  match a with
  | 0 => show (n.val / 28 + 1) * 8 ≤ 224; omega
  | 1 => show (n.val % 28 + 1) * 8 ≤ 224; omega
  | 2 => show (0 + 1) * 96 ≤ 96; omega

/-- Tables whose every word is below 784 are admissible. -/
theorem ok_of_words (pf : pre0.Contents (Elt Bits)) (h : ∀ j : Fin 3136, ∃ n : Fin 784, pf 0 (ix1 j) = BitVec.ofNat 32 n.val) : ok0 pf := by
  have hw : ∀ (i : grid0.Coords) (t : Fin 4), ∀ a, (cc0_transform_1 (F := Bits) k0_off1_inb numel1_S1 (kon (wd pf i t)) pt0 a + 1) * S8x8x96.size a ≤ S224x224x96.size a := by
    intro i t a
    obtain ⟨n, hn⟩ := h ⟨(i 0).val * 4 + t.val, by have := (i 0).isLt; have : (i 0).val < 784 := this; omega⟩
    rw [chain_of (wd pf i t) n ((wd_eq pf i t (i 0) rfl).trans hn)]
    exact inside n a
  exact ⟨fun i => ⟨hw i 0, .inl rfl⟩, fun i => ⟨hw i 1, .inl rfl⟩, fun i => ⟨hw i 2, .inl rfl⟩, fun i => ⟨hw i 3, .inl rfl⟩,
    fun i => ⟨hw i 0, .inl rfl⟩, fun i => ⟨hw i 1, .inl rfl⟩, fun i => ⟨hw i 2, .inl rfl⟩, fun i => ⟨hw i 3, .inl rfl⟩⟩

variable (m : (ℓ : Loc nD τ sig) → Buf (Elt Bits) ℓ)

/-- The table the region reads is the index argument laid flat. -/
theorem V_tab (c : Dev nD) : V m c main_v15 = shapeCast S3136 (m ((c.tc : Thread nD τ).loc main_arg3)) shapeCasts_S784x4_S3136 := by
  show StableHlo.after (List.flatten [hostOps0, hostOps0_1, hostOps0_2, hostOps0_3, hostOps0_4]) (fun b => m (c, b)) _ = _
  simp only [List.flatten_cons, List.flatten_nil, List.cons_append, List.nil_append]
  after_results_simp
  rfl

/-- An index array laid flat, read. -/
theorem flat_at (x : IVec S784x4 32) (i : Fin 784) (t : Fin 4) : shapeCast S3136 x shapeCasts_S784x4_S3136 (ix1 (⟨i.val * 4 + t.val, by omega⟩ : Fin 3136)) = x (ix2 i t) := by
  pointwise

/-- A word that two signed comparisons put between 0 and 783 is one of those numbers. -/
theorem word_of (w : BitVec 32) (h0 : IntOp.cmpi .sge w 0#32 = 1#1) (h1 : IntOp.cmpi .sle w 783#32 = 1#1) : ∃ n : Fin 784, w = BitVec.ofNat 32 n.val := by
  have ofBool_eq_one (p : Bool) : (BitVec.ofBool p = 1#1) ↔ p = true := by cases p <;> decide
  simp only [ofBool_eq_one, IntOp.cmpi, BitVec.sle, decide_eq_true_eq] at h0 h1
  have e0 : (0#32).toInt = 0 := by decide
  have e1 : (783#32).toInt = 783 := by decide
  rw [e0] at h0
  rw [e1] at h1
  have hw : w.toInt = w.toNat := by
    rw [BitVec.toInt_eq_toNat_cond] at h0 ⊢
    split at h0 <;> omega
  refine ⟨⟨w.toNat, by omega⟩, ?_⟩
  exact (BitVec.ofNat_toNat 32 w).symm.trans (by simp)

/-- The range precondition bounds every index. -/
theorem words_of (a0 a1 a2 : FVec Bits Cert.Pre_in_range.S224x224x96 .f32) (a3 : IVec Cert.Pre_in_range.S784x4 32)
    (h : Cert.Pre_in_range.fn (F := Bits) a0 a1 a2 a3 = fun _ => 1#1) (i : Cert.Pre_in_range.S784x4.Idx) : ∃ n : Fin 784, a3 i = BitVec.ofNat 32 n.val := by
  have e := Host.reduce_andi_all _ _ _ _ _ (congrFun h (Shape.Idx.first Cert.Pre_in_range.Gen.h_S_)) i
  have e' : IntOp.andi (IntOp.cmpi .sge (a3 i) 0#32) (IntOp.cmpi .sle (a3 i) 783#32) = 1#1 := e
  rw [IntOp.andi_eq_one] at e'
  exact word_of _ e'.1 e'.2

/-- An index array in range makes the table admissible. -/
theorem ok_of_range (h : ∀ i : S784x4.Idx, ∃ n : Fin 784, m (((0 : Dev nD).tc : Thread nD τ).loc main_arg3) i = BitVec.ofNat 32 n.val) : Ok m := by
  refine ok_of_words _ fun j => ?_
  obtain ⟨n, hn⟩ := h (ix2 (⟨j.val / 4, by omega⟩ : Fin 784) (⟨j.val % 4, by omega⟩ : Fin 4))
  refine ⟨n, Eq.trans ?_ hn⟩
  have hf := flat_at (m (((0 : Dev nD).tc : Thread nD τ).loc main_arg3)) (⟨j.val / 4, by omega⟩ : Fin 784) (⟨j.val % 4, by omega⟩ : Fin 4)
  refine Eq.trans ?_ hf
  refine (congrFun (V_tab m 0) (ix1 j)).trans (congrArg _ (congrArg ix1 (Fin.ext ?_)))
  show j.val = j.val / 4 * 4 + j.val % 4
  omega

/-- The precondition makes the table admissible. -/
theorem ok_of_pre (h : Cert.Pre_Kernel2 m) : Ok m := ok_of_range m fun i => words_of _ _ _ _ (h 0) i

end Cert.Kernel2.Value
end
-- ==== Proof.BraTab.lean ====
module

public import proofs.«01_k».proof.Defs
public import proofs.«01_k».proof.Proof.Gen.Kernel2Ideal.Frame
public import proofs.«01_k».proof.Proof.Gen.Pre_in_range
public import Idealize.ShloMosaic.Lib.Pipeline.ValueKit
public import Idealize.ShloMosaic.Lib.ReduceAll

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

/-- A table that holds one word everywhere. -/
def kon (w : BitVec 32) : pre0.Contents (Elt Ideal) := fun | 0 => fun _ => w

/-- The first grid point. -/
def pt0 : grid0.Coords := fun a => ⟨0, by revert a; decide⟩

/-- The block that a word below 784 names: its quotient by 28, its remainder by 28, and 0. -/
theorem chain_val : ∀ n : Fin 784, cc0_transform_1 (F := Ideal) k0_off1_inb numel1_S1 (kon (BitVec.ofNat 32 n.val)) pt0 = ![n.val / 28, n.val % 28, 0] := by
  decide +kernel

/-- The offset that the index maps compute of a grid point. -/
theorem off_val : ∀ n : Fin 784, ∀ t : Fin 4, (Scalar.indexCast (Scalar.addi (Scalar.muli (BitVec.ofNat 32 n.val) 4#32) (BitVec.ofNat 32 t.val))).toNat = n.val * 4 + t.val := by
  decide +kernel

/-- The word of the table that slot `t` of grid point `i` reads. -/
def wd (pf : pre0.Contents (Elt Ideal)) (i : grid0.Coords) (t : Fin 4) : BitVec 32 :=
  pf.at 0 (Rect.unit (s := S3136) ![(Scalar.indexCast (Scalar.addi (Scalar.muli (BitVec.ofNat 32 (i 0).val) 4#32) (BitVec.ofNat 32 t.val))).toNat] S1.size (k0_off1_inb i t)) numel1_S1

/-- That word is the table's element `4 i + t`. -/
theorem wd_eq (pf : pre0.Contents (Elt Ideal)) (i : grid0.Coords) (t : Fin 4) (n : Fin 784) (hn : (i 0).val = n.val) : wd pf i t = pf 0 (ix1 (⟨n.val * 4 + t.val, by omega⟩ : Fin 3136)) := by
  have h := off_val n t
  rw [← hn] at h
  refine congrArg (pf 0) ((eq_ix1 _).trans (congrArg ix1 (Fin.ext ?_)))
  refine Eq.trans ?_ (h.trans (by rw [hn]))
  rfl

/-- The key map of the first slot is the chain of its word. -/
theorem map1 (pf : pre0.Contents (Elt Ideal)) (i : grid0.Coords) : cc0_transform_1 k0_off1_inb numel1_S1 pf i = cc0_transform_1 k0_off1_inb numel1_S1 (kon (wd pf i 0)) pt0 := rfl

/-- The key map of the second slot is the chain of its word. -/
theorem map2 (pf : pre0.Contents (Elt Ideal)) (i : grid0.Coords) : cc0_transform_2 k0_off1_inb numel1_S1 pf i = cc0_transform_1 k0_off1_inb numel1_S1 (kon (wd pf i 1)) pt0 := rfl

/-- The key map of the third slot is the chain of its word. -/
theorem map3 (pf : pre0.Contents (Elt Ideal)) (i : grid0.Coords) : cc0_transform_3 k0_off1_inb numel1_S1 pf i = cc0_transform_1 k0_off1_inb numel1_S1 (kon (wd pf i 2)) pt0 := rfl

/-- The key map of the fourth slot is the chain of its word. -/
theorem map4 (pf : pre0.Contents (Elt Ideal)) (i : grid0.Coords) : cc0_transform_4 k0_off1_inb numel1_S1 pf i = cc0_transform_1 k0_off1_inb numel1_S1 (kon (wd pf i 3)) pt0 := rfl

/-- The value map of the first slot is the chain of its word. -/
theorem map5 (pf : pre0.Contents (Elt Ideal)) (i : grid0.Coords) : cc0_transform_5 k0_off1_inb numel1_S1 pf i = cc0_transform_1 k0_off1_inb numel1_S1 (kon (wd pf i 0)) pt0 := rfl

/-- The value map of the second slot is the chain of its word. -/
theorem map6 (pf : pre0.Contents (Elt Ideal)) (i : grid0.Coords) : cc0_transform_6 k0_off1_inb numel1_S1 pf i = cc0_transform_1 k0_off1_inb numel1_S1 (kon (wd pf i 1)) pt0 := rfl

/-- The value map of the third slot is the chain of its word. -/
theorem map7 (pf : pre0.Contents (Elt Ideal)) (i : grid0.Coords) : cc0_transform_7 k0_off1_inb numel1_S1 pf i = cc0_transform_1 k0_off1_inb numel1_S1 (kon (wd pf i 2)) pt0 := rfl

/-- The value map of the fourth slot is the chain of its word. -/
theorem map8 (pf : pre0.Contents (Elt Ideal)) (i : grid0.Coords) : cc0_transform_8 k0_off1_inb numel1_S1 pf i = cc0_transform_1 k0_off1_inb numel1_S1 (kon (wd pf i 3)) pt0 := rfl

/-- The chain of a word below 784. -/
theorem chain_of (w : BitVec 32) (n : Fin 784) (h : w = BitVec.ofNat 32 n.val) : cc0_transform_1 (F := Ideal) k0_off1_inb numel1_S1 (kon w) pt0 = ![n.val / 28, n.val % 28, 0] := by
  rw [h]; exact chain_val n

/-- A block of a region lies inside the image. -/
theorem inside (n : Fin 784) : ∀ a, ((![n.val / 28, n.val % 28, 0] : Fin 3 → Nat) a + 1) * S8x8x96.size a ≤ S224x224x96.size a := by
  intro a
  have := n.isLt
  match a with
  | 0 => show (n.val / 28 + 1) * 8 ≤ 224; omega
  | 1 => show (n.val % 28 + 1) * 8 ≤ 224; omega
  | 2 => show (0 + 1) * 96 ≤ 96; omega

/-- Tables whose every word is below 784 are admissible. -/
theorem ok_of_words (pf : pre0.Contents (Elt Ideal)) (h : ∀ j : Fin 3136, ∃ n : Fin 784, pf 0 (ix1 j) = BitVec.ofNat 32 n.val) : ok0 pf := by
  have hw : ∀ (i : grid0.Coords) (t : Fin 4), ∀ a, (cc0_transform_1 (F := Ideal) k0_off1_inb numel1_S1 (kon (wd pf i t)) pt0 a + 1) * S8x8x96.size a ≤ S224x224x96.size a := by
    intro i t a
    obtain ⟨n, hn⟩ := h ⟨(i 0).val * 4 + t.val, by have := (i 0).isLt; have : (i 0).val < 784 := this; omega⟩
    rw [chain_of (wd pf i t) n ((wd_eq pf i t (i 0) rfl).trans hn)]
    exact inside n a
  exact ⟨fun i => ⟨hw i 0, .inl rfl⟩, fun i => ⟨hw i 1, .inl rfl⟩, fun i => ⟨hw i 2, .inl rfl⟩, fun i => ⟨hw i 3, .inl rfl⟩,
    fun i => ⟨hw i 0, .inl rfl⟩, fun i => ⟨hw i 1, .inl rfl⟩, fun i => ⟨hw i 2, .inl rfl⟩, fun i => ⟨hw i 3, .inl rfl⟩⟩

variable (m : (ℓ : Loc nD τ sig) → Buf (Elt Ideal) ℓ)

/-- The table the region reads is the index argument laid flat. -/
theorem V_tab (c : Dev nD) : V m c main_v15 = shapeCast S3136 (m ((c.tc : Thread nD τ).loc main_arg3)) shapeCasts_S784x4_S3136 := by
  show StableHlo.after (List.flatten [hostOps0, hostOps0_1, hostOps0_2, hostOps0_3, hostOps0_4]) (fun b => m (c, b)) _ = _
  simp only [List.flatten_cons, List.flatten_nil, List.cons_append, List.nil_append]
  after_results_simp
  rfl

/-- An index array laid flat, read. -/
theorem flat_at (x : IVec S784x4 32) (i : Fin 784) (t : Fin 4) : shapeCast S3136 x shapeCasts_S784x4_S3136 (ix1 (⟨i.val * 4 + t.val, by omega⟩ : Fin 3136)) = x (ix2 i t) := by
  pointwise

/-- A word that two signed comparisons put between 0 and 783 is one of those numbers. -/
theorem word_of (w : BitVec 32) (h0 : IntOp.cmpi .sge w 0#32 = 1#1) (h1 : IntOp.cmpi .sle w 783#32 = 1#1) : ∃ n : Fin 784, w = BitVec.ofNat 32 n.val := by
  have ofBool_eq_one (p : Bool) : (BitVec.ofBool p = 1#1) ↔ p = true := by cases p <;> decide
  simp only [ofBool_eq_one, IntOp.cmpi, BitVec.sle, decide_eq_true_eq] at h0 h1
  have e0 : (0#32).toInt = 0 := by decide
  have e1 : (783#32).toInt = 783 := by decide
  rw [e0] at h0
  rw [e1] at h1
  have hw : w.toInt = w.toNat := by
    rw [BitVec.toInt_eq_toNat_cond] at h0 ⊢
    split at h0 <;> omega
  refine ⟨⟨w.toNat, by omega⟩, ?_⟩
  exact (BitVec.ofNat_toNat 32 w).symm.trans (by simp)

/-- The range precondition bounds every index. -/
theorem words_of (a0 a1 a2 : FVec Ideal Cert.Pre_in_range.S224x224x96 .f32) (a3 : IVec Cert.Pre_in_range.S784x4 32)
    (h : Cert.Pre_in_range.fn (F := Ideal) a0 a1 a2 a3 = fun _ => 1#1) (i : Cert.Pre_in_range.S784x4.Idx) : ∃ n : Fin 784, a3 i = BitVec.ofNat 32 n.val := by
  have e := Host.reduce_andi_all _ _ _ _ _ (congrFun h (Shape.Idx.first Cert.Pre_in_range.Gen.h_S_)) i
  have e' : IntOp.andi (IntOp.cmpi .sge (a3 i) 0#32) (IntOp.cmpi .sle (a3 i) 783#32) = 1#1 := e
  rw [IntOp.andi_eq_one] at e'
  exact word_of _ e'.1 e'.2

/-- An index array in range makes the table admissible. -/
theorem ok_of_range (h : ∀ i : S784x4.Idx, ∃ n : Fin 784, m (((0 : Dev nD).tc : Thread nD τ).loc main_arg3) i = BitVec.ofNat 32 n.val) : Ok m := by
  refine ok_of_words _ fun j => ?_
  obtain ⟨n, hn⟩ := h (ix2 (⟨j.val / 4, by omega⟩ : Fin 784) (⟨j.val % 4, by omega⟩ : Fin 4))
  refine ⟨n, Eq.trans ?_ hn⟩
  have hf := flat_at (m (((0 : Dev nD).tc : Thread nD τ).loc main_arg3)) (⟨j.val / 4, by omega⟩ : Fin 784) (⟨j.val % 4, by omega⟩ : Fin 4)
  refine Eq.trans ?_ hf
  refine (congrFun (V_tab m 0) (ix1 j)).trans (congrArg _ (congrArg ix1 (Fin.ext ?_)))
  show j.val = j.val / 4 * 4 + j.val % 4
  omega

/-- The precondition makes the table admissible. -/
theorem ok_of_pre (h : Cert.Pre_Kernel2Ideal m) : Ok m := ok_of_range m fun i => words_of _ _ _ _ (h 0) i

end Cert.Kernel2Ideal.Value
end
-- ==== Proof.BraPay.lean ====
module

public import proofs.«01_k».proof.Proof.BraTab
public import proofs.«01_k».proof.Proof.Consts

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

/-- A region's block as 64 positions. -/
def cells (x : Vec Ideal S8x8x96 .f32) (p : Fin 64) (a : Fin 96) : EReal := x (ix3 (⟨p.val / 8, by omega⟩ : Fin 8) (⟨p.val % 8, by omega⟩ : Fin 8) a)

/-- Row `64 h + p`. -/
def row (h : Fin 8) (p : Fin 64) : Fin 512 := ⟨h * 64 + p, by omega⟩

/-- Column `64 t + p`. -/
def colm (t : Fin 4) (p : Fin 64) : Fin 256 := ⟨t * 64 + p, by omega⟩

/-- A block laid as rows, read. -/
theorem cells_at (x : Vec Ideal S8x8x96 .f32) (p : Fin 64) (a : Fin 96) : shapeCast S64x96 x shapeCasts_S8x8x96_S64x96 (ix2 p a) = cells x p a := by
  pointwise [cells]

/-- Four blocks one after another. -/
def four (x : Fin 4 → Vec Ideal S8x8x96 .f32) (j : Fin 256) (a : Fin 96) : EReal := cells (x ⟨j.val / 64, by omega⟩) ⟨j.val % 64, by omega⟩ a

/-- Equal positions read equal entries. -/
theorem same_cell (x : Vec Ideal S8x8x96 .f32) (a : Fin 96) (p q : ℕ) (e : p = q) (h : q < 64) : x (ix3 (⟨p / 8, by omega⟩ : Fin 8) (⟨p % 8, by omega⟩ : Fin 8) a) = x (ix3 (⟨q / 8, by omega⟩ : Fin 8) (⟨q % 8, by omega⟩ : Fin 8) a) := by
  subst e; rfl

/-- One of four, by its position. -/
theorem four_if (x0 x1 x2 x3 : Vec Ideal S8x8x96 .f32) (j : Fin 256) (a : Fin 96) :
    (if h : j.val < 64 then x0 (ix3 (⟨j.val / 8, by omega⟩ : Fin 8) (⟨j.val % 8, by omega⟩ : Fin 8) a)
      else if h : j.val - 64 < 64 then x1 (ix3 (⟨(j.val - 64) / 8, by omega⟩ : Fin 8) (⟨(j.val - 64) % 8, by omega⟩ : Fin 8) a)
      else if h : j.val - 64 - 64 < 64 then x2 (ix3 (⟨(j.val - 64 - 64) / 8, by omega⟩ : Fin 8) (⟨(j.val - 64 - 64) % 8, by omega⟩ : Fin 8) a)
      else x3 (ix3 (⟨(j.val - 64 - 64 - 64) / 8, by omega⟩ : Fin 8) (⟨(j.val - 64 - 64 - 64) % 8, by omega⟩ : Fin 8) a)) = four ![x0, x1, x2, x3] j a := by
  unfold four cells
  split_ifs with h0 h1 h2
  · rw [show (⟨j.val / 64, by omega⟩ : Fin 4) = 0 from Fin.ext (by show j.val / 64 = 0; omega)]
    exact same_cell x0 a (j.val) (j.val % 64) (by omega) (by omega)
  · rw [show (⟨j.val / 64, by omega⟩ : Fin 4) = 1 from Fin.ext (by show j.val / 64 = 1; omega)]
    exact same_cell x1 a (j.val - 64) (j.val % 64) (by omega) (by omega)
  · rw [show (⟨j.val / 64, by omega⟩ : Fin 4) = 2 from Fin.ext (by show j.val / 64 = 2; omega)]
    exact same_cell x2 a (j.val - 64 - 64) (j.val % 64) (by omega) (by omega)
  · rw [show (⟨j.val / 64, by omega⟩ : Fin 4) = 3 from Fin.ext (by show j.val / 64 = 3; omega)]
    exact same_cell x3 a (j.val - 64 - 64 - 64) (j.val % 64) (by omega) (by omega)

/-- The four value blocks one after another, read. -/
theorem pay2_at (x0 x1 x2 x3 : Vec Ideal S8x8x96 .f32) (j : Fin 256) (a : Fin 96) : k0_pay2 (F := Ideal) x0 x1 x2 x3 (ix2 j a) = four ![x0, x1, x2, x3] j a := by
  pointwise [k0_pay2]
  exact four_if x0 x1 x2 x3 j a

/-- The logits, read. -/
theorem pay3_at (q : Vec Ideal S8x8x96 .f32) (w : Vec Ideal S512x96 .f32) (x0 x1 x2 x3 : Vec Ideal S8x8x96 .f32) (r : Fin 512) (j : Fin 256) :
    k0_pay3 (F := Ideal) q w x0 x1 x2 x3 (ix2 r j) = ∑ a : Fin 96, (cells q ⟨r.val % 64, by omega⟩ a * w (ix2 r a)) * four ![x0, x1, x2, x3] j a := by
  pointwise [k0_pay3]
  refine Finset.sum_congr rfl fun a _ => congrArg₂ _ (congrArg₂ _ ?_ rfl) (four_if x0 x1 x2 x3 j a)
  unfold cells
  by_cases h0 : r.val < 64
  · rw [dif_pos h0]
    exact same_cell q a (r.val) (r.val % 64) (by omega) (by omega)
  rw [dif_neg h0]
  by_cases h1 : r.val - 64 < 64
  · rw [dif_pos h1]
    exact same_cell q a (r.val - 64) (r.val % 64) (by omega) (by omega)
  rw [dif_neg h1]
  by_cases h2 : r.val - 64 - 64 < 64
  · rw [dif_pos h2]
    exact same_cell q a (r.val - 64 - 64) (r.val % 64) (by omega) (by omega)
  rw [dif_neg h2]
  by_cases h3 : r.val - 64 - 64 - 64 < 64
  · rw [dif_pos h3]
    exact same_cell q a (r.val - 64 - 64 - 64) (r.val % 64) (by omega) (by omega)
  rw [dif_neg h3]
  by_cases h4 : r.val - 64 - 64 - 64 - 64 < 64
  · rw [dif_pos h4]
    exact same_cell q a (r.val - 64 - 64 - 64 - 64) (r.val % 64) (by omega) (by omega)
  rw [dif_neg h4]
  by_cases h5 : r.val - 64 - 64 - 64 - 64 - 64 < 64
  · rw [dif_pos h5]
    exact same_cell q a (r.val - 64 - 64 - 64 - 64 - 64) (r.val % 64) (by omega) (by omega)
  rw [dif_neg h5]
  by_cases h6 : r.val - 64 - 64 - 64 - 64 - 64 - 64 < 64
  · rw [dif_pos h6]
    exact same_cell q a (r.val - 64 - 64 - 64 - 64 - 64 - 64) (r.val % 64) (by omega) (by omega)
  rw [dif_neg h6]
  exact same_cell q a (r.val - 64 - 64 - 64 - 64 - 64 - 64 - 64) (r.val % 64) (by omega) (by omega)

/-- The rows' maxima, read. -/
theorem pay4_at (q : Vec Ideal S8x8x96 .f32) (w : Vec Ideal S512x96 .f32) (x0 x1 x2 x3 : Vec Ideal S8x8x96 .f32) (r : Fin 512) (j : Fin 256) :
    k0_pay4 (F := Ideal) q w x0 x1 x2 x3 (ix2 r j) = Finset.fold max ⊥ (fun j => k0_pay3 (F := Ideal) q w x0 x1 x2 x3 (ix2 r j)) Finset.univ := by
  pointwise [k0_pay4]
  rw [Cert.Consts.neg_inf]

/-- The attention applied to the values, read. -/
theorem pay5_at (v : FVec Ideal S256x96 .f32) (l b : FVec Ideal S512x256 .f32) (r : Fin 512) (a : Fin 96) :
    k0_pay5 (F := Ideal) v l b (ix2 r a) = ∑ j : Fin 256, (Ideal.exp (l (ix2 r j) - b (ix2 r j)) * Ideal.div 1 (0 + ∑ j : Fin 256, Ideal.exp (l (ix2 r j) - b (ix2 r j)))) * v (ix2 j a) := by
  pointwise [k0_pay5]

/-- The first six heads' part, read. -/
theorem pay6_at (v : FVec Ideal S256x96 .f32) (l b : FVec Ideal S512x256 .f32) (m0 m1 m2 m3 m4 m5 : Vec Ideal S1x96 .f32) (p : Fin 64) (a : Fin 96) :
    k0_pay6 (F := Ideal) v l b m0 m1 m2 m3 m4 m5 (ix2 p a) = k0_pay5 (F := Ideal) v l b (ix2 (row 0 p) a) * m0 (ix2 0 a) + k0_pay5 (F := Ideal) v l b (ix2 (row 1 p) a) * m1 (ix2 0 a)
      + k0_pay5 (F := Ideal) v l b (ix2 (row 2 p) a) * m2 (ix2 0 a) + k0_pay5 (F := Ideal) v l b (ix2 (row 3 p) a) * m3 (ix2 0 a)
      + k0_pay5 (F := Ideal) v l b (ix2 (row 4 p) a) * m4 (ix2 0 a) + k0_pay5 (F := Ideal) v l b (ix2 (row 5 p) a) * m5 (ix2 0 a) := by
  pointwise [k0_pay6, row]

/-- The seventh head's part, read. -/
theorem pay7_at (v : FVec Ideal S256x96 .f32) (l b : FVec Ideal S512x256 .f32) (p : Fin 64) (a : Fin 96) :
    k0_pay7 (F := Ideal) v l b (ix2 p a) = k0_pay5 (F := Ideal) v l b (ix2 (row 6 p) a) := by
  pointwise [k0_pay7, row]

/-- The stored block, read. -/
theorem pay1_at (o : FVec Ideal S512x96 .f32) (s z : FVec Ideal S64x96 .f32) (m6 m7 : Vec Ideal S1x96 .f32) (y x : Fin 8) (a : Fin 96) :
    k0_pay1 (F := Ideal) o s z m6 m7 (ix3 y x a) = s (ix2 (⟨y * 8 + x, by omega⟩ : Fin 64) a) + z (ix2 (⟨y * 8 + x, by omega⟩ : Fin 64) a) * m6 (ix2 0 a) + o (ix2 (row 7 ⟨y * 8 + x, by omega⟩) a) * m7 (ix2 0 a) := by
  pointwise [k0_pay1, row]

end Cert.Kernel2Ideal.Value
end
-- ==== Proof.BraBlk.lean ====
module

public import proofs.«01_k».proof.Proof.BraPay

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

/-- Position `p` of region `n` of an image. -/
def reg (X : FVec Ideal S224x224x96 .f32) (n : Fin 784) (p : Fin 64) (a : Fin 96) : EReal :=
  X (ix3 (⟨n.val / 28 * 8 + p.val / 8, by omega⟩ : Fin 224) (⟨n.val % 28 * 8 + p.val % 8, by omega⟩ : Fin 224) a)

/-- The grid is one axis. -/
theorem coord0 : ∀ t : Fin grid0.N, (grid0.coords t 0).val = t.val := by decide +kernel

/-- The block of the result and of the queries at a grid point. -/
theorem tr0 : ∀ t : Fin grid0.N, cc0_transform_0 (grid0.coords t) = ![t.val / 28, t.val % 28, 0] := by decide +kernel

/-- The block of the result at a grid point. -/
theorem tr11 : ∀ t : Fin grid0.N, cc0_transform_11 (grid0.coords t) = ![t.val / 28, t.val % 28, 0] := by decide +kernel

variable (m : (ℓ : Loc nD τ sig) → Buf (Elt Ideal) ℓ) (hO : Ok m)

/-- The word of a slot at a grid point. -/
theorem wd_tbl (t : Fin grid0.N) (u : Fin 4) : wd (tbl m) (grid0.coords t) u = m (((0 : Dev nD).tc : Thread nD τ).loc main_arg3) (ix2 (⟨t.val, lt_of_lt_of_eq t.isLt N_0⟩ : Fin 784) u) := by
  rw [wd_eq (tbl m) (grid0.coords t) u ⟨t.val, lt_of_lt_of_eq t.isLt N_0⟩ (coord0 t)]
  exact (congrFun (V_tab m 0) _).trans (flat_at _ _ _)

/-- The blocks a grid point takes, the chosen regions being `n`. -/
theorem ixs (t : Fin (cfgM m hO).N) (n : Fin 4 → Fin 784)
    (hn : ∀ u : Fin 4, m (((0 : Dev nD).tc : Thread nD τ).loc main_arg3) (ix2 (⟨t.val, lt_of_lt_of_eq t.isLt N_0⟩ : Fin 784) u) = BitVec.ofNat 32 (n u).val) :
    ((cfgM m hO).win 0).index t = ![t.val / 28, t.val % 28, 0] ∧ ((cfgM m hO).win 1).index t = ![(n 0).val / 28, (n 0).val % 28, 0]
    ∧ ((cfgM m hO).win 2).index t = ![(n 1).val / 28, (n 1).val % 28, 0] ∧ ((cfgM m hO).win 3).index t = ![(n 2).val / 28, (n 2).val % 28, 0]
    ∧ ((cfgM m hO).win 4).index t = ![(n 3).val / 28, (n 3).val % 28, 0] ∧ ((cfgM m hO).win 5).index t = ![(n 0).val / 28, (n 0).val % 28, 0]
    ∧ ((cfgM m hO).win 6).index t = ![(n 1).val / 28, (n 1).val % 28, 0] ∧ ((cfgM m hO).win 7).index t = ![(n 2).val / 28, (n 2).val % 28, 0]
    ∧ ((cfgM m hO).win 8).index t = ![(n 3).val / 28, (n 3).val % 28, 0] ∧ ((cfgM m hO).win 9).index t = ![0, 0]
    ∧ ((cfgM m hO).win 10).index t = ![0, 0] ∧ ((cfgM m hO).win 11).index t = ![t.val / 28, t.val % 28, 0] := by
  have h (u : Fin 4) := chain_of _ (n u) ((wd_tbl m t u).trans (hn u))
  exact ⟨tr0 t, (map1 _ _).trans (h 0), (map2 _ _).trans (h 1), (map3 _ _).trans (h 2), (map4 _ _).trans (h 3),
    (map5 _ _).trans (h 0), (map6 _ _).trans (h 1), (map7 _ _).trans (h 2), (map8 _ _).trans (h 3),
    (by decide +kernel : ∀ t : Fin grid0.N, cc0_transform_9 (grid0.coords t) = ![0, 0]) t, (by decide +kernel : ∀ t : Fin grid0.N, cc0_transform_10 (grid0.coords t) = ![0, 0]) t, tr11 t⟩

/-- The queries' block is the grid point's region. -/
theorem blk0 (c : Dev nD) (t : Fin (cfgM m hO).N) (i : Fin 784) (h : ((cfgM m hO).win 0).index t = ![i.val / 28, i.val % 28, 0]) (p : Fin 64) (a : Fin 96) :
    cells (iblk m hO c 0 t) p a = reg (V m c main_arg0) i p a := by
  unfold cells reg
  blk_point [iblk, h]

/-- The first key block is the first chosen region. -/
theorem blk1 (c : Dev nD) (t : Fin (cfgM m hO).N) (i : Fin 784) (h : ((cfgM m hO).win 1).index t = ![i.val / 28, i.val % 28, 0]) (p : Fin 64) (a : Fin 96) :
    cells (iblk m hO c 1 t) p a = reg (V m c main_arg1) i p a := by
  unfold cells reg
  blk_point [iblk, h]

/-- The second key block is the second chosen region. -/
theorem blk2 (c : Dev nD) (t : Fin (cfgM m hO).N) (i : Fin 784) (h : ((cfgM m hO).win 2).index t = ![i.val / 28, i.val % 28, 0]) (p : Fin 64) (a : Fin 96) :
    cells (iblk m hO c 2 t) p a = reg (V m c main_arg1) i p a := by
  unfold cells reg
  blk_point [iblk, h]

/-- The third key block is the third chosen region. -/
theorem blk3 (c : Dev nD) (t : Fin (cfgM m hO).N) (i : Fin 784) (h : ((cfgM m hO).win 3).index t = ![i.val / 28, i.val % 28, 0]) (p : Fin 64) (a : Fin 96) :
    cells (iblk m hO c 3 t) p a = reg (V m c main_arg1) i p a := by
  unfold cells reg
  blk_point [iblk, h]

/-- The fourth key block is the fourth chosen region. -/
theorem blk4 (c : Dev nD) (t : Fin (cfgM m hO).N) (i : Fin 784) (h : ((cfgM m hO).win 4).index t = ![i.val / 28, i.val % 28, 0]) (p : Fin 64) (a : Fin 96) :
    cells (iblk m hO c 4 t) p a = reg (V m c main_arg1) i p a := by
  unfold cells reg
  blk_point [iblk, h]

/-- The first value block is the first chosen region. -/
theorem blk5 (c : Dev nD) (t : Fin (cfgM m hO).N) (i : Fin 784) (h : ((cfgM m hO).win 5).index t = ![i.val / 28, i.val % 28, 0]) (p : Fin 64) (a : Fin 96) :
    cells (iblk m hO c 5 t) p a = reg (V m c main_arg2) i p a := by
  unfold cells reg
  blk_point [iblk, h]

/-- The second value block is the second chosen region. -/
theorem blk6 (c : Dev nD) (t : Fin (cfgM m hO).N) (i : Fin 784) (h : ((cfgM m hO).win 6).index t = ![i.val / 28, i.val % 28, 0]) (p : Fin 64) (a : Fin 96) :
    cells (iblk m hO c 6 t) p a = reg (V m c main_arg2) i p a := by
  unfold cells reg
  blk_point [iblk, h]

/-- The third value block is the third chosen region. -/
theorem blk7 (c : Dev nD) (t : Fin (cfgM m hO).N) (i : Fin 784) (h : ((cfgM m hO).win 7).index t = ![i.val / 28, i.val % 28, 0]) (p : Fin 64) (a : Fin 96) :
    cells (iblk m hO c 7 t) p a = reg (V m c main_arg2) i p a := by
  unfold cells reg
  blk_point [iblk, h]

/-- The fourth value block is the fourth chosen region. -/
theorem blk8 (c : Dev nD) (t : Fin (cfgM m hO).N) (i : Fin 784) (h : ((cfgM m hO).win 8).index t = ![i.val / 28, i.val % 28, 0]) (p : Fin 64) (a : Fin 96) :
    cells (iblk m hO c 8 t) p a = reg (V m c main_arg2) i p a := by
  unfold cells reg
  blk_point [iblk, h]

/-- The query mask's block is the whole mask. -/
theorem blk9 (c : Dev nD) (t : Fin (cfgM m hO).N) (h : ((cfgM m hO).win 9).index t = ![0, 0]) (r : Fin 512) (a : Fin 96) :
    iblk m hO c 9 t (ix2 r a) = V m c main_v12 (ix2 r a) := by
  blk_point [iblk, h]

/-- The output mask's block is the whole mask. -/
theorem blk10 (c : Dev nD) (t : Fin (cfgM m hO).N) (h : ((cfgM m hO).win 10).index t = ![0, 0]) (r : Fin 8) (a : Fin 96) :
    iblk m hO c 10 t (ix2 r a) = V m c main_v14 (ix2 r a) := by
  blk_point [iblk, h]

end Cert.Kernel2Ideal.Value
end
-- ==== Proof.BraMask.lean ====
module

public import proofs.«01_k».proof.Proof.BraTab
public import proofs.«01_k».proof.Proof.Consts

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

/-- The head of every channel: its number over twelve, rounded down. -/
def fd : IVec S96 32 :=
  select (andi (cmpi .ne (signi (iotaInDim S96 32 0)) (broadcastInDim S96 ![] bcast_S_S96 (signi (constantI S_ 32 12#32))))
      (cmpi .ne (Host.remsi (iotaInDim S96 32 0) (broadcastInDim S96 ![] bcast_S_S96 (constantI S_ 32 12#32))) (broadcastInDim S96 ![] bcast_S_S96 (constantI S_ 32 0#32))))
    (subi (Host.divsi (iotaInDim S96 32 0) (broadcastInDim S96 ![] bcast_S_S96 (constantI S_ 32 12#32))) (broadcastInDim S96 ![] bcast_S_S96 (constantI S_ 32 1#32)))
    (Host.divsi (iotaInDim S96 32 0) (broadcastInDim S96 ![] bcast_S_S96 (constantI S_ 32 12#32)))

/-- The head of a channel, read. -/
theorem fd_at : ∀ a : Fin 96, fd (ix1 a) = BitVec.ofNat 32 (a.val / 12) := by
  intro a
  pointwise [fd]
  revert a
  decide +kernel

/-- The query mask from the channels' heads. -/
def mq (f : IVec S96 32) : FVec Ideal S512x96 .f32 :=
  mulf (uitofp .f32 (cmpi .eq (broadcastInDim S512x96 ![0, 1] bcast_S1x96_S512x96_0_1 (broadcastInDim S1x96 ![1] bcast_S96_S1x96_1 f))
      (broadcastInDim S512x96 ![0, 1] bcast_S512x1_S512x96_0_1 (broadcastInDim S512x1 ![0] bcast_S512_S512x1_0 (shapeCast S512 (broadcastInDim S8x64 ![0] bcast_S8_S8x64_0 (iotaInDim S8 32 0)) shapeCasts_S8x64_S512)))))
    (broadcastInDim S512x96 ![] bcast_S_S512x96 (constant S_ .f32 0x3D93CD3A#32))

/-- The output mask from the channels' heads. -/
def mo (f : IVec S96 32) : FVec Ideal S8x96 .f32 :=
  transpose S8x96 [1, 0] (uitofp .f32 (cmpi .eq (broadcastInDim S96x8 ![0, 1] bcast_S96x1_S96x8_0_1 (broadcastInDim S96x1 ![0] bcast_S96_S96x1_0 f)) (broadcastInDim S96x8 ![0, 1] bcast_S1x8_S96x8_0_1 (iotaInDim S1x8 32 1)))) transposes_S96x8_S8x96_1_0

/-- The flag of an equality of two numbers below eight, as a float. -/
theorem flag (x y : Fin 8) : (FloatOps.uitofp (F := Ideal) FTy.f32 (IntOp.cmpi CmpIPredicate.eq (BitVec.ofNat 32 x.val) (BitVec.ofNat 32 y.val)) : EReal) = if x.val = y.val then 1 else 0 := by
  have e : IntOp.cmpi CmpIPredicate.eq (BitVec.ofNat 32 x.val) (BitVec.ofNat 32 y.val) = if x.val = y.val then 1#1 else 0#1 := by
    revert x y
    decide +kernel
  rw [e]
  split_ifs
  · show (((1#1 : BitVec 1).toNat : ℝ) : EReal) = 1
    simp
  · show (((0#1 : BitVec 1).toNat : ℝ) : EReal) = 0
    simp

/-- The query mask, read. -/
theorem mq_at (f : IVec S96 32) (hf : ∀ a : Fin 96, f (ix1 a) = BitVec.ofNat 32 (a.val / 12)) (r : Fin 512) (a : Fin 96) :
    mq f (ix2 r a) = if a.val / 12 = r.val / 64 then Ideal.ofBits .f32 0x3D93CD3A#32 else 0 := by
  pointwise [mq]
  rw [hf, flag ⟨a.val / 12, by omega⟩ ⟨r.val / 64, by omega⟩]
  dsimp only
  split_ifs
  · exact one_mul _
  · exact zero_mul _

/-- The output mask, read. -/
theorem mo_at (f : IVec S96 32) (hf : ∀ a : Fin 96, f (ix1 a) = BitVec.ofNat 32 (a.val / 12)) (h : Fin 8) (a : Fin 96) :
    mo f (ix2 h a) = if a.val / 12 = h.val then 1 else 0 := by
  pointwise [mo]
  rw [hf, flag ⟨a.val / 12, by omega⟩ h]

variable (m : (ℓ : Loc nD τ sig) → Buf (Elt Ideal) ℓ)

/-- The query mask the region finds. -/
theorem V_mq (c : Dev nD) : V m c main_v12 = mq fd := by
  show StableHlo.after (List.flatten [hostOps0, hostOps0_1, hostOps0_2, hostOps0_3, hostOps0_4]) (fun b => m (c, b)) _ = _
  simp only [List.flatten_cons, List.flatten_nil, List.cons_append, List.nil_append]
  after_results_simp
  rfl

/-- The output mask the region finds. -/
theorem V_mo (c : Dev nD) : V m c main_v14 = mo fd := by
  show StableHlo.after (List.flatten [hostOps0, hostOps0_1, hostOps0_2, hostOps0_3, hostOps0_4]) (fun b => m (c, b)) _ = _
  simp only [List.flatten_cons, List.flatten_nil, List.cons_append, List.nil_append]
  after_results_simp
  rfl

end Cert.Kernel2Ideal.Value
end
-- ==== Proof.BraMath.lean ====
module

public import proofs.«01_k».proof.Proof.FoldMath

@[expose] public section

noncomputable section

namespace Cert.Bra

open Idealize.ShloMosaic
open Cert.Fold (coe_sum)

/-- Channel `d` of head `h`. -/
def ch (h : Fin 8) (d : Fin 12) : Fin 96 := ⟨h * 12 + d, by omega⟩

/-- Row `64 h + p`. -/
def rw' (h : Fin 8) (p : Fin 64) : Fin 512 := ⟨h * 64 + p, by omega⟩

/-- The query mask: the scale on the row's head, zero elsewhere. -/
def mkq (sc : EReal) (r : Fin 512) (a : Fin 96) : EReal := if a.val / 12 = r.val / 64 then sc else 0

/-- The output mask: one on the head's channels, zero elsewhere. -/
def mko (h : Fin 8) (a : Fin 96) : EReal := if a.val / 12 = h.val then 1 else 0

/-! ## The kernel's arithmetic -/

/-- The logits of all heads' rows. -/
def klg (sc : EReal) (Q : Fin 64 → Fin 96 → EReal) (K : Fin 256 → Fin 96 → EReal) (r : Fin 512) (j : Fin 256) : EReal :=
  ∑ a, (Q ⟨r.val % 64, by omega⟩ a * mkq sc r a) * K j a

/-- The exponentials of a row's logits less their maximum. -/
def kex (l : Fin 256 → EReal) (j : Fin 256) : EReal := Ideal.exp (l j - Finset.fold max ⊥ l Finset.univ)

/-- A row of the attention, by multiplication with the reciprocal. -/
def kat (l : Fin 256 → EReal) (j : Fin 256) : EReal := kex l j * Ideal.div 1 (0 + ∑ j, kex l j)

/-- The attended values of all heads' rows. -/
def kvl (L : Fin 512 → Fin 256 → EReal) (V : Fin 256 → Fin 96 → EReal) (r : Fin 512) (a : Fin 96) : EReal := ∑ j, kat (L r) j * V j a

/-- The heads' parts put together. -/
def kout (O : Fin 512 → Fin 96 → EReal) (p : Fin 64) (a : Fin 96) : EReal :=
  O (rw' 0 p) a * mko 0 a + O (rw' 1 p) a * mko 1 a + O (rw' 2 p) a * mko 2 a + O (rw' 3 p) a * mko 3 a
    + O (rw' 4 p) a * mko 4 a + O (rw' 5 p) a * mko 5 a + O (rw' 6 p) a * mko 6 a + O (rw' 7 p) a * mko 7 a

/-! ## The reference's arithmetic -/

/-- The logits of one head. -/
def rlg (sc : EReal) (Q : Fin 64 → Fin 96 → EReal) (K : Fin 256 → Fin 96 → EReal) (h : Fin 8) (p : Fin 64) (j : Fin 256) : EReal :=
  ∑ d, Q p (ch h d) * sc * K j (ch h d)

/-- The exponentials of a row's logits less their maximum. -/
def rex (l : Fin 256 → EReal) (j : Fin 256) : EReal := Ideal.exp (l j - max ⊥ (Finset.fold max ⊥ l Finset.univ))

/-- A row of the attention, by division. -/
def rat (l : Fin 256 → EReal) (j : Fin 256) : EReal := Ideal.div (rex l j) (0 + ∑ j, rex l j)

/-- The attended values of one head. -/
def rvl (L : Fin 8 → Fin 64 → Fin 256 → EReal) (V : Fin 256 → Fin 96 → EReal) (h : Fin 8) (p : Fin 64) (d : Fin 12) : EReal := ∑ j, rat (L h p) j * V j (ch h d)

/-! ## The two agree -/

/-- A sum over all channels that vanishes off one head is the sum over that head's lanes. -/
theorem sum_head {M : Type*} [AddCommMonoid M] (h : Fin 8) (g : Fin 96 → M) :
    ∑ a : Fin 96, (if a.val / 12 = h.val then g a else 0) = ∑ d, g (ch h d) := by
  rw [← Finset.sum_filter]
  refine Finset.sum_nbij' (fun a => (⟨a.val % 12, by omega⟩ : Fin 12)) (ch h) ?_ ?_ ?_ ?_ ?_
  · intro a _; exact Finset.mem_univ _
  · intro d _
    refine Finset.mem_filter.mpr ⟨Finset.mem_univ _, ?_⟩
    show (h.val * 12 + d.val) / 12 = h.val
    omega
  · intro a ha
    have := (Finset.mem_filter.mp ha).2
    refine Fin.ext ?_
    show h.val * 12 + a.val % 12 = a.val
    omega
  · intro d _
    refine Fin.ext ?_
    show (h.val * 12 + d.val) % 12 = d.val
    omega
  · intro a ha
    have := (Finset.mem_filter.mp ha).2
    refine congrArg g (Fin.ext ?_)
    show a.val = h.val * 12 + a.val % 12
    omega

/-- The kernel's masked logits are the head's. -/
theorem klg_eq (sc : EReal) (Q : Fin 64 → Fin 96 → EReal) (K : Fin 256 → Fin 96 → EReal) (h : Fin 8) (p : Fin 64) (j : Fin 256) :
    klg sc Q K (rw' h p) j = rlg sc Q K h p j := by
  unfold klg rlg
  rw [← sum_head h (fun a => Q p a * sc * K j a)]
  refine Finset.sum_congr rfl fun a _ => ?_
  have e1 : (⟨(rw' h p).val % 64, by omega⟩ : Fin 64) = p := Fin.ext (by show (h.val * 64 + p.val) % 64 = p.val; omega)
  have e2 : (rw' h p).val / 64 = h.val := by show (h.val * 64 + p.val) / 64 = h.val; omega
  rw [e1, mkq, e2]
  split_ifs
  · rfl
  · rw [mul_zero, zero_mul]

/-- On a row of real logits the two normalisations agree. -/
theorem kat_eq (l : Fin 256 → ℝ) (j : Fin 256) : kat (fun j => (l j : EReal)) j = rat (fun j => (l j : EReal)) j := by
  obtain ⟨i, -, hi⟩ := Finset.exists_mem_eq_sup (Finset.univ : Finset (Fin 256)) Finset.univ_nonempty (fun j => (l j : EReal))
  have hm : Finset.fold max ⊥ (fun j => (l j : EReal)) Finset.univ = (l i : EReal) := hi
  have hk : ∀ j, kex (fun j => (l j : EReal)) j = (Real.exp (l j - l i) : EReal) := by
    intro j
    unfold kex
    rw [hm, ← EReal.coe_sub, Ideal.exp_coe]
  have hr : ∀ j, rex (fun j => (l j : EReal)) j = (Real.exp (l j - l i) : EReal) := by
    intro j
    unfold rex
    rw [hm, max_eq_right bot_le, ← EReal.coe_sub, Ideal.exp_coe]
  have hs : 0 < ∑ j, Real.exp (l j - l i) := Finset.sum_pos (fun c _ => Real.exp_pos _) Finset.univ_nonempty
  unfold kat rat
  simp only [hk, hr]
  rw [← coe_sum, zero_add, Ideal.div_coe hs.ne', Ideal.div_coe hs.ne', one_mul]

/-- The logits of real queries and keys are real. -/
theorem rlg_real (s : ℝ) (q : Fin 64 → Fin 96 → ℝ) (k : Fin 256 → Fin 96 → ℝ) (h : Fin 8) (p : Fin 64) :
    rlg (s : EReal) (fun p a => (q p a : EReal)) (fun j a => (k j a : EReal)) h p = fun j => ((∑ d, q p (ch h d) * s * k j (ch h d) : ℝ) : EReal) := by
  funext j
  rw [rlg, coe_sum]
  simp only [EReal.coe_mul]

/-- Of the heads' parts the mask leaves the channel's own. -/
theorem kout_eq (O : Fin 512 → Fin 96 → EReal) (h : Fin 8) (p : Fin 64) (d : Fin 12) : kout O p (ch h d) = O (rw' h p) (ch h d) := by
  have e : ∀ g : Fin 8, mko g (ch h d) = if g = h then 1 else 0 := by
    intro g
    unfold mko
    refine if_congr ?_ rfl rfl
    show (h.val * 12 + d.val) / 12 = g.val ↔ g = h
    rw [Fin.ext_iff]
    omega
  unfold kout
  simp only [e]
  match h with
  | 0 => simp
  | 1 => simp
  | 2 => simp
  | 3 => simp
  | 4 => simp
  | 5 => simp
  | 6 => simp
  | 7 => simp

/-- The kernel's result and the reference's are one, on real queries and keys. -/
theorem out_eq (sc : EReal) (Q : Fin 64 → Fin 96 → EReal) (K V : Fin 256 → Fin 96 → EReal) (hs : ∃ s : ℝ, sc = (s : EReal))
    (hQ : ∀ p a, ∃ x : ℝ, Q p a = (x : EReal)) (hK : ∀ j a, ∃ x : ℝ, K j a = (x : EReal)) (h : Fin 8) (p : Fin 64) (d : Fin 12) :
    kout (kvl (klg sc Q K) V) p (ch h d) = rvl (rlg sc Q K) V h p d := by
  obtain ⟨s, rfl⟩ := hs
  choose q hq using hQ
  choose k hk using hK
  obtain rfl : Q = fun p a => (q p a : EReal) := funext fun p => funext fun a => hq p a
  obtain rfl : K = fun p a => (k p a : EReal) := funext fun p => funext fun a => hk p a
  rw [kout_eq, kvl, rvl]
  refine Finset.sum_congr rfl fun j _ => congrArg (· * V j (ch h d)) ?_
  rw [show klg (s : EReal) (fun p a => (q p a : EReal)) (fun p a => (k p a : EReal)) (rw' h p) = rlg (s : EReal) (fun p a => (q p a : EReal)) (fun p a => (k p a : EReal)) h p from
    funext fun j => klg_eq _ _ _ h p j, rlg_real]
  exact kat_eq _ j

end Cert.Bra

end
-- ==== Proof.BraFin.lean ====
module

public import proofs.«01_k».proof.Proof.BraBlk
public import proofs.«01_k».proof.Proof.BraMask
public import proofs.«01_k».proof.Proof.BraMath
public import Idealize.ShloMosaic.Lib.Pipeline.Covers

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

/-- The scale of the queries. -/
def bsc : EReal := Ideal.ofBits .f32 0x3D93CD3A#32

/-- Four regions of an image one after another. -/
def reg4 (X : FVec Ideal S224x224x96 .f32) (n : Fin 4 → Fin 784) (j : Fin 256) (a : Fin 96) : EReal :=
  reg X (n ⟨j.val / 64, by omega⟩) ⟨j.val % 64, by omega⟩ a

/-- A position of a region's attention. -/
def att (Q K V : FVec Ideal S224x224x96 .f32) (N : Fin 784 → Fin 4 → Fin 784) (i : Fin 784) (p : Fin 64) (a : Fin 96) : EReal :=
  Cert.Bra.kout (Cert.Bra.kvl (Cert.Bra.klg bsc (reg Q i) (reg4 K (N i))) (reg4 V (N i))) p a

/-- The region of a pixel. -/
def pr (y x : Fin 224) : Fin 784 := ⟨y.val / 8 * 28 + x.val / 8, by omega⟩

/-- The position of a pixel in its region. -/
def pp (y x : Fin 224) : Fin 64 := ⟨y.val % 8 * 8 + x.val % 8, by omega⟩

/-- The attention as an image. -/
def ATT (Q K V : FVec Ideal S224x224x96 .f32) (N : Fin 784 → Fin 4 → Fin 784) : FVec Ideal S224x224x96 .f32 :=
  fun i => att Q K V N (pr (i 0) (i 1)) (pp (i 0) (i 1)) (i 2)

/-- A position of a region's attention is the pixel's. -/
theorem att_of (Q K V : FVec Ideal S224x224x96 .f32) (N : Fin 784 → Fin 4 → Fin 784) (i : Fin 784) (p : Fin 64) (a : Fin 96) (Y X : Fin 224) (A : Fin 96)
    (hY : Y.val = i.val / 28 * 8 + p.val / 8) (hX : X.val = i.val % 28 * 8 + p.val % 8) (hA : A.val = a.val) : att Q K V N i p a = att Q K V N (pr Y X) (pp Y X) A := by
  have e1 : pr Y X = i := Fin.ext (by show Y.val / 8 * 28 + X.val / 8 = i.val; omega)
  have e2 : pp Y X = p := Fin.ext (by show Y.val % 8 * 8 + X.val % 8 = p.val; omega)
  rw [e1, e2, Fin.ext hA]

/-- The attended values of the body, read. -/
theorem o_at (x0 x1 x2 x3 x4 x5 x6 x7 x8 : Vec Ideal S8x8x96 .f32) (w : Vec Ideal S512x96 .f32)
    (hw : ∀ r a, w (ix2 r a) = Cert.Bra.mkq bsc r a) (r : Fin 512) (a : Fin 96) :
    k0_pay5 (F := Ideal) (k0_pay2 x5 x6 x7 x8) (k0_pay3 x0 w x1 x2 x3 x4) (k0_pay4 x0 w x1 x2 x3 x4) (ix2 r a)
      = Cert.Bra.kvl (Cert.Bra.klg bsc (cells x0) (four ![x1, x2, x3, x4])) (four ![x5, x6, x7, x8]) r a := by
  rw [pay5_at]
  simp only [pay4_at, pay3_at, pay2_at, hw]
  rfl

/-- The body's store, read. -/
theorem body_at (x0 x1 x2 x3 x4 x5 x6 x7 x8 : Vec Ideal S8x8x96 .f32) (w : Vec Ideal S512x96 .f32)
    (hw : ∀ r a, w (ix2 r a) = Cert.Bra.mkq bsc r a) (m0 m1 m2 m3 m4 m5 m6 m7 : Vec Ideal S1x96 .f32)
    (h0 : ∀ a, m0 (ix2 0 a) = Cert.Bra.mko 0 a) (h1 : ∀ a, m1 (ix2 0 a) = Cert.Bra.mko 1 a) (h2 : ∀ a, m2 (ix2 0 a) = Cert.Bra.mko 2 a) (h3 : ∀ a, m3 (ix2 0 a) = Cert.Bra.mko 3 a)
    (h4 : ∀ a, m4 (ix2 0 a) = Cert.Bra.mko 4 a) (h5 : ∀ a, m5 (ix2 0 a) = Cert.Bra.mko 5 a) (h6 : ∀ a, m6 (ix2 0 a) = Cert.Bra.mko 6 a) (h7 : ∀ a, m7 (ix2 0 a) = Cert.Bra.mko 7 a)
    (y x : Fin 8) (a : Fin 96) :
    k0_pay1 (F := Ideal) (k0_pay5 (k0_pay2 x5 x6 x7 x8) (k0_pay3 x0 w x1 x2 x3 x4) (k0_pay4 x0 w x1 x2 x3 x4))
        (k0_pay6 (k0_pay2 x5 x6 x7 x8) (k0_pay3 x0 w x1 x2 x3 x4) (k0_pay4 x0 w x1 x2 x3 x4) m0 m1 m2 m3 m4 m5)
        (k0_pay7 (k0_pay2 x5 x6 x7 x8) (k0_pay3 x0 w x1 x2 x3 x4) (k0_pay4 x0 w x1 x2 x3 x4)) m6 m7 (ix3 y x a)
      = Cert.Bra.kout (Cert.Bra.kvl (Cert.Bra.klg bsc (cells x0) (four ![x1, x2, x3, x4])) (four ![x5, x6, x7, x8])) (⟨y * 8 + x, by omega⟩ : Fin 64) a := by
  rw [pay1_at, pay6_at, pay7_at]
  simp only [o_at _ _ _ _ _ _ _ _ _ _ hw, h0, h1, h2, h3, h4, h5, h6, h7]
  rfl

/-- A row of the output mask, read. -/
theorem ld_row (M : Vec Ideal S8x96 .f32) (k : Fin 8) (inb : ∀ a, (![k.val, 0] : Fin 2 → Nat) a + (![1, 96] : Fin 2 → Nat) a ≤ S8x96.size a) (a : Fin 96) :
    View.ld (S := S8x96) M (Rect.unit ![k.val, 0] ![1, 96] inb) (ix2 0 a) = M (ix2 k a) := by
  refine congrArg M ((eq_ix2 _).trans (congrArg₂ ix2 (Fin.ext ?_) (Fin.ext ?_)))
  · show k.val + 0 * 1 = k.val
    omega
  · show 0 + 1 * a.val = a.val
    omega

set_option maxHeartbeats 1000000 in
/-- What a grid point leaves in the result's buffer, from its blocks. -/
theorem out_at (c : Dev nD) (i : grid0.Coords) (arg2 : Memref sig .tc .vmem S8x8x96 .f32) (harg2 : arg2.IsWhole) (arg3 : Memref sig .tc .vmem S8x8x96 .f32) (harg3 : arg3.IsWhole) (arg4 : Memref sig .tc .vmem S8x8x96 .f32) (harg4 : arg4.IsWhole) (arg5 : Memref sig .tc .vmem S8x8x96 .f32) (harg5 : arg5.IsWhole) (arg6 : Memref sig .tc .vmem S8x8x96 .f32) (harg6 : arg6.IsWhole) (arg7 : Memref sig .tc .vmem S8x8x96 .f32) (harg7 : arg7.IsWhole) (arg8 : Memref sig .tc .vmem S8x8x96 .f32) (harg8 : arg8.IsWhole) (arg9 : Memref sig .tc .vmem S8x8x96 .f32) (harg9 : arg9.IsWhole) (arg10 : Memref sig .tc .vmem S8x8x96 .f32) (harg10 : arg10.IsWhole) (arg11 : Memref sig .tc .vmem S512x96 .f32) (harg11 : arg11.IsWhole) (arg12 : Memref sig .tc .vmem S8x96 .f32) (harg12 : arg12.IsWhole) (arg13 : Memref sig .tc .vmem S8x8x96 .f32) (harg13 : arg13.IsWhole)
    (x0 : Vec Ideal S8x8x96 .f32) (x1 : Vec Ideal S8x8x96 .f32) (x2 : Vec Ideal S8x8x96 .f32) (x3 : Vec Ideal S8x8x96 .f32) (x4 : Vec Ideal S8x8x96 .f32) (x5 : Vec Ideal S8x8x96 .f32) (x6 : Vec Ideal S8x8x96 .f32) (x7 : Vec Ideal S8x8x96 .f32) (x8 : Vec Ideal S8x8x96 .f32) (x9 : Vec Ideal S512x96 .f32) (x10 : Vec Ideal S8x96 .f32) (xt0 : TbBuf0 (F := Ideal) c tbM0_0)
    (hw : ∀ r a, x9 (ix2 r a) = Cert.Bra.mkq bsc r a) (hm : ∀ h a, x10 (ix2 h a) = Cert.Bra.mko h a) (y x : Fin 8) (a : Fin 96) :
    out0_A_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 xt0 (ix3 y x a)
      = Cert.Bra.kout (Cert.Bra.kvl (Cert.Bra.klg bsc (cells x0) (four ![x1, x2, x3, x4])) (four ![x5, x6, x7, x8])) (⟨y * 8 + x, by omega⟩ : Fin 64) a := by
  frame_out
  exact body_at _ _ _ _ _ _ _ _ _ _ hw _ _ _ _ _ _ _ _
    (fun a => (ld_row _ 0 _ a).trans (hm 0 a)) (fun a => (ld_row _ 1 _ a).trans (hm 1 a))
    (fun a => (ld_row _ 2 _ a).trans (hm 2 a)) (fun a => (ld_row _ 3 _ a).trans (hm 3 a))
    (fun a => (ld_row _ 4 _ a).trans (hm 4 a)) (fun a => (ld_row _ 5 _ a).trans (hm 5 a))
    (fun a => (ld_row _ 6 _ a).trans (hm 6 a)) (fun a => (ld_row _ 7 _ a).trans (hm 7 a)) y x a

variable (m : (ℓ : Loc nD τ sig) → Buf (Elt Ideal) ℓ) (hO : Ok m)

/-- The query mask's block, read. -/
theorem w9 (c : Dev nD) (t : Fin (cfgM m hO).N) (h : ((cfgM m hO).win 9).index t = ![0, 0]) (r : Fin 512) (a : Fin 96) :
    iblk m hO c 9 t (ix2 r a) = Cert.Bra.mkq bsc r a := by
  rw [blk9 m hO c t h, V_mq, mq_at fd fd_at]
  rfl

/-- The output mask's block, read. -/
theorem w10 (c : Dev nD) (t : Fin (cfgM m hO).N) (h : ((cfgM m hO).win 10).index t = ![0, 0]) (r : Fin 8) (a : Fin 96) :
    iblk m hO c 10 t (ix2 r a) = Cert.Bra.mko r a := by
  rw [blk10 m hO c t h, V_mo, mo_at fd fd_at]
  rfl

/-- Four blocks that are four regions. -/
theorem four_reg (x0 x1 x2 x3 : Vec Ideal S8x8x96 .f32) (X : FVec Ideal S224x224x96 .f32) (n : Fin 4 → Fin 784)
    (h0 : ∀ p a, cells x0 p a = reg X (n 0) p a) (h1 : ∀ p a, cells x1 p a = reg X (n 1) p a)
    (h2 : ∀ p a, cells x2 p a = reg X (n 2) p a) (h3 : ∀ p a, cells x3 p a = reg X (n 3) p a) : four ![x0, x1, x2, x3] = reg4 X n := by
  funext j a
  unfold four reg4
  generalize (⟨j.val / 64, _⟩ : Fin 4) = u
  match u with
  | 0 => exact h0 _ a
  | 1 => exact h1 _ a
  | 2 => exact h2 _ a
  | 3 => exact h3 _ a

/-- The result's blocks cover its array. -/
theorem cov11 : ((cfgM m hO).win 11).Covers := by
  refine Pipeline.Window.covers_of_index_surj _ rfl ?_ ?_
  · show ∀ a : Fin 3, 0 < S8x8x96.size a
    decide
  · intro (β : (a : Fin 3) → Fin (((cfgM m hO).win 11).nblk a))
    have h0 : (β 0).val < 28 := (β 0).isLt.trans_eq (show (224 + 8 - 1) / 8 = 28 from rfl)
    have h1 : (β 1).val < 28 := (β 1).isLt.trans_eq (show (224 + 8 - 1) / 8 = 28 from rfl)
    have h2 : (β 2).val < 1 := (β 2).isLt.trans_eq (show (96 + 96 - 1) / 96 = 1 from rfl)
    have hb : (β 0).val * 28 + (β 1).val < grid0.N := by rw [N_0]; omega
    refine ⟨(⟨(β 0).val * 28 + (β 1).val, hb⟩ : Fin grid0.N), ?_⟩
    show ∀ a : Fin 3, cc0_transform_11 (grid0.coords ⟨(β 0).val * 28 + (β 1).val, hb⟩) a = (β a).val
    intro a
    refine (congrFun (tr11 ⟨(β 0).val * 28 + (β 1).val, hb⟩) a).trans ?_
    match a with
    | 0 => show ((β 0).val * 28 + (β 1).val) / 28 = (β 0).val; omega
    | 1 => show ((β 0).val * 28 + (β 1).val) % 28 = (β 1).val; omega
    | 2 => show 0 = (β 2).val; omega

set_option maxHeartbeats 1000000 in
/-- What the region leaves in its result. -/
theorem att_final (c : Dev nD) (N : Fin 784 → Fin 4 → Fin 784)
    (hN : ∀ i u, m (((0 : Dev nD).tc : Thread nD τ).loc main_arg3) (ix2 i u) = BitVec.ofNat 32 (N i u).val) :
    (dats m hO 0 c).arrAt 11 (cfgM m hO).N = ATT (V m c main_arg0) (V m c main_arg1) (V m c main_arg2) N := by
  refine (dats m hO 0 c).arrAt_eq_of_covers 11 _ (cov11 m hO) fun t _ (y : S8x8x96.Idx) => ?_
  have ht : t.val < 784 := lt_of_lt_of_eq t.isLt N_0
  obtain ⟨i0, i1, i2, i3, i4, i5, i6, i7, i8, i9, i10, i11⟩ := ixs m hO t (N ⟨t.val, ht⟩) (hN ⟨t.val, ht⟩)
  blk_simp
  rw [after0_11]; unfold outsAt0
  idx_vars y
  refine (out_at c _ _ _ _ _ _ _ _ _ _ _ _ _ _ _ _ _ _ _ _ _ _ _ _ _ _ _ _ _ _ _ _ _ _ _ _ _ (w9 m hO c t i9) (w10 m hO c t i10) y0 y1 y2).trans ?_
  rw [four_reg _ _ _ _ (V m c main_arg1) (N ⟨t.val, ht⟩) (blk1 m hO c t _ i1) (blk2 m hO c t _ i2) (blk3 m hO c t _ i3) (blk4 m hO c t _ i4),
    four_reg _ _ _ _ (V m c main_arg2) (N ⟨t.val, ht⟩) (blk5 m hO c t _ i5) (blk6 m hO c t _ i6) (blk7 m hO c t _ i7) (blk8 m hO c t _ i8),
    show cells (iblk m hO c 0 t) = reg (V m c main_arg0) ⟨t.val, ht⟩ from funext fun p => funext fun a => blk0 m hO c t _ i0 p a]
  refine att_of _ _ _ N ⟨t.val, ht⟩ ⟨y0.val * 8 + y1.val, by omega⟩ y2 _ _ _ ?_ ?_ ?_
  · blk_simp [i11]
    show t.val / 28 * 8 + y0.val = t.val / 28 * 8 + (y0.val * 8 + y1.val) / 8
    omega
  · blk_simp [i11]
    show t.val % 28 * 8 + y1.val = t.val % 28 * 8 + (y0.val * 8 + y1.val) % 8
    omega
  · blk_simp [i11]

end Cert.Kernel2Ideal.Value
end
-- ==== Proof.BraRun.lean ====
module

public import proofs.«01_k».proof.Proof.BraFin

@[expose] public section

set_option maxRecDepth 16384

noncomputable section

namespace Cert.Kernel2Ideal.Value

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg)

/-- The regional attention ends with its result at `ATT` and its arguments as launched. -/
theorem run (hO : Ok m) (N : Fin 784 → Fin 4 → Fin 784)
    (hN : ∀ i u, m (((0 : Dev nD).tc : Thread nD τ).loc main_arg3) (ix2 i u) = BitVec.ofNat 32 (N i u).val) :
    θ_run defs (onTc (τ := τ) (main (F := Ideal))) ⟨m, fun _ => 0, ρ⟩ (fun r => ∀ c : Dev nD,
      r.2.mem ((c.tc : Thread nD τ).loc main_v16) = ATT (m ((c.tc : Thread nD τ).loc main_arg0)) (m ((c.tc : Thread nD τ).loc main_arg1)) (m ((c.tc : Thread nD τ).loc main_arg2)) N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 11).trans ((att_final m hO c N hN).trans (by rw [V_main_arg0, V_main_arg1, V_main_arg2])), h.2 c⟩)
    (θ_run_and (run_main m ρ hO) (unchanged m ρ hO))

end Cert.Kernel2Ideal.Value
end
-- ==== Proof.BraGat.lean ====
module

public import proofs.«01_k».proof.Proof.Gen.Reference2Ideal.Run
public import Idealize.ShloMosaic.Lib.Pipeline.ValueKit
public import Idealize.ShloMosaic.Lib.ReduceAll
public import proofs.«01_k».proof.Proof.Consts

@[expose] public section

set_option maxRecDepth 16384

noncomputable section

namespace Cert.Reference2Ideal.Value

open Idealize.ShloMosaic Idealize.ShloMosaic.TcCoe Idealize.SL.Sem
open Cert.Reference2Ideal Cert.Reference2Ideal.Gen

/-! ## The chosen regions -/

/-- The chosen regions' numbers, for every head. -/
def bJ (t : IVec S784x4 32) : IVec S1x8x784x4x1x1 32 :=
  broadcastInDim S1x8x784x4x1x1 ![0, 1, 2, 3] bcast_S1x8x784x4_S1x8x784x4x1x1_0_1_2_3 (broadcastInDim S1x8x784x4 ![0, 1, 2, 3] bcast_S1x1x784x4_S1x8x784x4_0_1_2_3 (broadcastInDim S1x1x784x4 ![0, 2, 3] bcast_S1x784x4_S1x1x784x4_0_2_3 (broadcastInDim S1x784x4 ![1, 2] bcast_S784x4_S1x784x4_1_2 t)))

/-- The numbers with negative ones counted from the end. -/
def bW (J : IVec S1x8x784x4x1x1 32) : IVec S8x784x4x1 32 :=
  shapeCast _ (select (cmpi .slt J (broadcastInDim S1x8x784x4x1x1 ![] bcast_S_S1x8x784x4x1x1 (constantI S_ 32 0#32))) (addi J (broadcastInDim S1x8x784x4x1x1 ![] bcast_S_S1x8x784x4x1x1 (constantI S_ 32 784#32))) J) shapeCasts_S1x8x784x4x1x1_S8x784x4x1

/-- Whether the numbers are of a region. -/
def bB (W : IVec S8x784x4x1 32) : IVec S8x784x4 1 :=
  Host.reduce IntOp.andi (andi (cmpi .sge W (broadcastInDim S8x784x4x1 ![] bcast_S_S8x784x4x1 (constantI S_ 32 0#32))) (cmpi .sle W (broadcastInDim S8x784x4x1 ![0, 1, 2, 3] bcast_S1x1x1x1_S8x784x4x1_0_1_2_3 (broadcastInDim S1x1x1x1 ![3] bcast_S1_S1x1x1x1_3 (constantI S1 32 783#32))))) (constantI S_ 1 1#1) reducesTo_S8x784x4x1_S8x784x4_d3 h_S_

/-- The chosen regions. -/
def bH (G : FVec Ideal S1x8x784x64x12 .f32) (W : IVec S8x784x4x1 32) : FVec Ideal S1x8x784x4x64x12 .f32 :=
  Host.gather gather_S1x8x784x64x12_S8x784x4x1_S1x8x784x4x64x12_045_2_1_0_2_3_1116412 (shapeCast _ (broadcastInDim S1x8x1x784x64x12 ![0, 1, 3, 4, 5] bcast_S1x8x784x64x12_S1x8x1x784x64x12_0_1_3_4_5 G) shapeCasts_S1x8x1x784x64x12_S1x8x784x64x12) W

/-- The chosen regions where the numbers are of a region, one after another. -/
def bS (B : IVec S8x784x4 1) (H : FVec Ideal S1x8x784x4x64x12 .f32) : FVec Ideal S1x8x784x256x12 .f32 :=
  shapeCast _ (select (broadcastInDim S1x8x784x4x64x12 ![1, 2, 3] bcast_S8x784x4_S1x8x784x4x64x12_1_2_3 B) H (broadcastInDim S1x8x784x4x64x12 ![] bcast_S_S1x8x784x4x64x12 (constant S_ .f32 0x7FC00000#32))) shapeCasts_S1x8x784x4x64x12_S1x8x784x256x12

/-- The numbers, read. -/
theorem bJ_at (t : IVec S784x4 32) (h : Fin 8) (i : Fin 784) (u : Fin 4) : bJ t (ix6 0 h i u 0 0) = t (ix2 i u) := by
  pointwise [bJ]

/-- The wrapped numbers, read. -/
theorem bW_at (J : IVec S1x8x784x4x1x1 32) (h : Fin 8) (i : Fin 784) (u : Fin 4) (n : Fin 784) (e : J (ix6 0 h i u 0 0) = BitVec.ofNat 32 n) :
    bW J (ix4 h i u 0) = BitVec.ofNat 32 n := by
  pointwise [bW]
  rw [e]
  exact (by decide +kernel : ∀ n : Fin 784, Scalar.select (IntOp.cmpi CmpIPredicate.slt (BitVec.ofNat 32 n) 0#32) (IntOp.addi (BitVec.ofNat 32 n) 784#32) (BitVec.ofNat 32 n) = BitVec.ofNat 32 n) n

/-- The bounds, read. -/
theorem bB_at (W : IVec S8x784x4x1 32) (h : Fin 8) (i : Fin 784) (u : Fin 4) (n : Fin 784) (e : W (ix4 h i u 0) = BitVec.ofNat 32 n) :
    bB W (ix3 h i u) = 1#1 := by
  pointwise [bB]
  rw [Finset.univ_unique, Finset.fold_singleton]
  show IntOp.andi (IntOp.andi (IntOp.cmpi _ (W (ix4 h i u 0)) _) (IntOp.cmpi _ (W (ix4 h i u 0)) _)) _ = _
  rw [e]
  exact (by decide +kernel : ∀ n : Fin 784, IntOp.andi (IntOp.andi (IntOp.cmpi CmpIPredicate.sge (BitVec.ofNat 32 n) 0#32) (IntOp.cmpi CmpIPredicate.sle (BitVec.ofNat 32 n) 783#32)) 1#1 = 1#1) n

/-- The gather's dimension numbers. -/
abbrev gd : GatherDims S1x8x784x64x12 S8x784x4x1 S1x8x784x4x64x12 := gather_S1x8x784x64x12_S8x784x4x1_S1x8x784x4x64x12_045_2_1_0_2_3_1116412

/-- Where the gather reads its number. -/
theorem gd_si (h : Fin 8) (i : Fin 784) (u : Fin 4) (p : Fin 64) (d : Fin 12) (k : Fin gd.startIndexMap.length) : gd.siIdx (ix6 0 h i u p d) k = ix4 h i u 0 := by
  funext b
  refine Fin.ext ?_
  match b with
  | ⟨0, _⟩ => rfl
  | ⟨1, _⟩ => rfl
  | ⟨2, _⟩ => rfl
  | ⟨3, _⟩ =>
    have hk : k.val < 1 := k.isLt
    show k.val = 0
    omega

/-- A region's number, clamped, is itself. -/
theorem clamp : ∀ n : Fin 784, min (BitVec.ofNat 32 n).toInt.toNat 783 = n.val := by
  decide +kernel

/-- The entry the gather reads. -/
theorem gd_op (W : IVec S8x784x4x1 32) (h : Fin 8) (i : Fin 784) (u : Fin 4) (p : Fin 64) (d : Fin 12) (n : Fin 784) (e : W (ix4 h i u 0) = BitVec.ofNat 32 n) :
    gd.operandIdx (ix6 0 h i u p d) W = ix5 0 h n p d := by
  funext a
  refine Fin.ext ?_
  show gd.start (ix6 0 h i u p d) W a + gd.batchCoord (ix6 0 h i u p d) a + gd.offCoord (ix6 0 h i u p d) a = _
  match a with
  | ⟨0, _⟩ => rfl
  | ⟨1, _⟩ =>
    show 0 + h.val + 0 = h.val
    omega
  | ⟨2, _⟩ =>
    have e2 : gd.start (ix6 0 h i u p d) W 2 = n.val := by
      unfold GatherDims.start
      rw [dif_pos (show (2 : Fin 5) ∈ gd.startIndexMap from List.mem_singleton.mpr rfl), gd_si, e]
      exact clamp n
    show gd.start (ix6 0 h i u p d) W 2 + 0 + 0 = n.val
    omega
  | ⟨3, _⟩ =>
    show 0 + 0 + p.val = p.val
    omega
  | ⟨4, _⟩ =>
    show 0 + 0 + d.val = d.val
    omega

/-- The regions with a unit axis put in and taken out, read. -/
theorem unit_at (G : FVec Ideal S1x8x784x64x12 .f32) (h : Fin 8) (n : Fin 784) (p : Fin 64) (d : Fin 12) :
    shapeCast S1x8x784x64x12 (broadcastInDim S1x8x1x784x64x12 ![0, 1, 3, 4, 5] bcast_S1x8x784x64x12_S1x8x1x784x64x12_0_1_3_4_5 G) shapeCasts_S1x8x1x784x64x12_S1x8x784x64x12 (ix5 0 h n p d) = G (ix5 0 h n p d) := by
  pointwise

/-- The chosen regions, read. -/
theorem bH_at (G : FVec Ideal S1x8x784x64x12 .f32) (W : IVec S8x784x4x1 32) (h : Fin 8) (i : Fin 784) (u : Fin 4) (p : Fin 64) (d : Fin 12) (n : Fin 784) (e : W (ix4 h i u 0) = BitVec.ofNat 32 n) :
    bH G W (ix6 0 h i u p d) = G (ix5 0 h n p d) := by
  unfold bH Host.gather
  rw [gd_op W h i u p d n e]
  exact unit_at G h n p d

/-- The chosen regions one after another, read. -/
theorem bS_at (B : IVec S8x784x4 1) (H : FVec Ideal S1x8x784x4x64x12 .f32) (h : Fin 8) (i : Fin 784) (j : Fin 256) (d : Fin 12)
    (e : B (ix3 h i (⟨j / 64, by omega⟩ : Fin 4)) = 1#1) :
    bS B H (ix5 0 h i j d) = H (ix6 0 h i (⟨j / 64, by omega⟩ : Fin 4) (⟨j % 64, by omega⟩ : Fin 64) d) := by
  pointwise [bS]
  rw [e]
  rfl

end Cert.Reference2Ideal.Value
end
-- ==== Proof.BraRef.lean ====
module

public import proofs.«01_k».proof.Proof.BraGat
public import proofs.«01_k».proof.Proof.Gen.Reference2Ideal.Run
public import Idealize.ShloMosaic.Lib.Pipeline.ValueKit
public import Idealize.ShloMosaic.Lib.ReduceAll
public import proofs.«01_k».proof.Proof.Consts

@[expose] public section

set_option maxRecDepth 16384

noncomputable section

namespace Cert.Reference2Ideal.Value

open Idealize.ShloMosaic Idealize.ShloMosaic.TcCoe Idealize.SL.Sem
open Cert.Reference2Ideal Cert.Reference2Ideal.Gen

/-! ## The reference's steps over variables -/

/-- The image cut into regions, by head. -/
def bG (X : FVec Ideal S224x224x96 .f32) : FVec Ideal S1x8x784x64x12 .f32 :=
  shapeCast _ (transpose S1x8x28x28x8x8x12 [0, 1, 3, 5, 4, 6, 2] (shapeCast _ (transpose S1x96x224x224 [0, 3, 1, 2] (broadcastInDim S1x224x224x96 ![1, 2, 3] bcast_S224x224x96_S1x224x224x96_1_2_3 X) transposes_S1x224x224x96_S1x96x224x224_0_3_1_2) shapeCasts_S1x96x224x224_S1x8x12x28x8x28x8) transposes_S1x8x12x28x8x28x8_S1x8x28x28x8x8x12_0_1_3_5_4_6_2) shapeCasts_S1x8x28x28x8x8x12_S1x8x784x64x12

/-- The logits, by head and region. -/
def bL (Q : FVec Ideal S1x8x784x64x12 .f32) (K : FVec Ideal S1x8x784x256x12 .f32) : FVec Ideal S1x8x784x64x256 .f32 :=
  broadcastInDim S1x8x784x64x256 ![1, 2, 3, 4] bcast_S8x784x64x256_S1x8x784x64x256_1_2_3_4 (Host.dotGeneral dot_S8x784x64x12_S8x784x12x256_S8x784x64x256_3_2_2_3_01_01 none (shapeCast _ (mulf Q (broadcastInDim S1x8x784x64x12 ![] bcast_S_S1x8x784x64x12 (constant S_ .f32 0x3D93CD3A#32))) shapeCasts_S1x8x784x64x12_S8x784x64x12) (shapeCast _ (transpose S1x8x784x12x256 [0, 1, 2, 4, 3] K transposes_S1x8x784x256x12_S1x8x784x12x256_0_1_2_4_3) shapeCasts_S1x8x784x12x256_S8x784x12x256))

/-- The logits' row maxima. -/
def bR (L : FVec Ideal S1x8x784x64x256 .f32) : FVec Ideal S1x8x784x64 .f32 :=
  Host.reduce FloatOps.maximumf L (constant S_ .f32 0xFF800000#32) reducesTo_S1x8x784x64x256_S1x8x784x64_d4 h_S_

/-- The row maxima, from `⊥`. -/
def bM (R : FVec Ideal S1x8x784x64 .f32) : FVec Ideal S1x8x784x64 .f32 :=
  maximumf (broadcastInDim S1x8x784x64 ![] bcast_S_S1x8x784x64 (constant S_ .f32 0xFF800000#32)) R

/-- The exponentials of the logits less their row's maximum. -/
def bE (L : FVec Ideal S1x8x784x64x256 .f32) (M : FVec Ideal S1x8x784x64 .f32) : FVec Ideal S1x8x784x64x256 .f32 :=
  Host.exp (subf L (broadcastInDim S1x8x784x64x256 ![0, 1, 2, 3, 4] bcast_S1x8x784x64x1_S1x8x784x64x256_0_1_2_3_4 (broadcastInDim S1x8x784x64x1 ![0, 1, 2, 3] bcast_S1x8x784x64_S1x8x784x64x1_0_1_2_3 M)))

/-- The attention: the exponentials over their row's sum. -/
def bA (E : FVec Ideal S1x8x784x64x256 .f32) : FVec Ideal S1x8x784x64x256 .f32 :=
  Host.divf E (broadcastInDim S1x8x784x64x256 ![0, 1, 2, 3, 4] bcast_S1x8x784x64x1_S1x8x784x64x256_0_1_2_3_4 (broadcastInDim S1x8x784x64x1 ![0, 1, 2, 3] bcast_S1x8x784x64_S1x8x784x64x1_0_1_2_3 (Host.reduceAdd E (constant S_ .f32 0x00000000#32) reducesTo_S1x8x784x64x256_S1x8x784x64_d4 h_S_)))

/-- The attention applied to the values. -/
def bO (A : FVec Ideal S1x8x784x64x256 .f32) (V : FVec Ideal S1x8x784x256x12 .f32) : FVec Ideal S1x8x784x64x12 .f32 :=
  broadcastInDim S1x8x784x64x12 ![1, 2, 3, 4] bcast_S8x784x64x12_S1x8x784x64x12_1_2_3_4 (Host.dotGeneral dot_S8x784x64x256_S8x784x256x12_S8x784x64x12_3_2_2_3_01_01 none (shapeCast _ A shapeCasts_S1x8x784x64x256_S8x784x64x256) (shapeCast _ V shapeCasts_S1x8x784x256x12_S8x784x256x12))

/-- The regions put back as an image. -/
def bF (O : FVec Ideal S1x8x784x64x12 .f32) : FVec Ideal S224x224x96 .f32 :=
  shapeCast _ (transpose S1x224x224x96 [0, 2, 3, 1] (shapeCast _ (transpose S1x8x12x28x8x28x8 [0, 1, 6, 2, 4, 3, 5] (shapeCast _ O shapeCasts_S1x8x784x64x12_S1x8x28x28x8x8x12) transposes_S1x8x28x28x8x8x12_S1x8x12x28x8x28x8_0_1_6_2_4_3_5) shapeCasts_S1x8x12x28x8x28x8_S1x96x224x224) transposes_S1x96x224x224_S1x224x224x96_0_2_3_1) shapeCasts_S1x224x224x96_S224x224x96

/-- The attention's output from queries, keys and values by head. -/
def bT (Q : FVec Ideal S1x8x784x64x12 .f32) (K V : FVec Ideal S1x8x784x256x12 .f32) : FVec Ideal S224x224x96 .f32 :=
  bF (bO (bA (bE (bL Q K) (bM (bR (bL Q K))))) V)

/-- The reference's result in its steps. -/
theorem res_eq (m : (ℓ : Loc nD τ sig) → Buf (Elt Ideal) ℓ) (c : Dev nD) :
    res_main_v51 m c = bT (bG (m ((c.tc : Thread nD τ).loc main_arg0)))
      (bS (bB (bW (bJ (m ((c.tc : Thread nD τ).loc main_arg3))))) (bH (bG (m ((c.tc : Thread nD τ).loc main_arg1))) (bW (bJ (m ((c.tc : Thread nD τ).loc main_arg3))))))
      (bS (bB (bW (bJ (m ((c.tc : Thread nD τ).loc main_arg3))))) (bH (bG (m ((c.tc : Thread nD τ).loc main_arg2))) (bW (bJ (m ((c.tc : Thread nD τ).loc main_arg3)))))) :=
  rfl

/-! ## The steps read at an index -/

/-- The scale of the queries. -/
def bsc : EReal := Ideal.ofBits .f32 0x3D93CD3A#32

/-- Channel `12 h + d`. -/
def chn (h : Fin 8) (d : Fin 12) : Fin 96 := ⟨h * 12 + d, by omega⟩

/-- Position `p` of region `i`: its row in the image. -/
def pixY (i : Fin 784) (p : Fin 64) : Fin 224 := ⟨i / 28 * 8 + p / 8, by omega⟩

/-- Position `p` of region `i`: its column in the image. -/
def pixX (i : Fin 784) (p : Fin 64) : Fin 224 := ⟨i % 28 * 8 + p % 8, by omega⟩

/-- The regions, read. -/
theorem bG_at (X : FVec Ideal S224x224x96 .f32) (h : Fin 8) (i : Fin 784) (p : Fin 64) (d : Fin 12) :
    bG X (ix5 0 h i p d) = X (ix3 (pixY i p) (pixX i p) (chn h d)) := by
  pointwise [bG, pixY, pixX, chn]

/-- The image put back, read. -/
theorem bF_at (O : FVec Ideal S1x8x784x64x12 .f32) (h : Fin 8) (i : Fin 784) (p : Fin 64) (d : Fin 12) :
    bF O (ix3 (pixY i p) (pixX i p) (chn h d)) = O (ix5 0 h i p d) := by
  pointwise [bF, pixY, pixX, chn]

/-- The logits, read. -/
theorem bL_at (Q : FVec Ideal S1x8x784x64x12 .f32) (K : FVec Ideal S1x8x784x256x12 .f32) (h : Fin 8) (i : Fin 784) (p : Fin 64) (j : Fin 256) :
    bL Q K (ix5 0 h i p j) = ∑ d : Fin 12, Q (ix5 0 h i p d) * bsc * K (ix5 0 h i j d) := by
  pointwise [bL, bsc]

/-- The reduced maxima, read. -/
theorem bR_at (L : FVec Ideal S1x8x784x64x256 .f32) (h : Fin 8) (i : Fin 784) (p : Fin 64) :
    bR L (ix4 0 h i p) = Finset.fold max (Ideal.ofBits .f32 0xFF800000#32) (fun j => L (ix5 0 h i p j)) Finset.univ := by
  pointwise [bR]

/-- The row maxima, read. -/
theorem bM_at (R : FVec Ideal S1x8x784x64 .f32) (h : Fin 8) (i : Fin 784) (p : Fin 64) :
    bM R (ix4 0 h i p) = max ⊥ (R (ix4 0 h i p)) := by
  pointwise [bM]
  rw [Cert.Consts.neg_inf]

/-- The exponentials, read. -/
theorem bE_at (L : FVec Ideal S1x8x784x64x256 .f32) (M : FVec Ideal S1x8x784x64 .f32) (h : Fin 8) (i : Fin 784) (p : Fin 64) (j : Fin 256) :
    bE L M (ix5 0 h i p j) = Ideal.exp (L (ix5 0 h i p j) - M (ix4 0 h i p)) := by
  pointwise [bE]

/-- The attention, read. -/
theorem bA_at (E : FVec Ideal S1x8x784x64x256 .f32) (h : Fin 8) (i : Fin 784) (p : Fin 64) (j : Fin 256) :
    bA E (ix5 0 h i p j) = Ideal.div (E (ix5 0 h i p j)) (0 + ∑ j : Fin 256, E (ix5 0 h i p j)) := by
  pointwise [bA]

/-- The attention applied to the values, read. -/
theorem bO_at (A : FVec Ideal S1x8x784x64x256 .f32) (V : FVec Ideal S1x8x784x256x12 .f32) (h : Fin 8) (i : Fin 784) (p : Fin 64) (d : Fin 12) :
    bO A V (ix5 0 h i p d) = ∑ j : Fin 256, A (ix5 0 h i p j) * V (ix5 0 h i j d) := by
  pointwise [bO]

end Cert.Reference2Ideal.Value
end
-- ==== Proof.BraVal.lean ====
module

public import proofs.«01_k».proof.Proof.BraRef
public import proofs.«01_k».proof.Proof.BraMath

@[expose] public section

set_option maxRecDepth 16384

noncomputable section

namespace Cert.Reference2Ideal.Value

open Idealize.ShloMosaic Idealize.ShloMosaic.TcCoe Idealize.SL.Sem
open Cert.Reference2Ideal Cert.Reference2Ideal.Gen

/-- A region of an image. -/
def reg (X : FVec Ideal S224x224x96 .f32) (n : Fin 784) (p : Fin 64) (a : Fin 96) : EReal := X (ix3 (pixY n p) (pixX n p) a)

/-- Four regions of an image one after another. -/
def reg4 (X : FVec Ideal S224x224x96 .f32) (n : Fin 4 → Fin 784) (j : Fin 256) (a : Fin 96) : EReal :=
  reg X (n ⟨j.val / 64, by omega⟩) ⟨j.val % 64, by omega⟩ a

/-- The scale of the queries is a real number. -/
theorem bsc_real : ∃ s : ℝ, bsc = (s : EReal) := by
  simp [bsc, Ideal.ofBits, Ideal.ieee, -EReal.coe_mul]

/-- The chosen regions of an image, read. -/
theorem sel_at (t : IVec S784x4 32) (N : Fin 784 → Fin 4 → Fin 784) (hN : ∀ i u, t (ix2 i u) = BitVec.ofNat 32 (N i u).val)
    (X : FVec Ideal S224x224x96 .f32) (h : Fin 8) (i : Fin 784) (j : Fin 256) (d : Fin 12) :
    bS (bB (bW (bJ t))) (bH (bG X) (bW (bJ t))) (ix5 0 h i j d) = reg4 X (N i) j (Cert.Bra.ch h d) := by
  have hw : ∀ u, bW (bJ t) (ix4 h i u 0) = BitVec.ofNat 32 (N i u).val := fun u => bW_at _ h i u _ ((bJ_at t h i u).trans (hN i u))
  rw [bS_at _ _ h i j d (bB_at _ h i _ _ (hw _)), bH_at _ _ h i _ _ d _ (hw _), bG_at]
  rfl

/-- The attention over queries, keys and values, read. -/
theorem bT_at (Q : FVec Ideal S1x8x784x64x12 .f32) (K V : FVec Ideal S1x8x784x256x12 .f32) (q : Fin 64 → Fin 96 → EReal) (k v : Fin 256 → Fin 96 → EReal) (i : Fin 784)
    (hq : ∀ h p d, Q (ix5 0 h i p d) = q p (Cert.Bra.ch h d)) (hk : ∀ h j d, K (ix5 0 h i j d) = k j (Cert.Bra.ch h d)) (hv : ∀ h j d, V (ix5 0 h i j d) = v j (Cert.Bra.ch h d))
    (h : Fin 8) (p : Fin 64) (d : Fin 12) :
    bT Q K V (ix3 (pixY i p) (pixX i p) (chn h d)) = Cert.Bra.rvl (Cert.Bra.rlg bsc q k) v h p d := by
  have hl : ∀ j, bL Q K (ix5 0 h i p j) = Cert.Bra.rlg bsc q k h p j := fun j => by
    rw [bL_at]
    simp only [hq, hk]
    rfl
  have hm : bM (bR (bL Q K)) (ix4 0 h i p) = max ⊥ (Finset.fold max ⊥ (Cert.Bra.rlg bsc q k h p) Finset.univ) := by
    rw [bM_at, bR_at, Cert.Consts.neg_inf]
    simp only [hl]
  have he : ∀ j, bE (bL Q K) (bM (bR (bL Q K))) (ix5 0 h i p j) = Cert.Bra.rex (Cert.Bra.rlg bsc q k h p) j := fun j => by
    rw [bE_at, hl, hm]
    rfl
  rw [bT, bF_at, bO_at]
  simp only [bA_at, he, hv]
  rfl

/-- The reference's result, read at a pixel and channel. -/
theorem res_at (m : (ℓ : Loc nD τ sig) → Buf (Elt Ideal) ℓ) (c : Dev nD) (N : Fin 784 → Fin 4 → Fin 784)
    (hN : ∀ i u, m ((c.tc : Thread nD τ).loc main_arg3) (ix2 i u) = BitVec.ofNat 32 (N i u).val) (h : Fin 8) (i : Fin 784) (p : Fin 64) (d : Fin 12) :
    res_main_v51 m c (ix3 (pixY i p) (pixX i p) (chn h d))
      = Cert.Bra.rvl (Cert.Bra.rlg bsc (reg (m ((c.tc : Thread nD τ).loc main_arg0)) i) (reg4 (m ((c.tc : Thread nD τ).loc main_arg1)) (N i))) (reg4 (m ((c.tc : Thread nD τ).loc main_arg2)) (N i)) h p d := by
  rw [res_eq]
  exact bT_at _ _ _ _ _ _ i (fun h p d => bG_at _ h i p d) (fun h j d => sel_at _ N hN _ h i j d) (fun h j d => sel_at _ N hN _ h i j d) h p d

end Cert.Reference2Ideal.Value
end
-- ==== Proof.BraSame.lean ====
module

public import proofs.«01_k».proof.Defs
public import proofs.«01_k».proof.Proof.Finite
public import proofs.«01_k».proof.Proof.BraRun
public import proofs.«01_k».proof.Proof.BraVal
public import proofs.«01_k».proof.Proof.Gen.Pre_finite_in_range

@[expose] public section

set_option maxRecDepth 16384

noncomputable section

namespace Cert.Bra

open Idealize.ShloMosaic Idealize.ShloMosaic.TcCoe Idealize.SL.Sem
open Cert.Pre_finite_in_range Cert.Pre_finite_in_range.Gen

/-- What the precondition says: every index is a region's number, every query and key is real. -/
theorem pre_split (a0 a1 a2 : FVec Ideal S224x224x96 .f32) (a3 : IVec S784x4 32)
    (h : Cert.Pre_finite_in_range.fn (F := Ideal) a0 a1 a2 a3 = fun _ => 1#1) :
    (∀ i, ∃ n : Fin 784, a3 i = BitVec.ofNat 32 n.val) ∧ (∀ i, ∃ r : ℝ, a0 i = (r : EReal)) ∧ (∀ i, ∃ r : ℝ, a1 i = (r : EReal)) := by
  have e := congrFun h (Shape.Idx.first h_S_)
  dsimp only [Cert.Pre_finite_in_range.fn, andi] at e
  simp only [IntOp.andi_eq_one] at e
  obtain ⟨⟨e3, e0⟩, e1⟩ := e
  refine ⟨fun i => ?_, fun i => Cert.Finite.real_of_abs _ (Host.reduce_andi_all _ _ _ _ _ e0 i), fun i => Cert.Finite.real_of_abs _ (Host.reduce_andi_all _ _ _ _ _ e1 i)⟩
  have e' : IntOp.andi (IntOp.cmpi .sge (a3 i) 0#32) (IntOp.cmpi .sle (a3 i) 783#32) = 1#1 := Host.reduce_andi_all _ _ _ _ _ e3 i
  rw [IntOp.andi_eq_one] at e'
  exact Cert.Kernel2Ideal.Value.word_of _ e'.1 e'.2

/-- The precondition makes the kernel's table admissible. -/
theorem ok_of_finite (m : (ℓ : Loc Cert.Kernel2Ideal.nD Cert.Kernel2Ideal.τ Cert.Kernel2Ideal.sig) → Buf (Elt Ideal) ℓ) (h : Cert.Pre_Kernel2Ideal_finite_in_range m) : Cert.Kernel2Ideal.Gen.Ok m :=
  Cert.Kernel2Ideal.Value.ok_of_range m (pre_split _ _ _ _ (h 0)).1

/-- The region numbers an index array in range holds. -/
theorem numbers (t : IVec S784x4 32) (h : ∀ i, ∃ n : Fin 784, t i = BitVec.ofNat 32 n.val) :
    ∃ N : Fin 784 → Fin 4 → Fin 784, ∀ i u, t (ix2 i u) = BitVec.ofNat 32 (N i u).val := by
  choose f hf using h
  exact ⟨fun i u => f (ix2 i u), fun i u => hf (ix2 i u)⟩

/-- The kernel's image and the reference's value at every pixel and channel are one. -/
theorem image_eq (Q K V : FVec Ideal S224x224x96 .f32) (N : Fin 784 → Fin 4 → Fin 784) (hQ : ∀ i, ∃ r : ℝ, Q i = (r : EReal)) (hK : ∀ i, ∃ r : ℝ, K i = (r : EReal))
    (W : FVec Ideal S224x224x96 .f32)
    (hW : ∀ h i p d, W (ix3 (Cert.Reference2Ideal.Value.pixY i p) (Cert.Reference2Ideal.Value.pixX i p) (Cert.Reference2Ideal.Value.chn h d))
      = rvl (rlg Cert.Reference2Ideal.Value.bsc (Cert.Reference2Ideal.Value.reg Q i) (Cert.Reference2Ideal.Value.reg4 K (N i))) (Cert.Reference2Ideal.Value.reg4 V (N i)) h p d) :
    W = Cert.Kernel2Ideal.Value.ATT Q K V N := by
  funext y
  idx_vars y
  have e0 : y0 = Cert.Reference2Ideal.Value.pixY (Cert.Kernel2Ideal.Value.pr y0 y1) (Cert.Kernel2Ideal.Value.pp y0 y1) := Fin.ext (by
    show y0.val = (y0.val / 8 * 28 + y1.val / 8) / 28 * 8 + (y0.val % 8 * 8 + y1.val % 8) / 8
    omega)
  have e1 : y1 = Cert.Reference2Ideal.Value.pixX (Cert.Kernel2Ideal.Value.pr y0 y1) (Cert.Kernel2Ideal.Value.pp y0 y1) := Fin.ext (by
    show y1.val = (y0.val / 8 * 28 + y1.val / 8) % 28 * 8 + (y0.val % 8 * 8 + y1.val % 8) % 8
    omega)
  have e2 : y2 = Cert.Reference2Ideal.Value.chn ⟨y2.val / 12, by omega⟩ ⟨y2.val % 12, by omega⟩ := Fin.ext (by
    show y2.val = y2.val / 12 * 12 + y2.val % 12
    omega)
  have hl := hW ⟨y2.val / 12, by omega⟩ (Cert.Kernel2Ideal.Value.pr y0 y1) (Cert.Kernel2Ideal.Value.pp y0 y1) ⟨y2.val % 12, by omega⟩
  rw [← e0, ← e1, ← e2] at hl
  refine hl.trans (Eq.symm ?_)
  have ho := out_eq Cert.Reference2Ideal.Value.bsc (Cert.Reference2Ideal.Value.reg Q (Cert.Kernel2Ideal.Value.pr y0 y1)) (Cert.Reference2Ideal.Value.reg4 K (N (Cert.Kernel2Ideal.Value.pr y0 y1))) (Cert.Reference2Ideal.Value.reg4 V (N (Cert.Kernel2Ideal.Value.pr y0 y1)))
    Cert.Reference2Ideal.Value.bsc_real (fun p a => hQ _) (fun j a => hK _) ⟨y2.val / 12, by omega⟩ (Cert.Kernel2Ideal.Value.pp y0 y1) ⟨y2.val % 12, by omega⟩
  have e3 : ch ⟨y2.val / 12, by omega⟩ ⟨y2.val % 12, by omega⟩ = y2 := e2.symm
  rw [e3] at ho
  exact ho

end Cert.Bra
end
-- ==== Proof.WinMath.lean ====
module

public import proofs.«01_k».proof.Proof.BraMath

@[expose] public section

noncomputable section

namespace Cert.Win

open Idealize.ShloMosaic
open Cert.Fold (coe_sum)
open Cert.Bra (ch sum_head kout kout_eq)

/-! ## The kernel's arithmetic: two windows at once -/

/-- Two windows one after another. -/
def lay (V : Fin 2 → Fin 64 → Fin 96 → EReal) (j : Fin 128) (a : Fin 96) : EReal := V ⟨j.val / 64, by omega⟩ ⟨j.val % 64, by omega⟩ a

/-- The query mask: the scale on the row's head, zero elsewhere. -/
def wmq (sc : EReal) (r : Fin 1024) (a : Fin 96) : EReal := if a.val / 12 = r.val % 512 / 64 then sc else 0

/-- The window mask: zero within a window, `⊥` between two. -/
def wam (r : Fin 1024) (j : Fin 128) : EReal := if j.val / 64 = r.val / 512 then 0 else ⊥

/-- The logits of both windows' heads' rows. -/
def wlg (sc : EReal) (Q K : Fin 2 → Fin 64 → Fin 96 → EReal) (r : Fin 1024) (j : Fin 128) : EReal :=
  (∑ a, (Q ⟨r.val / 512, by omega⟩ ⟨r.val % 64, by omega⟩ a * wmq sc r a) * lay K j a) + wam r j

/-- The exponentials of a row's logits less their maximum. -/
def wex (l : Fin 128 → EReal) (j : Fin 128) : EReal := Ideal.exp (l j - Finset.fold max ⊥ l Finset.univ)

/-- A row of the attention, by multiplication with the reciprocal. -/
def wat (l : Fin 128 → EReal) (j : Fin 128) : EReal := wex l j * Ideal.div 1 (0 + ∑ j, wex l j)

/-- The attended values of both windows' heads' rows. -/
def wvl (L : Fin 1024 → Fin 128 → EReal) (V : Fin 128 → Fin 96 → EReal) (r : Fin 1024) (a : Fin 96) : EReal := ∑ j, wat (L r) j * V j a

/-- The rows of one window. -/
def half (w : Fin 2) (O : Fin 1024 → Fin 96 → EReal) (r : Fin 512) (a : Fin 96) : EReal := O ⟨w.val * 512 + r.val, by omega⟩ a

/-! ## The reference's arithmetic: one window -/

/-- The logits of one head. -/
def rlg (sc : EReal) (Q K : Fin 64 → Fin 96 → EReal) (h : Fin 8) (p j : Fin 64) : EReal := ∑ d, Q p (ch h d) * sc * K j (ch h d)

/-- The exponentials of a row's logits less their maximum. -/
def rex (l : Fin 64 → EReal) (j : Fin 64) : EReal := Ideal.exp (l j - max ⊥ (Finset.fold max ⊥ l Finset.univ))

/-- A row of the attention, by division. -/
def rat (l : Fin 64 → EReal) (j : Fin 64) : EReal := Ideal.div (rex l j) (0 + ∑ j, rex l j)

/-- The attended values of one head. -/
def rvl (L : Fin 8 → Fin 64 → Fin 64 → EReal) (V : Fin 64 → Fin 96 → EReal) (h : Fin 8) (p : Fin 64) (d : Fin 12) : EReal := ∑ j, rat (L h p) j * V j (ch h d)

/-! ## The two agree -/

/-- A window's logits among those of two: `⊥` off the window. -/
def spread (w : Fin 2) (l : Fin 64 → ℝ) (j : Fin 128) : EReal := if j.val / 64 = w.val then (l ⟨j.val % 64, by omega⟩ : EReal) else ⊥

/-- Column `64 w + p`. -/
def col (w : Fin 2) (p : Fin 64) : Fin 128 := ⟨w.val * 64 + p.val, by omega⟩

/-- A sum over two windows that vanishes off one is the sum over that one. -/
theorem sum_window {M : Type*} [AddCommMonoid M] (w : Fin 2) (g : Fin 128 → M) :
    ∑ j : Fin 128, (if j.val / 64 = w.val then g j else 0) = ∑ p, g (col w p) := by
  rw [← Finset.sum_filter]
  refine Finset.sum_nbij' (fun j => (⟨j.val % 64, by omega⟩ : Fin 64)) (col w) ?_ ?_ ?_ ?_ ?_
  · intro a _; exact Finset.mem_univ _
  · intro d _
    refine Finset.mem_filter.mpr ⟨Finset.mem_univ _, ?_⟩
    show (w.val * 64 + d.val) / 64 = w.val
    omega
  · intro a ha
    have := (Finset.mem_filter.mp ha).2
    refine Fin.ext ?_
    show w.val * 64 + a.val % 64 = a.val
    omega
  · intro d _
    refine Fin.ext ?_
    show (w.val * 64 + d.val) % 64 = d.val
    omega
  · intro a ha
    have := (Finset.mem_filter.mp ha).2
    refine congrArg g (Fin.ext ?_)
    show a.val = w.val * 64 + a.val % 64
    omega

/-- A window's own column holds its logit. -/
theorem spread_col (w : Fin 2) (l : Fin 64 → ℝ) (p : Fin 64) : spread w l (col w p) = (l p : EReal) := by
  unfold spread
  rw [if_pos (by show (w.val * 64 + p.val) / 64 = w.val; omega)]
  exact congrArg (fun q => (l q : EReal)) (Fin.ext (by show (w.val * 64 + p.val) % 64 = p.val; omega))

/-- The maximum over two windows is the one window's. -/
theorem spread_max (w : Fin 2) (l : Fin 64 → ℝ) :
    Finset.fold max ⊥ (spread w l) Finset.univ = Finset.fold max ⊥ (fun p => (l p : EReal)) Finset.univ := by
  show Finset.sup Finset.univ (spread w l) = Finset.sup Finset.univ (fun p => (l p : EReal))
  refine le_antisymm (Finset.sup_le fun j _ => ?_) (Finset.sup_le fun p _ => ?_)
  · unfold spread
    split_ifs
    · exact Finset.le_sup (f := fun p => (l p : EReal)) (Finset.mem_univ _)
    · exact bot_le
  · rw [← spread_col w l p]
    exact Finset.le_sup (f := spread w l) (Finset.mem_univ _)

/-- On a row of real logits the attention over two windows is that of the one. -/
theorem row_eq (w : Fin 2) (l : Fin 64 → ℝ) (V : Fin 128 → EReal) :
    ∑ j, wat (spread w l) j * V j = ∑ p, rat (fun p => (l p : EReal)) p * V (col w p) := by
  obtain ⟨i, -, hi⟩ := Finset.exists_mem_eq_sup (Finset.univ : Finset (Fin 64)) Finset.univ_nonempty (fun p => (l p : EReal))
  have hm : Finset.fold max ⊥ (fun p => (l p : EReal)) Finset.univ = (l i : EReal) := hi
  have hr : ∀ p, rex (fun p => (l p : EReal)) p = (Real.exp (l p - l i) : EReal) := by
    intro p
    unfold rex
    rw [hm, max_eq_right bot_le, ← EReal.coe_sub, Ideal.exp_coe]
  have hk : ∀ j : Fin 128, wex (spread w l) j = if j.val / 64 = w.val then (Real.exp (l ⟨j.val % 64, by omega⟩ - l i) : EReal) else 0 := by
    intro j
    unfold wex
    rw [spread_max, hm]
    unfold spread
    split_ifs
    · rw [← EReal.coe_sub, Ideal.exp_coe]
    · rw [EReal.bot_sub]
      rfl
  have hc : ∀ p, wex (spread w l) (col w p) = (Real.exp (l p - l i) : EReal) := by
    intro p
    unfold wex
    rw [spread_max, hm, spread_col, ← EReal.coe_sub, Ideal.exp_coe]
  have ht : ∑ j, wex (spread w l) j = ((∑ p, Real.exp (l p - l i) : ℝ) : EReal) := by
    rw [coe_sum]
    simp only [← hc]
    rw [← sum_window w (wex (spread w l))]
    refine Finset.sum_congr rfl fun j _ => ?_
    split_ifs with h
    · rfl
    · rw [hk, if_neg h]
  have hs : 0 < ∑ p, Real.exp (l p - l i) := Finset.sum_pos (fun c _ => Real.exp_pos _) Finset.univ_nonempty
  have e : ∀ j : Fin 128, wat (spread w l) j * V j = if j.val / 64 = w.val then wat (spread w l) j * V j else 0 := by
    intro j
    split_ifs with h
    · rfl
    · unfold wat
      rw [hk, if_neg h, zero_mul, zero_mul]
  rw [Finset.sum_congr rfl fun j _ => e j, sum_window w (fun j => wat (spread w l) j * V j)]
  refine Finset.sum_congr rfl fun p _ => congrArg (· * V (col w p)) ?_
  unfold wat rat
  rw [ht, hc]
  simp only [hr]
  rw [← coe_sum, zero_add, Ideal.div_coe hs.ne', Ideal.div_coe hs.ne', one_mul]

/-- The masked logits of real queries and keys are the head's within the window and `⊥` off it. -/
theorem wlg_eq (s : ℝ) (q k : Fin 2 → Fin 64 → Fin 96 → ℝ) (w : Fin 2) (h : Fin 8) (p : Fin 64) (r : Fin 1024) (hr : r.val = w.val * 512 + (h.val * 64 + p.val)) :
    wlg (s : EReal) (fun w p a => (q w p a : EReal)) (fun w p a => (k w p a : EReal)) r = spread w (fun j => ∑ d, q w p (ch h d) * s * k w j (ch h d)) := by
  funext j
  unfold wlg wam spread
  have ew : (⟨r.val / 512, by omega⟩ : Fin 2) = w := Fin.ext (by show r.val / 512 = w.val; omega)
  have ep : (⟨r.val % 64, by omega⟩ : Fin 64) = p := Fin.ext (by show r.val % 64 = p.val; omega)
  have eh : r.val % 512 / 64 = h.val := by omega
  have ev : r.val / 512 = w.val := by omega
  rw [ew, ep, ev]
  split_ifs with hj
  · have ej : (⟨j.val / 64, by omega⟩ : Fin 2) = w := Fin.ext hj
    rw [add_zero, coe_sum]
    simp only [EReal.coe_mul]
    rw [← sum_head h (fun a => (q w p a : EReal) * (s : EReal) * (k w ⟨j.val % 64, by omega⟩ a : EReal))]
    refine Finset.sum_congr rfl fun a _ => ?_
    unfold wmq lay
    rw [eh, ej]
    split_ifs
    · rfl
    · rw [mul_zero, zero_mul]
  · exact EReal.add_bot _

/-- A window's own column holds its entry. -/
theorem lay_col (V : Fin 2 → Fin 64 → Fin 96 → EReal) (w : Fin 2) (j : Fin 64) (a : Fin 96) : lay V (col w j) a = V w j a := by
  have e1 : (⟨(col w j).val / 64, by omega⟩ : Fin 2) = w := Fin.ext (by show (w.val * 64 + j.val) / 64 = w.val; omega)
  have e2 : (⟨(col w j).val % 64, by omega⟩ : Fin 64) = j := Fin.ext (by show (w.val * 64 + j.val) % 64 = j.val; omega)
  rw [lay, e1, e2]

/-- The kernel's result on a window and the reference's are one, on real queries and keys. -/
theorem out_eq (sc : EReal) (Q K V : Fin 2 → Fin 64 → Fin 96 → EReal) (hs : ∃ s : ℝ, sc = (s : EReal))
    (hQ : ∀ w p a, ∃ x : ℝ, Q w p a = (x : EReal)) (hK : ∀ w j a, ∃ x : ℝ, K w j a = (x : EReal)) (w : Fin 2) (h : Fin 8) (p : Fin 64) (d : Fin 12) :
    kout (half w (wvl (wlg sc Q K) (lay V))) p (ch h d) = rvl (rlg sc (Q w) (K w)) (V w) h p d := by
  obtain ⟨s, rfl⟩ := hs
  choose q hq using hQ
  choose k hk using hK
  obtain rfl : Q = fun w p a => (q w p a : EReal) := funext fun w => funext fun p => funext fun a => hq w p a
  obtain rfl : K = fun w p a => (k w p a : EReal) := funext fun w => funext fun p => funext fun a => hk w p a
  rw [kout_eq]
  unfold half wvl
  show ∑ j, wat (wlg (s : EReal) (fun w p a => (q w p a : EReal)) (fun w p a => (k w p a : EReal)) (⟨w.val * 512 + (h.val * 64 + p.val), by omega⟩ : Fin 1024)) j * lay V j (ch h d) = _
  rw [wlg_eq s q k w h p (⟨w.val * 512 + (h.val * 64 + p.val), by omega⟩ : Fin 1024) rfl, row_eq w _ (fun j => lay V j (ch h d))]
  have el : rlg (s : EReal) (fun p a => (q w p a : EReal)) (fun p a => (k w p a : EReal)) h p = fun j => ((∑ d, q w p (ch h d) * s * k w j (ch h d) : ℝ) : EReal) := by
    funext j
    rw [rlg, coe_sum]
    simp only [EReal.coe_mul]
  unfold rvl
  rw [el]
  refine Finset.sum_congr rfl fun j _ => ?_
  rw [lay_col]

end Cert.Win

end
-- ==== Proof.WinPre.lean ====
module

public import proofs.«01_k».proof.Defs
public import proofs.«01_k».proof.Proof.Finite
public import proofs.«01_k».proof.Proof.WinMath
public import proofs.«01_k».proof.Proof.Gen.Pre_finite_masked
public import Idealize.ShloMosaic.Lib.Pipeline.ValueKit

@[expose] public section

set_option maxRecDepth 16384

noncomputable section

namespace Cert.Win

open Idealize.ShloMosaic Idealize.ShloMosaic.TcCoe Idealize.SL.Sem
open Cert.Pre_finite_masked Cert.Pre_finite_masked.Gen

/-- The word of zero denotes zero. -/
theorem zero_word : Ideal.ofBits .f32 0x00000000#32 = 0 := by
  simp [Ideal.ofBits, Ideal.ieee]

/-- Values the comparison calls equal are equal. -/
theorem eq_of_cmp (x y : EReal) (h : Ideal.cmp .oeq x y = 1#1) : x = y := by
  by_contra hn
  simp [Ideal.cmp, hn] at h

/-- An entry of a quarter of the mask, read. -/
theorem part_at (A : FVec Ideal S1024x128 .f32) (r0 c0 : ℕ) (hs : S1024x128.Slices ![r0, c0] S512x64) (v : EReal) (hr : r0 + 512 ≤ 1024) (hc : c0 + 64 ≤ 128)
    (h : ∀ i : S512x64.Idx, extractStridedSlice S512x64 ![r0, c0] A hs i = v) (r : Fin 1024) (j : Fin 128) (h1 : r0 ≤ r.val) (h2 : r.val < r0 + 512) (h3 : c0 ≤ j.val) (h4 : j.val < c0 + 64) :
    A (ix2 r j) = v := by
  refine Eq.trans (congrArg A ?_) (h (ix2 (⟨r.val - r0, by omega⟩ : Fin 512) (⟨j.val - c0, by omega⟩ : Fin 64)))
  refine Eq.symm ((eq_ix2 _).trans (congrArg₂ ix2 (Fin.ext ?_) (Fin.ext ?_)))
  · show r0 + (r.val - r0) = r.val
    omega
  · show c0 + (j.val - c0) = j.val
    omega

/-- What the precondition says: the mask is zero within a window and `⊥` between two, every query and key is real. -/
theorem pre_split (a0 a1 a2 : FVec Ideal S224x224x96 .f32) (a3 : FVec Ideal S1024x128 .f32)
    (h : Cert.Pre_finite_masked.fn (F := Ideal) a0 a1 a2 a3 = fun _ => 1#1) :
    (∀ r j, a3 (ix2 r j) = wam r j) ∧ (∀ i, ∃ r : ℝ, a0 i = (r : EReal)) ∧ (∀ i, ∃ r : ℝ, a1 i = (r : EReal)) := by
  have e := congrFun h (Shape.Idx.first h_S_)
  dsimp only [Cert.Pre_finite_masked.fn, Cert.Pre_finite_masked.fn_part1, andi] at e
  simp only [IntOp.andi_eq_one] at e
  obtain ⟨⟨⟨⟨⟨z0, z1⟩, n0⟩, n1⟩, e0⟩, e1⟩ := e
  refine ⟨fun r j => ?_, fun i => Cert.Finite.real_of_abs _ (Host.reduce_andi_all _ _ _ _ _ e0 i), fun i => Cert.Finite.real_of_abs _ (Host.reduce_andi_all _ _ _ _ _ e1 i)⟩
  have q0 : ∀ i : S512x64.Idx, extractStridedSlice S512x64 ![0, 0] a3 slices_S1024x128_S512x64_0_0 i = (0 : EReal) := fun i =>
    (eq_of_cmp _ _ (Host.reduce_andi_all _ _ _ _ _ z0 i)).trans zero_word
  have q1 : ∀ i : S512x64.Idx, extractStridedSlice S512x64 ![512, 64] a3 slices_S1024x128_S512x64_512_64 i = (0 : EReal) := fun i =>
    (eq_of_cmp _ _ (Host.reduce_andi_all _ _ _ _ _ z1 i)).trans zero_word
  have q2 : ∀ i : S512x64.Idx, extractStridedSlice S512x64 ![0, 64] a3 slices_S1024x128_S512x64_0_64 i = (⊥ : EReal) := fun i =>
    (eq_of_cmp _ _ (Host.reduce_andi_all _ _ _ _ _ n0 i)).trans Cert.Consts.neg_inf
  have q3 : ∀ i : S512x64.Idx, extractStridedSlice S512x64 ![512, 0] a3 slices_S1024x128_S512x64_512_0 i = (⊥ : EReal) := fun i =>
    (eq_of_cmp _ _ (Host.reduce_andi_all _ _ _ _ _ n1 i)).trans Cert.Consts.neg_inf
  unfold wam
  by_cases hr : r.val < 512 <;> by_cases hj : j.val < 64
  · rw [if_pos (by omega)]
    exact part_at a3 0 0 _ _ (by omega) (by omega) q0 r j (by omega) (by omega) (by omega) (by omega)
  · rw [if_neg (by omega)]
    exact part_at a3 0 64 _ _ (by omega) (by omega) q2 r j (by omega) (by omega) (by omega) (by omega)
  · rw [if_neg (by omega)]
    exact part_at a3 512 0 _ _ (by omega) (by omega) q3 r j (by omega) (by omega) (by omega) (by omega)
  · rw [if_pos (by omega)]
    exact part_at a3 512 64 _ _ (by omega) (by omega) q1 r j (by omega) (by omega) (by omega) (by omega)

end Cert.Win
end
-- ==== Proof.WinPay.lean ====
module

public import proofs.«01_k».proof.Proof.Gen.Kernel3Ideal.Frame
public import Idealize.ShloMosaic.Lib.Pipeline.ValueKit
public import proofs.«01_k».proof.Proof.WinMath
public import proofs.«01_k».proof.Proof.Consts

@[expose] public section

set_option maxRecDepth 16384

noncomputable section

namespace Cert.Kernel3Ideal.Value

open Idealize.ShloMosaic Idealize.ShloMosaic.TcCoe Idealize.SL.Sem
open Cert.Kernel3Ideal Cert.Kernel3Ideal.Gen

/-- A window's block as 64 positions. -/
def cells (x : Vec Ideal S8x8x96 .f32) (p : Fin 64) (a : Fin 96) : EReal := x (ix3 (⟨p.val / 8, by omega⟩ : Fin 8) (⟨p.val % 8, by omega⟩ : Fin 8) a)

/-- The two windows of a grid point as positions. -/
def both (x y : Vec Ideal S8x8x96 .f32) (w : Fin 2) : Fin 64 → Fin 96 → EReal := cells ((![x, y] : Fin 2 → Vec Ideal S8x8x96 .f32) w)

/-- Equal positions read equal entries. -/
theorem same_cell (x : Vec Ideal S8x8x96 .f32) (a : Fin 96) (p q : ℕ) (e : p = q) (h : q < 64) : x (ix3 (⟨p / 8, by omega⟩ : Fin 8) (⟨p % 8, by omega⟩ : Fin 8) a) = x (ix3 (⟨q / 8, by omega⟩ : Fin 8) (⟨q % 8, by omega⟩ : Fin 8) a) := by
  subst e; rfl

/-- An entry of the first window, by its position. -/
theorem both_fst (x y : Vec Ideal S8x8x96 .f32) (u : Fin 2) (v : Fin 64) (a : Fin 96) (p : ℕ) (hu : u.val = 0) (hp : p = v.val) (h : p < 64) :
    x (ix3 (⟨p / 8, by omega⟩ : Fin 8) (⟨p % 8, by omega⟩ : Fin 8) a) = both x y u v a := by
  obtain rfl : u = 0 := Fin.ext hu
  exact same_cell x a p v.val hp v.isLt

/-- An entry of the second window, by its position. -/
theorem both_snd (x y : Vec Ideal S8x8x96 .f32) (u : Fin 2) (v : Fin 64) (a : Fin 96) (p : ℕ) (hu : u.val = 1) (hp : p = v.val) (h : p < 64) :
    y (ix3 (⟨p / 8, by omega⟩ : Fin 8) (⟨p % 8, by omega⟩ : Fin 8) a) = both x y u v a := by
  obtain rfl : u = 1 := Fin.ext hu
  exact same_cell y a p v.val hp v.isLt

/-- The two value windows one after another, read. -/
theorem pay2_at (x y : Vec Ideal S8x8x96 .f32) (j : Fin 128) (a : Fin 96) : k0_pay2 (F := Ideal) x y (ix2 j a) = Cert.Win.lay (both x y) j a := by
  pointwise [k0_pay2]
  unfold Cert.Win.lay
  split_ifs with h
  · exact both_fst x y _ _ a j.val (by show j.val / 64 = 0; omega) (by show j.val = j.val % 64; omega) h
  all_goals first
    | exact both_snd x y _ _ a (j.val - 64) (by show j.val / 64 = 1; omega) (by show j.val - 64 = j.val % 64; omega) (by omega)
    | exact absurd rfl (by assumption)

/-- Each of two blocks of rows eight times. -/
def reps (x y : FVec Ideal S64x96 .f32) : FVec Ideal S1024x96 .f32 :=
  concatenate S1024x96 0 [⟨S64x96, x⟩, ⟨S64x96, x⟩, ⟨S64x96, x⟩, ⟨S64x96, x⟩, ⟨S64x96, x⟩, ⟨S64x96, x⟩, ⟨S64x96, x⟩, ⟨S64x96, x⟩,
    ⟨S64x96, y⟩, ⟨S64x96, y⟩, ⟨S64x96, y⟩, ⟨S64x96, y⟩, ⟨S64x96, y⟩, ⟨S64x96, y⟩, ⟨S64x96, y⟩, ⟨S64x96, y⟩] concatenates_S64x96_S64x96_S64x96_S64x96_S64x96_S64x96_S64x96_S64x96_S64x96_S64x96_S64x96_S64x96_S64x96_S64x96_S64x96_S64x96_S1024x96_d0

/-- A window's block laid as rows. -/
def flat (x : Vec Ideal S8x8x96 .f32) : FVec Ideal S64x96 .f32 := shapeCast S64x96 x shapeCasts_S8x8x96_S64x96

/-- The logits with the window mask added. -/
def logits (q : FVec Ideal S1024x96 .f32) (w : Vec Ideal S1024x96 .f32) (k : FVec Ideal S128x96 .f32) (am : Vec Ideal S1024x128 .f32) : FVec Ideal S1024x128 .f32 :=
  addf (matmul (φ₁ := .f32) (φ₂ := .f32) dot_S1024x96_S128x96_S1024x128_1_1_0_0_n_n none (mulf q (shapeCast S1024x96 w shapeCasts_S1024x96_S1024x96)) k (constant S1024x128 .f32 0x00000000#32)) am

/-- The rows' exponentials of the logits less their maximum. -/
def expo (l : FVec Ideal S1024x128 .f32) : FVec Ideal S1024x128 .f32 :=
  exp (subf l (broadcastTo S1024x128 (shapeCast S1024x1 (multiReduction .maximumf [1] S1024 l 0xFF800000#32 reduces_S1024x128_S1024 (.inl rfl) rfl) shapeCasts_S1024_S1024x1) broadcasts_S1024x1_S1024x128))

/-- The exponentials times the reciprocal of their row's sum. -/
def norm (e : FVec Ideal S1024x128 .f32) : FVec Ideal S1024x128 .f32 :=
  mulf e (broadcastTo S1024x128 (divf (broadcast S1024x1 (Scalar.ofBits (F := Ideal) .f32 0x3F800000#32)) (shapeCast S1024x1 (multiReduction .add [1] S1024 e 0x00000000#32 reduces_S1024x128_S1024 (.inl rfl) rfl) shapeCasts_S1024_S1024x1)) broadcasts_S1024x1_S1024x128)

/-- The body's attention in its steps. -/
theorem pay3_eq (q0 q1 : Vec Ideal S8x8x96 .f32) (w : Vec Ideal S1024x96 .f32) (k0 k1 : Vec Ideal S8x8x96 .f32) (am : Vec Ideal S1024x128 .f32) :
    k0_pay3 (F := Ideal) q0 q1 w k0 k1 am = norm (expo (logits (reps (flat q0) (flat q1)) w (k0_pay2 k0 k1) am)) := rfl

/-- A block laid as rows, read. -/
theorem flat_at (x : Vec Ideal S8x8x96 .f32) (p : Fin 64) (a : Fin 96) : flat x (ix2 p a) = cells x p a := by
  pointwise [flat, cells]

/-- Blocks of 64 rows one after another, read: the row's block by its position. -/
theorem slab (x : FVec Ideal S64x96 .f32) (q : (s : Shape) × (s.Idx → EReal)) (xs : List ((s : Shape) × (s.Idx → EReal)))
    (hs : ∀ s' ∈ (⟨S64x96, x⟩ :: q :: xs : List ((s : Shape) × (s.Idx → EReal))).map (·.1), s'.FitsOff S1024x96 0) (r : Fin 1024) (a : Fin 96) (c : ℕ)
    (hc : c < (axisSizes S1024x96 0 (⟨S64x96, x⟩ :: q :: xs : List ((s : Shape) × (s.Idx → EReal)))).sum) (v : EReal)
    (h0 : ∀ h : c < 64, x (ix2 (⟨c, h⟩ : Fin 64) a) = v)
    (h1 : 64 ≤ c → ∀ hs' hc', concatenateAt S1024x96 0 (ix2 r a) (q :: xs) hs' (c - 64) hc' = v) :
    concatenateAt S1024x96 0 (ix2 r a) (⟨S64x96, x⟩ :: q :: xs) hs c hc = v := by
  rw [concatenateAt_cons]
  split_ifs with h
  · refine Eq.trans (congrArg x ?_) (h0 h)
    refine (eq_ix2 _).trans (congrArg₂ ix2 (Fin.ext ?_) (Fin.ext ?_))
    · rfl
    · rfl
  · exact h1 (Nat.le_of_not_lt h) _ _

/-- The last block of 64 rows, read. -/
theorem slab_last (x : FVec Ideal S64x96 .f32)
    (hs : ∀ s' ∈ ([⟨S64x96, x⟩] : List ((s : Shape) × (s.Idx → EReal))).map (·.1), s'.FitsOff S1024x96 0) (r : Fin 1024) (a : Fin 96) (c : ℕ)
    (hc : c < (axisSizes S1024x96 0 ([⟨S64x96, x⟩] : List ((s : Shape) × (s.Idx → EReal)))).sum) (v : EReal) (h : c < 64)
    (h0 : x (ix2 (⟨c, h⟩ : Fin 64) a) = v) :
    concatenateAt S1024x96 0 (ix2 r a) [⟨S64x96, x⟩] hs c hc = v := by
  rw [concatenateAt_singleton]
  refine Eq.trans (congrArg x ?_) h0
  refine (eq_ix2 _).trans (congrArg₂ ix2 (Fin.ext ?_) (Fin.ext ?_))
  · rfl
  · rfl

/-- The repeated rows, read. -/
theorem reps_at (x y : FVec Ideal S64x96 .f32) (r : Fin 1024) (a : Fin 96) :
    reps x y (ix2 r a) = if r.val / 512 = 0 then x (ix2 ⟨r.val % 64, by omega⟩ a) else y (ix2 ⟨r.val % 64, by omega⟩ a) := by
  unfold reps
  rw [concatenate_apply]
  show concatenateAt S1024x96 0 (ix2 r a) _ _ r.val _ = _
  have hx : ∀ (c : ℕ) (h : c < 64), r.val / 512 = 0 → c = r.val % 64 →
      x (ix2 (⟨c, h⟩ : Fin 64) a) = if r.val / 512 = 0 then x (ix2 ⟨r.val % 64, by omega⟩ a) else y (ix2 ⟨r.val % 64, by omega⟩ a) := by
    intro c h e1 e2
    rw [if_pos e1]
    exact congrArg (fun p => x (ix2 p a)) (Fin.ext e2)
  have hy : ∀ (c : ℕ) (h : c < 64), r.val / 512 = 1 → c = r.val % 64 →
      y (ix2 (⟨c, h⟩ : Fin 64) a) = if r.val / 512 = 0 then x (ix2 ⟨r.val % 64, by omega⟩ a) else y (ix2 ⟨r.val % 64, by omega⟩ a) := by
    intro c h e1 e2
    rw [if_neg (by omega)]
    exact congrArg (fun p => y (ix2 p a)) (Fin.ext e2)
  refine slab _ _ _ _ r a _ _ _ (fun h => hx _ h (by omega) (by omega)) fun g0 _ _ => ?_
  refine slab _ _ _ _ r a _ _ _ (fun h => hx _ h (by omega) (by omega)) fun g1 _ _ => ?_
  refine slab _ _ _ _ r a _ _ _ (fun h => hx _ h (by omega) (by omega)) fun g2 _ _ => ?_
  refine slab _ _ _ _ r a _ _ _ (fun h => hx _ h (by omega) (by omega)) fun g3 _ _ => ?_
  refine slab _ _ _ _ r a _ _ _ (fun h => hx _ h (by omega) (by omega)) fun g4 _ _ => ?_
  refine slab _ _ _ _ r a _ _ _ (fun h => hx _ h (by omega) (by omega)) fun g5 _ _ => ?_
  refine slab _ _ _ _ r a _ _ _ (fun h => hx _ h (by omega) (by omega)) fun g6 _ _ => ?_
  refine slab _ _ _ _ r a _ _ _ (fun h => hx _ h (by omega) (by omega)) fun g7 _ _ => ?_
  refine slab _ _ _ _ r a _ _ _ (fun h => hy _ h (by omega) (by omega)) fun g8 _ _ => ?_
  refine slab _ _ _ _ r a _ _ _ (fun h => hy _ h (by omega) (by omega)) fun g9 _ _ => ?_
  refine slab _ _ _ _ r a _ _ _ (fun h => hy _ h (by omega) (by omega)) fun g10 _ _ => ?_
  refine slab _ _ _ _ r a _ _ _ (fun h => hy _ h (by omega) (by omega)) fun g11 _ _ => ?_
  refine slab _ _ _ _ r a _ _ _ (fun h => hy _ h (by omega) (by omega)) fun g12 _ _ => ?_
  refine slab _ _ _ _ r a _ _ _ (fun h => hy _ h (by omega) (by omega)) fun g13 _ _ => ?_
  refine slab _ _ _ _ r a _ _ _ (fun h => hy _ h (by omega) (by omega)) fun g14 _ _ => ?_
  exact slab_last _ _ r a _ _ _ (by omega) (hy _ _ (by omega) (by omega))

/-- The repeated windows, read. -/
theorem reps_flat_at (x y : Vec Ideal S8x8x96 .f32) (r : Fin 1024) (a : Fin 96) :
    reps (flat x) (flat y) (ix2 r a) = both x y ⟨r.val / 512, by omega⟩ ⟨r.val % 64, by omega⟩ a := by
  rw [reps_at, flat_at, flat_at]
  split_ifs with h
  · rw [show (⟨r.val / 512, by omega⟩ : Fin 2) = 0 from Fin.ext h]
    rfl
  · rw [show (⟨r.val / 512, by omega⟩ : Fin 2) = 1 from Fin.ext (by show r.val / 512 = 1; omega)]
    rfl

/-- The logits, read. -/
theorem logits_at (q : FVec Ideal S1024x96 .f32) (w : Vec Ideal S1024x96 .f32) (k : FVec Ideal S128x96 .f32) (am : Vec Ideal S1024x128 .f32) (r : Fin 1024) (j : Fin 128) :
    logits q w k am (ix2 r j) = (∑ a : Fin 96, (q (ix2 r a) * w (ix2 r a)) * k (ix2 j a)) + am (ix2 r j) := by
  pointwise [logits]

/-- The exponentials, read. -/
theorem expo_at (l : FVec Ideal S1024x128 .f32) (r : Fin 1024) (j : Fin 128) : expo l (ix2 r j) = Cert.Win.wex (fun j => l (ix2 r j)) j := by
  pointwise [expo]
  rw [Cert.Consts.neg_inf]
  rfl

/-- The normalised exponentials, read. -/
theorem norm_at (e : FVec Ideal S1024x128 .f32) (r : Fin 1024) (j : Fin 128) : norm e (ix2 r j) = e (ix2 r j) * Ideal.div 1 (0 + ∑ j : Fin 128, e (ix2 r j)) := by
  pointwise [norm]

/-- The attention applied to the values, read. -/
theorem pay4_at (v : FVec Ideal S128x96 .f32) (t : FVec Ideal S1024x128 .f32) (r : Fin 1024) (a : Fin 96) : k0_pay4 (F := Ideal) v t (ix2 r a) = ∑ j : Fin 128, t (ix2 r j) * v (ix2 j a) := by
  pointwise [k0_pay4]

/-- Row `64 h + p` of window `w`. -/
def row (w : Fin 2) (h : Fin 8) (p : Fin 64) : Fin 1024 := ⟨w.val * 512 + h.val * 64 + p.val, by omega⟩

/-- The first seven heads' part of the first window, read. -/
theorem pay5_at (v : FVec Ideal S128x96 .f32) (t : FVec Ideal S1024x128 .f32) (m0 m1 m2 m3 m4 m5 m6 : Vec Ideal S1x96 .f32) (p : Fin 64) (a : Fin 96) :
    k0_pay5 (F := Ideal) v t m0 m1 m2 m3 m4 m5 m6 (ix2 p a) = k0_pay4 (F := Ideal) v t (ix2 (row 0 0 p) a) * m0 (ix2 0 a) + k0_pay4 (F := Ideal) v t (ix2 (row 0 1 p) a) * m1 (ix2 0 a)
      + k0_pay4 (F := Ideal) v t (ix2 (row 0 2 p) a) * m2 (ix2 0 a) + k0_pay4 (F := Ideal) v t (ix2 (row 0 3 p) a) * m3 (ix2 0 a)
      + k0_pay4 (F := Ideal) v t (ix2 (row 0 4 p) a) * m4 (ix2 0 a) + k0_pay4 (F := Ideal) v t (ix2 (row 0 5 p) a) * m5 (ix2 0 a)
      + k0_pay4 (F := Ideal) v t (ix2 (row 0 6 p) a) * m6 (ix2 0 a) := by
  pointwise [k0_pay5, row]

/-- The eighth head's rows of the first window, read. -/
theorem pay6_at (v : FVec Ideal S128x96 .f32) (t : FVec Ideal S1024x128 .f32) (p : Fin 64) (a : Fin 96) :
    k0_pay6 (F := Ideal) v t (ix2 p a) = k0_pay4 (F := Ideal) v t (ix2 (row 0 7 p) a) := by
  pointwise [k0_pay6, row]

/-- The first stored block, read. -/
theorem pay7_at (s z : FVec Ideal S64x96 .f32) (m7 : Vec Ideal S1x96 .f32) (y x : Fin 8) (a : Fin 96) :
    k0_pay7 (F := Ideal) s z m7 (ix3 y x a) = s (ix2 (⟨y * 8 + x, by omega⟩ : Fin 64) a) + z (ix2 (⟨y * 8 + x, by omega⟩ : Fin 64) a) * m7 (ix2 0 a) := by
  pointwise [k0_pay7]

/-- The first six heads' part of the second window, read. -/
theorem pay8_at (o : FVec Ideal S1024x96 .f32) (m0 m1 m2 m3 m4 m5 : Vec Ideal S1x96 .f32) (p : Fin 64) (a : Fin 96) :
    k0_pay8 (F := Ideal) o m0 m1 m2 m3 m4 m5 (ix2 p a) = o (ix2 (row 1 0 p) a) * m0 (ix2 0 a) + o (ix2 (row 1 1 p) a) * m1 (ix2 0 a)
      + o (ix2 (row 1 2 p) a) * m2 (ix2 0 a) + o (ix2 (row 1 3 p) a) * m3 (ix2 0 a)
      + o (ix2 (row 1 4 p) a) * m4 (ix2 0 a) + o (ix2 (row 1 5 p) a) * m5 (ix2 0 a) := by
  pointwise [k0_pay8, row]

/-- The seventh head's rows of the second window, read. -/
theorem pay9_at (o : FVec Ideal S1024x96 .f32) (p : Fin 64) (a : Fin 96) : k0_pay9 (F := Ideal) o (ix2 p a) = o (ix2 (row 1 6 p) a) := by
  pointwise [k0_pay9, row]

/-- The second stored block, read. -/
theorem pay1_at (o : FVec Ideal S1024x96 .f32) (s z : FVec Ideal S64x96 .f32) (m6 m7 : Vec Ideal S1x96 .f32) (y x : Fin 8) (a : Fin 96) :
    k0_pay1 (F := Ideal) o s z m6 m7 (ix3 y x a) = s (ix2 (⟨y * 8 + x, by omega⟩ : Fin 64) a) + z (ix2 (⟨y * 8 + x, by omega⟩ : Fin 64) a) * m6 (ix2 0 a) + o (ix2 (row 1 7 ⟨y * 8 + x, by omega⟩) a) * m7 (ix2 0 a) := by
  pointwise [k0_pay1, row]

end Cert.Kernel3Ideal.Value
end
-- ==== Proof.WinBlk.lean ====
module

public import proofs.«01_k».proof.Proof.WinPay

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

/-- Position `p` of window `n` of an image. -/
def reg (X : FVec Ideal S224x224x96 .f32) (n : Fin 784) (p : Fin 64) (a : Fin 96) : EReal :=
  X (ix3 (⟨n.val / 28 * 8 + p.val / 8, by omega⟩ : Fin 224) (⟨n.val % 28 * 8 + p.val % 8, by omega⟩ : Fin 224) a)

/-- Window `w` of the two a grid point takes. -/
def win (t : Fin 392) (w : Fin 2) : Fin 784 := ⟨t.val * 2 + w.val, by omega⟩

/-- The block of the queries at a grid point. -/
theorem tr0 : ∀ t : Fin grid0.N, cc0_transform_0 (grid0.coords t) = ![t.val / 14, t.val % 14, 0] := by decide +kernel

/-- The block of the keys at a grid point. -/
theorem tr1 : ∀ t : Fin grid0.N, cc0_transform_1 (grid0.coords t) = ![t.val / 14, t.val % 14, 0] := by decide +kernel

/-- The block of the values at a grid point. -/
theorem tr2 : ∀ t : Fin grid0.N, cc0_transform_2 (grid0.coords t) = ![t.val / 14, t.val % 14, 0] := by decide +kernel

/-- The query mask's block at a grid point. -/
theorem tr3 : ∀ t : Fin grid0.N, cc0_transform_3 (grid0.coords t) = ![0, 0] := by decide +kernel

/-- The window mask's block at a grid point. -/
theorem tr4 : ∀ t : Fin grid0.N, cc0_transform_4 (grid0.coords t) = ![0, 0] := by decide +kernel

/-- The output mask's block at a grid point. -/
theorem tr5 : ∀ t : Fin grid0.N, cc0_transform_5 (grid0.coords t) = ![0, 0] := by decide +kernel

/-- The block of the result at a grid point. -/
theorem tr6 : ∀ t : Fin grid0.N, cc0_transform_6 (grid0.coords t) = ![t.val / 14, t.val % 14, 0] := by decide +kernel

/-- The block's index at a grid point: the queries'. -/
theorem ix0 (t : Fin cfg0.N) : (cfg0.win 0).index t = ![t.val / 14, t.val % 14, 0] := tr0 t

/-- The block's index at a grid point: the keys'. -/
theorem ix1' (t : Fin cfg0.N) : (cfg0.win 1).index t = ![t.val / 14, t.val % 14, 0] := tr1 t

/-- The block's index at a grid point: the values'. -/
theorem ix2' (t : Fin cfg0.N) : (cfg0.win 2).index t = ![t.val / 14, t.val % 14, 0] := tr2 t

/-- The block's index at a grid point: the query mask's. -/
theorem ix3' (t : Fin cfg0.N) : (cfg0.win 3).index t = ![0, 0] := tr3 t

/-- The block's index at a grid point: the window mask's. -/
theorem ix4' (t : Fin cfg0.N) : (cfg0.win 4).index t = ![0, 0] := tr4 t

/-- The block's index at a grid point: the output mask's. -/
theorem ix5' (t : Fin cfg0.N) : (cfg0.win 5).index t = ![0, 0] := tr5 t

/-- The block's index at a grid point: the result's. -/
theorem ix6 (t : Fin cfg0.N) : (cfg0.win 6).index t = ![t.val / 14, t.val % 14, 0] := tr6 t

variable (m : (ℓ : Loc nD τ sig) → Buf (Elt Ideal) ℓ)

/-- An entry of the queries' block. -/
theorem blk0 (c : Dev nD) (t : Fin cfg0.N) (y : Fin 8) (x : Fin 16) (a : Fin 96) (ht : t.val < 392) :
    iblk m c 0 t (ix3 y x a) = V m c main_arg0 (ix3 (⟨t.val / 14 * 8 + y.val, by omega⟩ : Fin 224) (⟨t.val % 14 * 16 + x.val, by omega⟩ : Fin 224) a) := by
  have h := ix0 t
  blk_point [iblk, h]

/-- An entry of the keys' block. -/
theorem blk1 (c : Dev nD) (t : Fin cfg0.N) (y : Fin 8) (x : Fin 16) (a : Fin 96) (ht : t.val < 392) :
    iblk m c 1 t (ix3 y x a) = V m c main_arg1 (ix3 (⟨t.val / 14 * 8 + y.val, by omega⟩ : Fin 224) (⟨t.val % 14 * 16 + x.val, by omega⟩ : Fin 224) a) := by
  have h := ix1' t
  blk_point [iblk, h]

/-- An entry of the values' block. -/
theorem blk2 (c : Dev nD) (t : Fin cfg0.N) (y : Fin 8) (x : Fin 16) (a : Fin 96) (ht : t.val < 392) :
    iblk m c 2 t (ix3 y x a) = V m c main_arg2 (ix3 (⟨t.val / 14 * 8 + y.val, by omega⟩ : Fin 224) (⟨t.val % 14 * 16 + x.val, by omega⟩ : Fin 224) a) := by
  have h := ix2' t
  blk_point [iblk, h]

/-- The query mask's block is the whole mask. -/
theorem blk3 (c : Dev nD) (t : Fin cfg0.N) (r : Fin 1024) (a : Fin 96) : iblk m c 3 t (ix2 r a) = V m c main_v13 (ix2 r a) := by
  have h := ix3' t
  blk_point [iblk, h]

/-- The window mask's block is the whole mask. -/
theorem blk4 (c : Dev nD) (t : Fin cfg0.N) (r : Fin 1024) (j : Fin 128) : iblk m c 4 t (ix2 r j) = V m c main_arg3 (ix2 r j) := by
  have h := ix4' t
  blk_point [iblk, h]

/-- The output mask's block is the whole mask. -/
theorem blk5 (c : Dev nD) (t : Fin cfg0.N) (r : Fin 8) (a : Fin 96) : iblk m c 5 t (ix2 r a) = V m c main_v15 (ix2 r a) := by
  have h := ix5' t
  blk_point [iblk, h]

/-- The left half of a block, read. -/
theorem ld_left (M : Vec Ideal S8x16x96 .f32) (inb : ∀ a, (![0, 0, 0] : Fin 3 → Nat) a + S8x8x96.size a ≤ S8x16x96.size a) (y x : Fin 8) (a : Fin 96) :
    View.ld (S := S8x16x96) M (Rect.unit ![0, 0, 0] S8x8x96.size inb) (ix3 y x a) = M (ix3 y (⟨x.val, by omega⟩ : Fin 16) a) := by
  refine congrArg M ((eq_ix3 _).trans ?_)
  congr 1
  · refine Fin.ext ?_
    show 0 + 1 * y.val = y.val
    omega
  · refine Fin.ext ?_
    show 0 + 1 * x.val = x.val
    omega
  · refine Fin.ext ?_
    show 0 + 1 * a.val = a.val
    omega

/-- The right half of a block, read. -/
theorem ld_right (M : Vec Ideal S8x16x96 .f32) (inb : ∀ a, (![0, 8, 0] : Fin 3 → Nat) a + S8x8x96.size a ≤ S8x16x96.size a) (y x : Fin 8) (a : Fin 96) :
    View.ld (S := S8x16x96) M (Rect.unit ![0, 8, 0] S8x8x96.size inb) (ix3 y x a) = M (ix3 y (⟨8 + x.val, by omega⟩ : Fin 16) a) := by
  refine congrArg M ((eq_ix3 _).trans ?_)
  congr 1
  · refine Fin.ext ?_
    show 0 + 1 * y.val = y.val
    omega
  · refine Fin.ext ?_
    show 8 + 1 * x.val = 8 + x.val
    omega
  · refine Fin.ext ?_
    show 0 + 1 * a.val = a.val
    omega

/-- A row of the output mask, read. -/
theorem ld_row (M : Vec Ideal S8x96 .f32) (k : Fin 8) (inb : ∀ a, (![k.val, 0] : Fin 2 → Nat) a + (![1, 96] : Fin 2 → Nat) a ≤ S8x96.size a) (a : Fin 96) :
    View.ld (S := S8x96) M (Rect.unit ![k.val, 0] ![1, 96] inb) (ix2 0 a) = M (ix2 k a) := by
  refine congrArg M ((eq_ix2 _).trans (congrArg₂ ix2 (Fin.ext ?_) (Fin.ext ?_)))
  · show k.val + 0 * 1 = k.val
    omega
  · show 0 + 1 * a.val = a.val
    omega

/-- A whole array loaded, read. -/
theorem ld_all {n k : ℕ} (M : (⟨2, ![n, k]⟩ : Shape).Idx → EReal) (inb : ∀ a, (![0, 0] : Fin 2 → Nat) a + (![n, k] : Fin 2 → Nat) a ≤ (⟨2, ![n, k]⟩ : Shape).size a) (r : Fin n) (a : Fin k) :
    View.ld (Val := Elt Ideal) (e' := .f32) (S := ⟨2, ![n, k]⟩) M (Rect.unit ![0, 0] ![n, k] inb) (ix2 r a) = M (ix2 r a) := by
  refine congrArg M ((eq_ix2 _).trans (congrArg₂ ix2 (Fin.ext ?_) (Fin.ext ?_)))
  · show 0 + 1 * r.val = r.val
    omega
  · show 0 + 1 * a.val = a.val
    omega

/-- The halves of a block of an image are the grid point's two windows. -/
theorem both_reg (x : Vec Ideal S8x16x96 .f32) (X : FVec Ideal S224x224x96 .f32) (t : Fin 392)
    (hx : ∀ (y : Fin 8) (u : Fin 16) (a : Fin 96), x (ix3 y u a) = X (ix3 (⟨t.val / 14 * 8 + y.val, by omega⟩ : Fin 224) (⟨t.val % 14 * 16 + u.val, by omega⟩ : Fin 224) a))
    (i0 : ∀ a, (![0, 0, 0] : Fin 3 → Nat) a + S8x8x96.size a ≤ S8x16x96.size a) (i1 : ∀ a, (![0, 8, 0] : Fin 3 → Nat) a + S8x8x96.size a ≤ S8x16x96.size a) :
    both (View.ld (S := S8x16x96) x (Rect.unit ![0, 0, 0] S8x8x96.size i0)) (View.ld (S := S8x16x96) x (Rect.unit ![0, 8, 0] S8x8x96.size i1)) = fun w => reg X (win t w) := by
  funext w p a
  match w with
  | 0 =>
    refine (ld_left x i0 _ _ a).trans ((hx _ _ a).trans ?_)
    unfold reg win
    refine congrArg X (congrArg₂ (fun u v => ix3 u v a) (Fin.ext ?_) (Fin.ext ?_))
    · show t.val / 14 * 8 + p.val / 8 = (t.val * 2 + 0) / 28 * 8 + p.val / 8
      omega
    · show t.val % 14 * 16 + p.val % 8 = (t.val * 2 + 0) % 28 * 8 + p.val % 8
      omega
  | 1 =>
    refine (ld_right x i1 _ _ a).trans ((hx _ _ a).trans ?_)
    unfold reg win
    refine congrArg X (congrArg₂ (fun u v => ix3 u v a) (Fin.ext ?_) (Fin.ext ?_))
    · show t.val / 14 * 8 + p.val / 8 = (t.val * 2 + 1) / 28 * 8 + p.val / 8
      omega
    · show t.val % 14 * 16 + (8 + p.val % 8) = (t.val * 2 + 1) % 28 * 8 + p.val % 8
      omega

end Cert.Kernel3Ideal.Value
end
-- ==== Proof.WinMask.lean ====
module

public import proofs.«01_k».proof.Proof.Gen.Kernel3Ideal.Frame
public import Idealize.ShloMosaic.Lib.Pipeline.ValueKit
public import proofs.«01_k».proof.Proof.BraMask

@[expose] public section

set_option maxRecDepth 16384

noncomputable section

namespace Cert.Kernel3Ideal.Value

open Idealize.ShloMosaic Idealize.ShloMosaic.TcCoe Idealize.SL.Sem
open Cert.Kernel3Ideal Cert.Kernel3Ideal.Gen

/-- Two query masks one below the other. -/
def mq2 (M : FVec Ideal S512x96 .f32) : FVec Ideal S1024x96 .f32 := concatenate S1024x96 0 [⟨S512x96, M⟩, ⟨S512x96, M⟩] concatenates_S512x96_S512x96_S1024x96_d0

/-- Two masks one below the other, read. -/
theorem mq2_at (M : FVec Ideal S512x96 .f32) (r : Fin 1024) (a : Fin 96) : mq2 M (ix2 r a) = M (ix2 (⟨r.val % 512, by omega⟩ : Fin 512) a) := by
  pointwise [mq2]
  split_ifs
  all_goals first
    | exact congrArg (fun p => M (ix2 p a)) (Fin.ext (by dsimp only; omega))
    | exact absurd rfl (by assumption)

variable (m : (ℓ : Loc nD τ sig) → Buf (Elt Ideal) ℓ)

/-- The query mask the launch finds. -/
theorem V_mq (c : Dev nD) : V m c main_v13 = mq2 (Cert.Kernel2Ideal.Value.mq Cert.Kernel2Ideal.Value.fd) := by
  show StableHlo.after (List.flatten [hostOps0, hostOps0_1, hostOps0_2, hostOps0_3, hostOps0_4]) (fun b => m (c, b)) _ = _
  simp only [List.flatten_cons, List.flatten_nil, List.cons_append, List.nil_append]
  after_results_simp
  rfl

/-- The output mask the launch finds. -/
theorem V_mo (c : Dev nD) : V m c main_v15 = Cert.Kernel2Ideal.Value.mo Cert.Kernel2Ideal.Value.fd := by
  show StableHlo.after (List.flatten [hostOps0, hostOps0_1, hostOps0_2, hostOps0_3, hostOps0_4]) (fun b => m (c, b)) _ = _
  simp only [List.flatten_cons, List.flatten_nil, List.cons_append, List.nil_append]
  after_results_simp
  rfl

end Cert.Kernel3Ideal.Value
end
-- ==== Proof.WinFin.lean ====
module

public import proofs.«01_k».proof.Proof.WinBlk
public import proofs.«01_k».proof.Proof.WinMask
public import Idealize.ShloMosaic.Lib.Pipeline.Covers

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

/-- The scale of the queries. -/
def wsc : EReal := Ideal.ofBits .f32 0x3D93CD3A#32

/-- The two windows of a grid point. -/
def duo (X : FVec Ideal S224x224x96 .f32) (t : Fin 392) (w : Fin 2) : Fin 64 → Fin 96 → EReal := reg X (win t w)

/-- A position of the attention of one of a grid point's windows. -/
def att (Q K V : FVec Ideal S224x224x96 .f32) (t : Fin 392) (w : Fin 2) (p : Fin 64) (a : Fin 96) : EReal :=
  Cert.Bra.kout (Cert.Win.half w (Cert.Win.wvl (Cert.Win.wlg wsc (duo Q t) (duo K t)) (Cert.Win.lay (duo V t)))) p a

/-- The grid point of a pixel. -/
def pt (y x : Fin 224) : Fin 392 := ⟨y.val / 8 * 14 + x.val / 16, by omega⟩

/-- The window of a pixel among its grid point's two. -/
def pw (x : Fin 224) : Fin 2 := ⟨x.val % 16 / 8, by omega⟩

/-- The position of a pixel in its window. -/
def pp (y x : Fin 224) : Fin 64 := ⟨y.val % 8 * 8 + x.val % 8, by omega⟩

/-- The attention as an image. -/
def ATT (Q K V : FVec Ideal S224x224x96 .f32) : FVec Ideal S224x224x96 .f32 :=
  fun i => att Q K V (pt (i 0) (i 1)) (pw (i 1)) (pp (i 0) (i 1)) (i 2)

/-- A position of a window's attention is the pixel's. -/
theorem att_of (Q K V : FVec Ideal S224x224x96 .f32) (t : Fin 392) (w : Fin 2) (p : Fin 64) (a : Fin 96) (Y X : Fin 224) (A : Fin 96)
    (hY : Y.val = t.val / 14 * 8 + p.val / 8) (hX : X.val = t.val % 14 * 16 + (w.val * 8 + p.val % 8)) (hA : A.val = a.val) :
    att Q K V t w p a = att Q K V (pt Y X) (pw X) (pp Y X) A := by
  have e1 : pt Y X = t := Fin.ext (by show Y.val / 8 * 14 + X.val / 16 = t.val; omega)
  have e2 : pw X = w := Fin.ext (by show X.val % 16 / 8 = w.val; omega)
  have e3 : pp Y X = p := Fin.ext (by show Y.val % 8 * 8 + X.val % 8 = p.val; omega)
  rw [e1, e2, e3, Fin.ext hA]

/-- The attended values of the body, read. -/
theorem o_at (q0 q1 k0 k1 v0 v1 : Vec Ideal S8x8x96 .f32) (w : Vec Ideal S1024x96 .f32) (am : Vec Ideal S1024x128 .f32)
    (hw : ∀ r a, w (ix2 r a) = Cert.Win.wmq wsc r a) (ha : ∀ r j, am (ix2 r j) = Cert.Win.wam r j) (r : Fin 1024) (a : Fin 96) :
    k0_pay4 (F := Ideal) (k0_pay2 v0 v1) (k0_pay3 q0 q1 w k0 k1 am) (ix2 r a)
      = Cert.Win.wvl (Cert.Win.wlg wsc (both q0 q1) (both k0 k1)) (Cert.Win.lay (both v0 v1)) r a := by
  rw [pay4_at]
  simp only [pay3_eq, norm_at, expo_at, logits_at, reps_flat_at, pay2_at, hw, ha]
  rfl

/-- A row of a window among the rows of both. -/
theorem row_half (w : Fin 2) (O : Fin 1024 → Fin 96 → EReal) (h : Fin 8) (p : Fin 64) (a : Fin 96) : Cert.Win.half w O (Cert.Bra.rw' h p) a = O (row w h p) a := by
  unfold Cert.Win.half
  refine congrArg (fun r => O r a) (Fin.ext ?_)
  show w.val * 512 + (h.val * 64 + p.val) = w.val * 512 + h.val * 64 + p.val
  omega

/-- The heads' parts of a window put together. -/
theorem kout_half (w : Fin 2) (O : Fin 1024 → Fin 96 → EReal) (p : Fin 64) (a : Fin 96) :
    O (row w 0 p) a * Cert.Bra.mko 0 a + O (row w 1 p) a * Cert.Bra.mko 1 a + O (row w 2 p) a * Cert.Bra.mko 2 a + O (row w 3 p) a * Cert.Bra.mko 3 a
      + O (row w 4 p) a * Cert.Bra.mko 4 a + O (row w 5 p) a * Cert.Bra.mko 5 a + O (row w 6 p) a * Cert.Bra.mko 6 a + O (row w 7 p) a * Cert.Bra.mko 7 a
      = Cert.Bra.kout (Cert.Win.half w O) p a := by
  unfold Cert.Bra.kout
  simp only [row_half]

/-- The body's first store, read: the first window. -/
theorem body0_at (q0 q1 k0 k1 v0 v1 : Vec Ideal S8x8x96 .f32) (w : Vec Ideal S1024x96 .f32) (am : Vec Ideal S1024x128 .f32)
    (hw : ∀ r a, w (ix2 r a) = Cert.Win.wmq wsc r a) (ha : ∀ r j, am (ix2 r j) = Cert.Win.wam r j) (m0 m1 m2 m3 m4 m5 m6 m7 : Vec Ideal S1x96 .f32)
    (h0 : ∀ a, m0 (ix2 0 a) = Cert.Bra.mko 0 a) (h1 : ∀ a, m1 (ix2 0 a) = Cert.Bra.mko 1 a) (h2 : ∀ a, m2 (ix2 0 a) = Cert.Bra.mko 2 a) (h3 : ∀ a, m3 (ix2 0 a) = Cert.Bra.mko 3 a)
    (h4 : ∀ a, m4 (ix2 0 a) = Cert.Bra.mko 4 a) (h5 : ∀ a, m5 (ix2 0 a) = Cert.Bra.mko 5 a) (h6 : ∀ a, m6 (ix2 0 a) = Cert.Bra.mko 6 a) (h7 : ∀ a, m7 (ix2 0 a) = Cert.Bra.mko 7 a)
    (y x : Fin 8) (a : Fin 96) :
    k0_pay7 (F := Ideal) (k0_pay5 (k0_pay2 v0 v1) (k0_pay3 q0 q1 w k0 k1 am) m0 m1 m2 m3 m4 m5 m6) (k0_pay6 (k0_pay2 v0 v1) (k0_pay3 q0 q1 w k0 k1 am)) m7 (ix3 y x a)
      = Cert.Bra.kout (Cert.Win.half 0 (Cert.Win.wvl (Cert.Win.wlg wsc (both q0 q1) (both k0 k1)) (Cert.Win.lay (both v0 v1)))) (⟨y * 8 + x, by omega⟩ : Fin 64) a := by
  rw [pay7_at, pay5_at, pay6_at]
  simp only [o_at _ _ _ _ _ _ _ _ hw ha, h0, h1, h2, h3, h4, h5, h6, h7]
  exact kout_half 0 _ _ a

/-- The body's second store, read: the second window. -/
theorem body1_at (q0 q1 k0 k1 v0 v1 : Vec Ideal S8x8x96 .f32) (w : Vec Ideal S1024x96 .f32) (am : Vec Ideal S1024x128 .f32)
    (hw : ∀ r a, w (ix2 r a) = Cert.Win.wmq wsc r a) (ha : ∀ r j, am (ix2 r j) = Cert.Win.wam r j) (m0 m1 m2 m3 m4 m5 m6 m7 : Vec Ideal S1x96 .f32)
    (h0 : ∀ a, m0 (ix2 0 a) = Cert.Bra.mko 0 a) (h1 : ∀ a, m1 (ix2 0 a) = Cert.Bra.mko 1 a) (h2 : ∀ a, m2 (ix2 0 a) = Cert.Bra.mko 2 a) (h3 : ∀ a, m3 (ix2 0 a) = Cert.Bra.mko 3 a)
    (h4 : ∀ a, m4 (ix2 0 a) = Cert.Bra.mko 4 a) (h5 : ∀ a, m5 (ix2 0 a) = Cert.Bra.mko 5 a) (h6 : ∀ a, m6 (ix2 0 a) = Cert.Bra.mko 6 a) (h7 : ∀ a, m7 (ix2 0 a) = Cert.Bra.mko 7 a)
    (y x : Fin 8) (a : Fin 96) :
    k0_pay1 (F := Ideal) (k0_pay4 (k0_pay2 v0 v1) (k0_pay3 q0 q1 w k0 k1 am)) (k0_pay8 (k0_pay4 (k0_pay2 v0 v1) (k0_pay3 q0 q1 w k0 k1 am)) m0 m1 m2 m3 m4 m5)
        (k0_pay9 (k0_pay4 (k0_pay2 v0 v1) (k0_pay3 q0 q1 w k0 k1 am))) m6 m7 (ix3 y x a)
      = Cert.Bra.kout (Cert.Win.half 1 (Cert.Win.wvl (Cert.Win.wlg wsc (both q0 q1) (both k0 k1)) (Cert.Win.lay (both v0 v1)))) (⟨y * 8 + x, by omega⟩ : Fin 64) a := by
  rw [pay1_at, pay8_at, pay9_at]
  simp only [o_at _ _ _ _ _ _ _ _ hw ha, h0, h1, h2, h3, h4, h5, h6, h7]
  exact kout_half 1 _ _ a

/-- The attention at equal windows, positions and channels. -/
theorem att_at (Q K V : Fin 2 → Fin 64 → Fin 96 → EReal) (w : Fin 2) (p q : Fin 64) (a b : Fin 96) (w' : Fin 2) (hw : w.val = w'.val) (hp : p.val = q.val) (ha : a.val = b.val) :
    Cert.Bra.kout (Cert.Win.half w (Cert.Win.wvl (Cert.Win.wlg wsc Q K) (Cert.Win.lay V))) p a
      = Cert.Bra.kout (Cert.Win.half w' (Cert.Win.wvl (Cert.Win.wlg wsc Q K) (Cert.Win.lay V))) q b := by
  rw [Fin.ext hw, Fin.ext hp, Fin.ext ha]

set_option maxHeartbeats 1000000 in
/-- What a grid point leaves in the result's buffer, from its blocks. -/
theorem out_at (x0 x1 x2 : Vec Ideal S8x16x96 .f32) (x3 : Vec Ideal S1024x96 .f32) (x4 : Vec Ideal S1024x128 .f32) (x5 : Vec Ideal S8x96 .f32)
    (Q K V : FVec Ideal S224x224x96 .f32) (t : Fin 392)
    (hQ : ∀ (y : Fin 8) (u : Fin 16) (a : Fin 96), x0 (ix3 y u a) = Q (ix3 (⟨t.val / 14 * 8 + y.val, by omega⟩ : Fin 224) (⟨t.val % 14 * 16 + u.val, by omega⟩ : Fin 224) a))
    (hK : ∀ (y : Fin 8) (u : Fin 16) (a : Fin 96), x1 (ix3 y u a) = K (ix3 (⟨t.val / 14 * 8 + y.val, by omega⟩ : Fin 224) (⟨t.val % 14 * 16 + u.val, by omega⟩ : Fin 224) a))
    (hV : ∀ (y : Fin 8) (u : Fin 16) (a : Fin 96), x2 (ix3 y u a) = V (ix3 (⟨t.val / 14 * 8 + y.val, by omega⟩ : Fin 224) (⟨t.val % 14 * 16 + u.val, by omega⟩ : Fin 224) a))
    (hw : ∀ r a, x3 (ix2 r a) = Cert.Win.wmq wsc r a) (ha : ∀ r j, x4 (ix2 r j) = Cert.Win.wam r j) (hm : ∀ h a, x5 (ix2 h a) = Cert.Bra.mko h a)
    (y : Fin 8) (x : Fin 16) (a : Fin 96) :
    out0_6 (F := Ideal) x0 x1 x2 x3 x4 x5 (ix3 y x a) = att Q K V t ⟨x.val / 8, by omega⟩ ⟨y.val * 8 + x.val % 8, by omega⟩ a := by
  have hw' : ∀ r a, View.ld x3 r0_2 (ix2 r a) = Cert.Win.wmq wsc r a := fun r a => (ld_all x3 _ r a).trans (hw r a)
  have ha' : ∀ r j, View.ld x4 r0_3 (ix2 r j) = Cert.Win.wam r j := fun r j => (ld_all x4 _ r j).trans (ha r j)
  unfold att duo
  unfold_out out0_6
  refine View.canon_eq_of_allAt _ _ _ (cover0_6 _ _ _) ?_
  intro p hp
  rcases List.mem_cons.mp hp with rfl | hp
  · intro (z : S8x8x96.Idx) hz
    idx_vars z
    have e0 : 0 + 1 * z0.val = y.val := congrArg (fun i : S8x16x96.Idx => (i 0).val) hz
    have e1 : 8 + 1 * z1.val = x.val := congrArg (fun i : S8x16x96.Idx => (i 1).val) hz
    have e2 : 0 + 1 * z2.val = a.val := congrArg (fun i : S8x16x96.Idx => (i 2).val) hz
    refine (body1_at _ _ _ _ _ _ _ _ hw' ha' _ _ _ _ _ _ _ _
      (fun a => (ld_row _ 0 _ a).trans (hm 0 a)) (fun a => (ld_row _ 1 _ a).trans (hm 1 a))
      (fun a => (ld_row _ 2 _ a).trans (hm 2 a)) (fun a => (ld_row _ 3 _ a).trans (hm 3 a))
      (fun a => (ld_row _ 4 _ a).trans (hm 4 a)) (fun a => (ld_row _ 5 _ a).trans (hm 5 a))
      (fun a => (ld_row _ 6 _ a).trans (hm 6 a)) (fun a => (ld_row _ 7 _ a).trans (hm 7 a)) z0 z1 z2).trans ?_
    rw [both_reg x0 Q t hQ, both_reg x1 K t hK, both_reg x2 V t hV]
    refine att_at _ _ _ _ _ _ _ _ _ ?_ ?_ ?_
    · show 1 = x.val / 8
      omega
    · show z0.val * 8 + z1.val = y.val * 8 + x.val % 8
      omega
    · omega
  · obtain rfl := List.mem_singleton.mp hp
    intro (z : S8x8x96.Idx) hz
    idx_vars z
    have e0 : 0 + 1 * z0.val = y.val := congrArg (fun i : S8x16x96.Idx => (i 0).val) hz
    have e1 : 0 + 1 * z1.val = x.val := congrArg (fun i : S8x16x96.Idx => (i 1).val) hz
    have e2 : 0 + 1 * z2.val = a.val := congrArg (fun i : S8x16x96.Idx => (i 2).val) hz
    refine (body0_at _ _ _ _ _ _ _ _ hw' ha' _ _ _ _ _ _ _ _
      (fun a => (ld_row _ 0 _ a).trans (hm 0 a)) (fun a => (ld_row _ 1 _ a).trans (hm 1 a))
      (fun a => (ld_row _ 2 _ a).trans (hm 2 a)) (fun a => (ld_row _ 3 _ a).trans (hm 3 a))
      (fun a => (ld_row _ 4 _ a).trans (hm 4 a)) (fun a => (ld_row _ 5 _ a).trans (hm 5 a))
      (fun a => (ld_row _ 6 _ a).trans (hm 6 a)) (fun a => (ld_row _ 7 _ a).trans (hm 7 a)) z0 z1 z2).trans ?_
    rw [both_reg x0 Q t hQ, both_reg x1 K t hK, both_reg x2 V t hV]
    refine att_at _ _ _ _ _ _ _ _ _ ?_ ?_ ?_
    · show 0 = x.val / 8
      omega
    · show z0.val * 8 + z1.val = y.val * 8 + x.val % 8
      omega
    · omega

variable (m : (ℓ : Loc nD τ sig) → Buf (Elt Ideal) ℓ)

/-- The query mask's block, read. -/
theorem w3 (c : Dev nD) (t : Fin cfg0.N) (r : Fin 1024) (a : Fin 96) : iblk m c 3 t (ix2 r a) = Cert.Win.wmq wsc r a := by
  rw [blk3 m c t, V_mq, mq2_at, Cert.Kernel2Ideal.Value.mq_at _ Cert.Kernel2Ideal.Value.fd_at]
  rfl

/-- The output mask's block, read. -/
theorem w5 (c : Dev nD) (t : Fin cfg0.N) (r : Fin 8) (a : Fin 96) : iblk m c 5 t (ix2 r a) = Cert.Bra.mko r a := by
  rw [blk5 m c t, V_mo, Cert.Kernel2Ideal.Value.mo_at _ Cert.Kernel2Ideal.Value.fd_at]
  rfl

/-- The result's blocks cover its array. -/
theorem cov6 : (cfg0.win 6).Covers := by
  refine Pipeline.Window.covers_of_index_surj _ rfl ?_ ?_
  · show ∀ a : Fin 3, 0 < S8x16x96.size a
    decide
  · intro (β : (a : Fin 3) → Fin ((cfg0.win 6).nblk a))
    have h0 : (β 0).val < 28 := (β 0).isLt.trans_eq (show (224 + 8 - 1) / 8 = 28 from rfl)
    have h1 : (β 1).val < 14 := (β 1).isLt.trans_eq (show (224 + 16 - 1) / 16 = 14 from rfl)
    have h2 : (β 2).val < 1 := (β 2).isLt.trans_eq (show (96 + 96 - 1) / 96 = 1 from rfl)
    have hb : (β 0).val * 14 + (β 1).val < grid0.N := by rw [N_0]; omega
    refine ⟨(⟨(β 0).val * 14 + (β 1).val, hb⟩ : Fin grid0.N), ?_⟩
    show ∀ a : Fin 3, cc0_transform_6 (grid0.coords ⟨(β 0).val * 14 + (β 1).val, hb⟩) a = (β a).val
    intro a
    refine (congrFun (tr6 ⟨(β 0).val * 14 + (β 1).val, hb⟩) a).trans ?_
    match a with
    | 0 => show ((β 0).val * 14 + (β 1).val) / 14 = (β 0).val; omega
    | 1 => show ((β 0).val * 14 + (β 1).val) % 14 = (β 1).val; omega
    | 2 => show 0 = (β 2).val; omega

set_option maxHeartbeats 1000000 in
/-- What the launch leaves in its result. -/
theorem att_final (c : Dev nD) (ha : ∀ r j, V m c main_arg3 (ix2 r j) = Cert.Win.wam r j) :
    (dats m 0 c).arrAt 6 cfg0.N = ATT (V m c main_arg0) (V m c main_arg1) (V m c main_arg2) := by
  refine (dats m 0 c).arrAt_eq_of_covers 6 _ cov6 fun t _ (y : S8x16x96.Idx) => ?_
  have ht : t.val < 392 := lt_of_lt_of_eq t.isLt N_0
  have h6 := ix6 t
  blk_simp
  rw [after0_6]
  idx_vars y
  refine (out_at _ _ _ _ _ _ (V m c main_arg0) (V m c main_arg1) (V m c main_arg2) ⟨t.val, ht⟩
    (fun y u a => blk0 m c t y u a ht) (fun y u a => blk1 m c t y u a ht) (fun y u a => blk2 m c t y u a ht)
    (w3 m c t) (fun r j => (blk4 m c t r j).trans (ha r j)) (w5 m c t) y0 y1 y2).trans ?_
  refine att_of _ _ _ ⟨t.val, ht⟩ ⟨y1.val / 8, by omega⟩ ⟨y0.val * 8 + y1.val % 8, by omega⟩ y2 _ _ _ ?_ ?_ ?_
  · blk_simp [h6]
    show t.val / 14 * 8 + y0.val = t.val / 14 * 8 + (y0.val * 8 + y1.val % 8) / 8
    omega
  · blk_simp [h6]
    show t.val % 14 * 16 + y1.val = t.val % 14 * 16 + (y1.val / 8 * 8 + (y0.val * 8 + y1.val % 8) % 8)
    omega
  · blk_simp [h6]

end Cert.Kernel3Ideal.Value
end
-- ==== Proof.WinRun.lean ====
module

public import proofs.«01_k».proof.Proof.WinFin

@[expose] public section

set_option maxRecDepth 16384

noncomputable section

namespace Cert.Kernel3Ideal.Value

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- The window attention ends with its result at `ATT` and its arguments as launched. -/
theorem run (ha : ∀ (c : Dev nD) r j, m ((c.tc : Thread nD τ).loc main_arg3) (ix2 r j) = Cert.Win.wam r j) :
    θ_run defs (onTc (τ := τ) (main (F := Ideal))) ⟨m, fun _ => 0, ρ⟩ (fun r => ∀ c : Dev nD,
      r.2.mem ((c.tc : Thread nD τ).loc main_v16) = ATT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 6).trans ((att_final m c (fun r j => by rw [V_main_arg3]; exact ha c r j)).trans (by rw [V_main_arg0, V_main_arg1, V_main_arg2])), h.2 c⟩)
    (θ_run_and (run_main m ρ) (unchanged m ρ))

end Cert.Kernel3Ideal.Value
end
-- ==== Proof.WinRef.lean ====
module

public import proofs.«01_k».proof.Proof.WinMath
public import proofs.«01_k».proof.Proof.Gen.Reference3Ideal.Run
public import Idealize.ShloMosaic.Lib.Pipeline.ValueKit
public import Idealize.ShloMosaic.Lib.ReduceAll
public import proofs.«01_k».proof.Proof.Consts

@[expose] public section

set_option maxRecDepth 16384

noncomputable section

namespace Cert.Reference3Ideal.Value

open Idealize.ShloMosaic Idealize.ShloMosaic.TcCoe Idealize.SL.Sem
open Cert.Reference3Ideal Cert.Reference3Ideal.Gen

/-! ## The reference's steps over variables -/

/-- The image cut into windows, by head. -/
def wG (X : FVec Ideal S224x224x96 .f32) : FVec Ideal S784x8x64x12 .f32 :=
  transpose S784x8x64x12 [0, 2, 1, 3] (shapeCast _ (transpose S28x28x8x8x96 [0, 2, 1, 3, 4] (shapeCast _ X shapeCasts_S224x224x96_S28x8x28x8x96) transposes_S28x8x28x8x96_S28x28x8x8x96_0_2_1_3_4) shapeCasts_S28x28x8x8x96_S784x64x8x12) transposes_S784x64x8x12_S784x8x64x12_0_2_1_3

/-- The logits, by window and head. -/
def wL (Q K : FVec Ideal S784x8x64x12 .f32) : FVec Ideal S784x8x64x64 .f32 :=
  Host.dotGeneral dot_S784x8x64x12_S784x8x12x64_S784x8x64x64_3_2_2_3_01_01 none (mulf Q (broadcastInDim S784x8x64x12 ![] bcast_S_S784x8x64x12 (constant S_ .f32 0x3D93CD3A#32))) (transpose S784x8x12x64 [0, 1, 3, 2] K transposes_S784x8x64x12_S784x8x12x64_0_1_3_2)

/-- The logits' row maxima. -/
def wR (L : FVec Ideal S784x8x64x64 .f32) : FVec Ideal S784x8x64 .f32 :=
  Host.reduce FloatOps.maximumf L (constant S_ .f32 0xFF800000#32) reducesTo_S784x8x64x64_S784x8x64_d3 h_S_

/-- The row maxima, from `⊥`. -/
def wM (R : FVec Ideal S784x8x64 .f32) : FVec Ideal S784x8x64 .f32 :=
  maximumf (broadcastInDim S784x8x64 ![] bcast_S_S784x8x64 (constant S_ .f32 0xFF800000#32)) R

/-- The exponentials of the logits less their row's maximum. -/
def wE (L : FVec Ideal S784x8x64x64 .f32) (M : FVec Ideal S784x8x64 .f32) : FVec Ideal S784x8x64x64 .f32 :=
  Host.exp (subf L (broadcastInDim S784x8x64x64 ![0, 1, 2, 3] bcast_S784x8x64x1_S784x8x64x64_0_1_2_3 (broadcastInDim S784x8x64x1 ![0, 1, 2] bcast_S784x8x64_S784x8x64x1_0_1_2 M)))

/-- The attention: the exponentials over their row's sum. -/
def wA (E : FVec Ideal S784x8x64x64 .f32) : FVec Ideal S784x8x64x64 .f32 :=
  Host.divf E (broadcastInDim S784x8x64x64 ![0, 1, 2, 3] bcast_S784x8x64x1_S784x8x64x64_0_1_2_3 (broadcastInDim S784x8x64x1 ![0, 1, 2] bcast_S784x8x64_S784x8x64x1_0_1_2 (Host.reduceAdd E (constant S_ .f32 0x00000000#32) reducesTo_S784x8x64x64_S784x8x64_d3 h_S_)))

/-- The attention applied to the values. -/
def wO (A : FVec Ideal S784x8x64x64 .f32) (V : FVec Ideal S784x8x64x12 .f32) : FVec Ideal S784x8x64x12 .f32 :=
  Host.dotGeneral dot_S784x8x64x64_S784x8x64x12_S784x8x64x12_3_2_2_3_01_01 none A V

/-- The windows put back as an image. -/
def wF (O : FVec Ideal S784x8x64x12 .f32) : FVec Ideal S224x224x96 .f32 :=
  shapeCast _ (transpose S28x8x28x8x96 [0, 2, 1, 3, 4] (shapeCast _ (transpose S784x64x8x12 [0, 2, 1, 3] O transposes_S784x8x64x12_S784x64x8x12_0_2_1_3) shapeCasts_S784x64x8x12_S28x28x8x8x96) transposes_S28x28x8x8x96_S28x8x28x8x96_0_2_1_3_4) shapeCasts_S28x8x28x8x96_S224x224x96

/-- The attention's output from queries, keys and values by head. -/
def wT (Q K V : FVec Ideal S784x8x64x12 .f32) : FVec Ideal S224x224x96 .f32 := wF (wO (wA (wE (wL Q K) (wM (wR (wL Q K))))) V)

/-- The reference's result in its steps. -/
theorem res_eq (m : (ℓ : Loc nD τ sig) → Buf (Elt Ideal) ℓ) (c : Dev nD) :
    res_main_v31 m c = wT (wG (m ((c.tc : Thread nD τ).loc main_arg0))) (wG (m ((c.tc : Thread nD τ).loc main_arg1))) (wG (m ((c.tc : Thread nD τ).loc main_arg2))) :=
  rfl

/-! ## The steps read at an index -/

/-- The scale of the queries. -/
def wsc : EReal := Ideal.ofBits .f32 0x3D93CD3A#32

/-- The scale of the queries is a real number. -/
theorem wsc_real : ∃ s : ℝ, wsc = (s : EReal) := by
  simp [wsc, Ideal.ofBits, Ideal.ieee, -EReal.coe_mul]

/-- Channel `12 h + d`. -/
def chn (h : Fin 8) (d : Fin 12) : Fin 96 := ⟨h * 12 + d, by omega⟩

/-- Position `p` of window `i`: its row in the image. -/
def pixY (i : Fin 784) (p : Fin 64) : Fin 224 := ⟨i / 28 * 8 + p / 8, by omega⟩

/-- Position `p` of window `i`: its column in the image. -/
def pixX (i : Fin 784) (p : Fin 64) : Fin 224 := ⟨i % 28 * 8 + p % 8, by omega⟩

/-- The windows, read. -/
theorem wG_at (X : FVec Ideal S224x224x96 .f32) (i : Fin 784) (h : Fin 8) (p : Fin 64) (d : Fin 12) :
    wG X (ix4 i h p d) = X (ix3 (pixY i p) (pixX i p) (chn h d)) := by
  pointwise [wG, pixY, pixX, chn]

/-- The image put back, read. -/
theorem wF_at (O : FVec Ideal S784x8x64x12 .f32) (i : Fin 784) (h : Fin 8) (p : Fin 64) (d : Fin 12) :
    wF O (ix3 (pixY i p) (pixX i p) (chn h d)) = O (ix4 i h p d) := by
  pointwise [wF, pixY, pixX, chn]

/-- The logits, read. -/
theorem wL_at (Q K : FVec Ideal S784x8x64x12 .f32) (i : Fin 784) (h : Fin 8) (p j : Fin 64) :
    wL Q K (ix4 i h p j) = ∑ d : Fin 12, Q (ix4 i h p d) * wsc * K (ix4 i h j d) := by
  pointwise [wL, wsc]

/-- The reduced maxima, read. -/
theorem wR_at (L : FVec Ideal S784x8x64x64 .f32) (i : Fin 784) (h : Fin 8) (p : Fin 64) :
    wR L (ix3 i h p) = Finset.fold max (Ideal.ofBits .f32 0xFF800000#32) (fun j => L (ix4 i h p j)) Finset.univ := by
  pointwise [wR]

/-- The row maxima, read. -/
theorem wM_at (R : FVec Ideal S784x8x64 .f32) (i : Fin 784) (h : Fin 8) (p : Fin 64) :
    wM R (ix3 i h p) = max ⊥ (R (ix3 i h p)) := by
  pointwise [wM]
  rw [Cert.Consts.neg_inf]

/-- The exponentials, read. -/
theorem wE_at (L : FVec Ideal S784x8x64x64 .f32) (M : FVec Ideal S784x8x64 .f32) (i : Fin 784) (h : Fin 8) (p j : Fin 64) :
    wE L M (ix4 i h p j) = Ideal.exp (L (ix4 i h p j) - M (ix3 i h p)) := by
  pointwise [wE]

/-- The attention, read. -/
theorem wA_at (E : FVec Ideal S784x8x64x64 .f32) (i : Fin 784) (h : Fin 8) (p j : Fin 64) :
    wA E (ix4 i h p j) = Ideal.div (E (ix4 i h p j)) (0 + ∑ j : Fin 64, E (ix4 i h p j)) := by
  pointwise [wA]

/-- The attention applied to the values, read. -/
theorem wO_at (A : FVec Ideal S784x8x64x64 .f32) (V : FVec Ideal S784x8x64x12 .f32) (i : Fin 784) (h : Fin 8) (p : Fin 64) (d : Fin 12) :
    wO A V (ix4 i h p d) = ∑ j : Fin 64, A (ix4 i h p j) * V (ix4 i h j d) := by
  pointwise [wO]

/-- A window of an image. -/
def reg (X : FVec Ideal S224x224x96 .f32) (n : Fin 784) (p : Fin 64) (a : Fin 96) : EReal := X (ix3 (pixY n p) (pixX n p) a)

/-- The reference's result, read at a pixel and channel. -/
theorem res_at (m : (ℓ : Loc nD τ sig) → Buf (Elt Ideal) ℓ) (c : Dev nD) (h : Fin 8) (i : Fin 784) (p : Fin 64) (d : Fin 12) :
    res_main_v31 m c (ix3 (pixY i p) (pixX i p) (chn h d))
      = Cert.Win.rvl (Cert.Win.rlg wsc (reg (m ((c.tc : Thread nD τ).loc main_arg0)) i) (reg (m ((c.tc : Thread nD τ).loc main_arg1)) i)) (reg (m ((c.tc : Thread nD τ).loc main_arg2)) i) h p d := by
  rw [res_eq]
  generalize m ((c.tc : Thread nD τ).loc main_arg0) = Q
  generalize m ((c.tc : Thread nD τ).loc main_arg1) = K
  generalize m ((c.tc : Thread nD τ).loc main_arg2) = V
  have hl : ∀ j, wL (wG Q) (wG K) (ix4 i h p j) = Cert.Win.rlg wsc (reg Q i) (reg K i) h p j := fun j => by
    rw [wL_at]
    simp only [wG_at]
    rfl
  have hm : wM (wR (wL (wG Q) (wG K))) (ix3 i h p) = max ⊥ (Finset.fold max ⊥ (Cert.Win.rlg wsc (reg Q i) (reg K i) h p) Finset.univ) := by
    rw [wM_at, wR_at, Cert.Consts.neg_inf]
    simp only [hl]
  have he : ∀ j, wE (wL (wG Q) (wG K)) (wM (wR (wL (wG Q) (wG K)))) (ix4 i h p j) = Cert.Win.rex (Cert.Win.rlg wsc (reg Q i) (reg K i) h p) j := fun j => by
    rw [wE_at, hl, hm]
    rfl
  rw [wT, wF_at, wO_at]
  simp only [wA_at, he, wG_at]
  rfl

end Cert.Reference3Ideal.Value
end
-- ==== Proof.WinSame.lean ====
module

public import proofs.«01_k».proof.Proof.WinPre
public import proofs.«01_k».proof.Proof.WinRun
public import proofs.«01_k».proof.Proof.WinRef

@[expose] public section

set_option maxRecDepth 16384

noncomputable section

namespace Cert.Win

open Idealize.ShloMosaic Idealize.ShloMosaic.TcCoe Idealize.SL.Sem
open Cert.Reference3Ideal Cert.Reference3Ideal.Gen
open Cert.Reference3Ideal.Value (pixY pixX chn)
open Cert.Kernel3Ideal.Value (pt pw pp win duo ATT)
open Cert.Bra (ch)

/-- A window of the kernel's grid point is the reference's. -/
theorem duo_reg (X : FVec Ideal S224x224x96 .f32) (t : Fin 392) (w : Fin 2) : duo X t w = Cert.Reference3Ideal.Value.reg X (win t w) := rfl

/-- The kernel's image and the reference's value at every pixel and channel are one. -/
theorem image_eq (Q K V : FVec Ideal S224x224x96 .f32) (hQ : ∀ i, ∃ r : ℝ, Q i = (r : EReal)) (hK : ∀ i, ∃ r : ℝ, K i = (r : EReal))
    (W : FVec Ideal S224x224x96 .f32)
    (hW : ∀ h i p d, W (ix3 (pixY i p) (pixX i p) (chn h d))
      = rvl (rlg Cert.Reference3Ideal.Value.wsc (Cert.Reference3Ideal.Value.reg Q i) (Cert.Reference3Ideal.Value.reg K i)) (Cert.Reference3Ideal.Value.reg V i) h p d) :
    W = ATT Q K V := by
  funext y
  idx_vars y
  have e0 : y0 = pixY (win (pt y0 y1) (pw y1)) (pp y0 y1) := Fin.ext (by
    show y0.val = ((y0.val / 8 * 14 + y1.val / 16) * 2 + y1.val % 16 / 8) / 28 * 8 + (y0.val % 8 * 8 + y1.val % 8) / 8
    omega)
  have e1 : y1 = pixX (win (pt y0 y1) (pw y1)) (pp y0 y1) := Fin.ext (by
    show y1.val = ((y0.val / 8 * 14 + y1.val / 16) * 2 + y1.val % 16 / 8) % 28 * 8 + (y0.val % 8 * 8 + y1.val % 8) % 8
    omega)
  have e2 : y2 = chn ⟨y2.val / 12, by omega⟩ ⟨y2.val % 12, by omega⟩ := Fin.ext (by
    show y2.val = y2.val / 12 * 12 + y2.val % 12
    omega)
  have hl := hW ⟨y2.val / 12, by omega⟩ (win (pt y0 y1) (pw y1)) (pp y0 y1) ⟨y2.val % 12, by omega⟩
  rw [← e0, ← e1, ← e2] at hl
  refine hl.trans (Eq.symm ?_)
  have ho := out_eq Cert.Reference3Ideal.Value.wsc (duo Q (pt y0 y1)) (duo K (pt y0 y1)) (duo V (pt y0 y1))
    Cert.Reference3Ideal.Value.wsc_real (fun w p a => hQ _) (fun w j a => hK _) (pw y1) ⟨y2.val / 12, by omega⟩ (pp y0 y1) ⟨y2.val % 12, by omega⟩
  have e3 : ch ⟨y2.val / 12, by omega⟩ ⟨y2.val % 12, by omega⟩ = y2 := e2.symm
  rw [e3] at ho
  exact ho

end Cert.Win
end
-- ==== Proof.lean ====
/- The proof of the claims of `Cert.Claim`. -/
module

public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite_masked
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_in_range
public import proofs.«01_k».proof.Proof.Gen.Pre_finite_in_range
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Frame
public import proofs.«01_k».proof.Proof.Gen.ReferenceIdeal.Run
public import proofs.«01_k».proof.Proof.Run
public import proofs.«01_k».proof.Proof.Same
public import proofs.«01_k».proof.Proof.BraBits
public import proofs.«01_k».proof.Proof.BraSame
public import proofs.«01_k».proof.Proof.WinSame
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference leaves its arguments as they were and every semaphore counter at zero. -/
theorem reference_frame : Cert.quiescent_ReferenceIdeal := by
  intro m g _
  exact (θ_run Cert.ReferenceIdeal.defs _ _).mono (fun r h => ⟨fun c => (h c).2.2.2.2.2.2.2, sem_eq_zero_of_no_sems (by decide) r.2⟩)
    (Cert.ReferenceIdeal.Value.run (F := Ideal) m g)

/-- The kernel's and the reference's results agree on finite data. -/
theorem same : Cert.algebraic_KernelIdeal_ReferenceIdeal_pre_finite := by
  pair_intro
  · run_from Cert.KernelIdeal.Value.run m g
  · run_from Cert.ReferenceIdeal.Value.run m' g'
    · refine Eq.trans (b := Cert.ReferenceIdeal.Value.chan (Cert.ReferenceIdeal.Value.rtok (StableHlo.launchContents m' c)) (StableHlo.launchContents m' c (Proc.devRef .tc Cert.ReferenceIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) ?_ ?_
      · rw [Cert.ReferenceIdeal.Value.v117_stage, Cert.ReferenceIdeal.Value.v110_stage, Cert.ReferenceIdeal.Value.v97_stage]
        rfl
      · exact same_out m m' hpre hagree c
    · exact (same_win m m' hagree c (fun A w b => Cert.ReferenceIdeal.Value.rqw (Cert.ReferenceIdeal.Value.rQ A w b))).trans (Cert.KernelIdeal.Value.same_qw _ _ _ _ _)
    · exact (same_win m m' hagree c (fun A w b => Cert.ReferenceIdeal.Value.rkw (Cert.ReferenceIdeal.Value.rQ A w b))).trans (Cert.KernelIdeal.Value.same_kw _ _ _ _ _)
    · exact (same_win m m' hagree c (fun A w b => Cert.ReferenceIdeal.Value.rvw (Cert.ReferenceIdeal.Value.rQ A w b))).trans (Cert.KernelIdeal.Value.same_vw _ _ _ _ _)
    · exact (same_bra m m' hagree c (fun A w b => Cert.ReferenceIdeal.Value.rqb (Cert.ReferenceIdeal.Value.rB A w b))).trans (Cert.KernelIdeal.Value.same_qb _ _ _ _ _)
    · exact (same_bra m m' hagree c (fun A w b => Cert.ReferenceIdeal.Value.rkb (Cert.ReferenceIdeal.Value.rB A w b))).trans (Cert.KernelIdeal.Value.same_kb _ _ _ _ _)
    · exact (same_bra m m' hagree c (fun A w b => Cert.ReferenceIdeal.Value.rvb (Cert.ReferenceIdeal.Value.rB A w b))).trans (Cert.KernelIdeal.Value.same_vb _ _ _ _ _)

/-- The regional attention runs and leaves its arguments as they were, every index a region's number. -/
theorem kernel2_frame : Cert.quiescent_Kernel2 := fun m g h => Cert.Kernel2.Gen.frame m g (Cert.Kernel2.Value.ok_of_pre m h)

/-- The regional attention over the reals runs and leaves its arguments as they were, every index a region's number. -/
theorem kernel2_ideal_frame : Cert.quiescent_Kernel2Ideal := fun m g h => Cert.Kernel2Ideal.Gen.frame m g (Cert.Kernel2Ideal.Value.ok_of_pre m h)

/-- The same under the precondition of the equality. -/
theorem kernel2_ideal_frame_finite : Cert.quiescent_Kernel2Ideal_pre_finite_in_range := fun m g h =>
  Cert.Kernel2Ideal.Gen.frame m g (Cert.Bra.ok_of_finite m h)

/-- The regional attention's reference leaves its arguments as they were and every semaphore counter at zero. -/
theorem reference2_frame : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

/-- The regional attention's and its reference's results agree on finite queries and keys and indices in range. -/
theorem same2 : Cert.algebraic_Kernel2Ideal_Reference2Ideal_pre_finite_in_range := by
  intro m g m' g' hpre hagree
  obtain ⟨N, hN⟩ := Cert.Bra.numbers _ (Cert.Bra.pre_split _ _ _ _ (hpre 0)).1
  refine ⟨fun c => Cert.Kernel2Ideal.Value.ATT (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) N,
    Cert.Kernel2Ideal.Value.run m g (Cert.Bra.ok_of_finite m hpre) N hN, ?_⟩
  refine (θ_run Cert.Reference2Ideal.defs _ _).mono (fun r h c => ⟨(h c).1.trans ?_, (h c).2⟩) (Cert.Reference2Ideal.Value.run (F := Ideal) m' g')
  obtain rfl : c = 0 := Subsingleton.elim _ _
  obtain ⟨-, hQ, hK⟩ := Cert.Bra.pre_split _ _ _ _ (hpre 0)
  obtain ⟨h0, h1, h2, h3⟩ := hagree 0
  refine Cert.Bra.image_eq _ _ _ N hQ hK _ fun h i p d => ?_
  have e := Cert.Reference2Ideal.Value.res_at m' 0 N (fun i u => (congrFun h3 _).trans (hN i u)) h i p d
  rw [h0, h1, h2] at e
  exact e

/-- The window attention's reference leaves its arguments as they were and every semaphore counter at zero. -/
theorem reference3_frame : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

/-- The window attention's and its reference's results agree on finite queries and keys, the mask zero within a window and `⊥` between two. -/
theorem same3 : Cert.algebraic_Kernel3Ideal_Reference3Ideal_pre_finite_masked := by
  intro m g m' g' hpre hagree
  refine ⟨fun c => Cert.Kernel3Ideal.Value.ATT (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    Cert.Kernel3Ideal.Value.run m g (fun c => (Cert.Win.pre_split _ _ _ _ (hpre c)).1), ?_⟩
  refine (θ_run Cert.Reference3Ideal.defs _ _).mono (fun r h c => ⟨(h c).1.trans ?_, (h c).2⟩) (Cert.Reference3Ideal.Value.run (F := Ideal) m' g')
  obtain ⟨-, hQ, hK⟩ := Cert.Win.pre_split _ _ _ _ (hpre c)
  obtain ⟨h0, h1, h2, h3⟩ := hagree c
  refine Cert.Win.image_eq _ _ _ hQ hK _ fun h i p d => ?_
  have e := Cert.Reference3Ideal.Value.res_at m' c h i p d
  rw [h0, h1, h2] at e
  exact e

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite.Gen.facts, Cert.Pre_in_range.Gen.facts, Cert.Pre_finite_in_range.Gen.facts, Cert.Pre_finite_masked.Gen.facts,
  fun m g _ => Cert.Kernel.Gen.frame m g, fun m g _ => Cert.KernelIdeal.Gen.frame m g, fun m g _ => Cert.KernelIdeal.Gen.frame m g,
  reference_frame, fun m g _ => reference_frame m g trivial,
  kernel2_frame, kernel2_ideal_frame, kernel2_ideal_frame_finite, reference2_frame, fun m g _ => reference2_frame m g trivial,
  fun m g _ => Cert.Kernel3.Gen.frame m g, fun m g _ => Cert.Kernel3Ideal.Gen.frame m g, fun m g _ => Cert.Kernel3Ideal.Gen.frame m g,
  reference3_frame, fun m g _ => reference3_frame m g trivial,
  IdealRules.named_const.statement Cert.KernelIdeal.κ "mask" .f32 0xF149F2CA#32 ⊥ rfl, same, trivial, same2, trivial, same3⟩

end Cert.Proof

end
